-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)) (v3 : (c : Dev Cert.KernelIdeal.nD) → Buf (Elt Ideal) ((c.tc : Thread Cert.KernelIdeal.nD Cert.KernelIdeal.τ).loc Cert.KernelIdeal.main_v68_3)) (v4 : (c : Dev Cert.KernelIdeal.nD) → Buf (Elt Ideal) ((c.tc : Thread Cert.KernelIdeal.nD Cert.KernelIdeal.τ).loc Cert.KernelIdeal.main_v68_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_v68_3) = v3 c
          ∧ r.2.mem ((c.tc : Thread Cert.KernelIdeal.nD Cert.KernelIdeal.τ).loc Cert.KernelIdeal.main_v68_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_v208) = v2 c
          ∧ r.2.mem ((c.tc : Thread Cert.ReferenceIdeal.nD Cert.ReferenceIdeal.τ).loc Cert.ReferenceIdeal.main_v168) = v3 c
          ∧ r.2.mem ((c.tc : Thread Cert.ReferenceIdeal.nD Cert.ReferenceIdeal.τ).loc Cert.ReferenceIdeal.main_v106) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v66) = v0 c
          ∧ r.2.mem ((c.tc : Thread Cert.Reference17Ideal.nD Cert.Reference17Ideal.τ).loc Cert.Reference17Ideal.main_v68) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite2 : Cert.Pre_finite2.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
-- ==== Pre_finite.lean ====
abbrev S2048x1024 : Shape := ⟨2, ![2048, 1024]⟩
abbrev S16x64x576 : Shape := ⟨3, ![16, 64, 576]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S16x64x576 : S_.BroadcastsInDim S16x64x576 (![] : Fin 0 → Fin S16x64x576.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S2048x1024 .f32) (main_arg3 : FVec F S16x64x576 .f32) (main_arg4 : FVec F S1x1024 .f32) (main_arg5 : FVec F S2048x1024 .f32) : IVec S2048x1024 1 × IVec S2048x1024 1 × IVec S2048x1024 1 × IVec S16x64x576 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S16x64x576 .f32 := Host.absf main_arg3
  let main_cst_2 : FVec F S_ .f32 := constant S_ .f32 0x7F800000#32
  let main_v10 : FVec F S16x64x576 .f32 := broadcastInDim S16x64x576 ![] bcast_S_S16x64x576 main_cst_2
  let main_v11 : IVec S16x64x576 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== Pre_finite17.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S2048x2048 .f32) (main_arg3 : FVec F S1x2048 .f32) : IVec S2048x2048 1 × IVec S2048x2048 1 × IVec S1x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg2
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg3
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Pre_finite2.lean ====
abbrev S2048x2048 : Shape := ⟨2, ![2048, 2048]⟩
abbrev S1x5632x2048 : Shape := ⟨3, ![1, 5632, 2048]⟩
abbrev S2048x5632 : Shape := ⟨2, ![2048, 5632]⟩
abbrev S_ : Shape := ⟨0, ![]⟩

class Facts : Prop where
  bcast_S_S2048x2048 : S_.BroadcastsInDim S2048x2048 (![] : Fin 0 → Fin S2048x2048.rank)
  bcast_S_S1x5632x2048 : S_.BroadcastsInDim S1x5632x2048 (![] : Fin 0 → Fin S1x5632x2048.rank)
  bcast_S_S2048x5632 : S_.BroadcastsInDim S2048x5632 (![] : Fin 0 → Fin S2048x5632.rank)

variable [Facts]

def fn {F : FTy → Type} [FloatOps F] (main_arg0 : FVec F S2048x2048 .bf16) (main_arg1 : FVec F S1x5632x2048 .bf16) (main_arg2 : FVec F S2048x5632 .bf16) (main_arg3 : FVec F S2048x5632 .bf16) : IVec S2048x2048 1 × IVec S1x5632x2048 1 × IVec S2048x5632 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S1x5632x2048 .bf16 := Host.absf main_arg1
  let main_cst_0 : FVec F S_ .bf16 := constant S_ .bf16 0x7F80#16
  let main_v4 : FVec F S1x5632x2048 .bf16 := broadcastInDim S1x5632x2048 ![] bcast_S_S1x5632x2048 main_cst_0
  let main_v5 : IVec S1x5632x2048 1 := cmpf .olt main_v3 main_v4
  let main_v6 : FVec F S2048x5632 .bf16 := Host.absf main_arg3
  let main_cst_1 : FVec F S_ .bf16 := constant S_ .bf16 0x7F80#16
  let main_v7 : FVec F S2048x5632 .bf16 := broadcastInDim S2048x5632 ![] bcast_S_S2048x5632 main_cst_1
  let main_v8 : IVec S2048x5632 1 := cmpf .olt main_v6 main_v7
  (main_v2, main_v5, main_v8)
-- ==== Kernel.lean ====
abbrev S2048x1024 : Shape := ⟨2, ![2048, 1024]⟩
abbrev S16x64x576 : Shape := ⟨3, ![16, 64, 576]⟩
abbrev S1x1024 : Shape := ⟨2, ![1, 1024]⟩
abbrev S2048x3072 : Shape := ⟨2, ![2048, 3072]⟩
abbrev S_ : Shape := ⟨0, ![]⟩
abbrev S3072x3072 : Shape := ⟨2, ![3072, 3072]⟩
abbrev S2048x16x64 : Shape := ⟨3, ![2048, 16, 64]⟩
abbrev S512x16x64 : Shape := ⟨3, ![512, 16, 64]⟩
abbrev S2560x16x64 : Shape := ⟨3, ![2560, 16, 64]⟩
abbrev S40x64x16x64 : Shape := ⟨4, ![40, 64, 16, 64]⟩
abbrev S32x64x16x64 : Shape := ⟨4, ![32, 64, 16, 64]⟩
abbrev S32x576x16x64 : Shape := ⟨4, ![32, 576, 16, 64]⟩
abbrev S32x16x64x576 : Shape := ⟨4, ![32, 16, 64, 576]⟩
abbrev S1x16x64x576 : Shape := ⟨4, ![1, 16, 64, 576]⟩
abbrev S32 : Shape := ⟨1, ![32]⟩
abbrev S32x1x1x1 : Shape := ⟨4, ![32, 1, 1, 1]⟩
abbrev S576 : Shape := ⟨1, ![576]⟩
abbrev S1x1x1x576 : Shape := ⟨4, ![1, 1, 1, 576]⟩
abbrev S32x1x1x576 : Shape := ⟨4, ![32, 1, 1, 576]⟩
abbrev S32x16x64 : Shape := ⟨3, ![32, 16, 64]⟩
abbrev S32x16x64x1 : Shape := ⟨4, ![32, 16, 64, 1]⟩
abbrev S8x4x16x64x576 : Shape := ⟨5, ![8, 4, 16, 64, 576]⟩
abbrev S8x1x16x64x576 : Shape := ⟨5, ![8, 1, 16, 64, 576]⟩
abbrev S8x16x64x576 : Shape := ⟨4, ![8, 16, 64, 576]⟩
abbrev S8x16x64x768 : Shape := ⟨4, ![8, 16, 64, 768]⟩
abbrev S8x16x1x64x768 : Shape := ⟨5, ![8, 16, 1, 64, 768]⟩
abbrev S8x16x4x64x768 : Shape := ⟨5, ![8, 16, 4, 64, 768]⟩
abbrev S16x8x4x64x768 : Shape := ⟨5, ![16, 8, 4, 64, 768]⟩
abbrev S16x2048x768 : Shape := ⟨3, ![16, 2048, 768]⟩
abbrev S256x128 : Shape := ⟨2, ![256, 128]⟩
abbrev S3072x128 : Shape := ⟨2, ![3072, 128]⟩
abbrev S2x256x768 : Shape := ⟨3, ![2, 256, 768]⟩
abbrev S1x128 : Shape := ⟨2, ![1, 128]⟩
abbrev S2048x128 : Shape := ⟨2, ![2048, 128]⟩
abbrev S2x64x576 : Shape := ⟨3, ![2, 64, 576]⟩
abbrev S2560x128 : Shape := ⟨2, ![2560, 128]⟩
abbrev S1x256x768 : Shape := ⟨3, ![1, 256, 768]⟩
abbrev S256x768 : Shape := ⟨2, ![256, 768]⟩
abbrev S768x64 : Shape := ⟨2, ![768, 64]⟩
abbrev S256x64 : Shape := ⟨2, ![256, 64]⟩
abbrev S256 : Shape := ⟨1, ![256]⟩
abbrev S256x1 : Shape := ⟨2, ![256, 1]⟩
abbrev S1x64 : Shape := ⟨2, ![1, 64]⟩
abbrev S64 : Shape := ⟨1, ![64]⟩
abbrev S1x64x576 : Shape := ⟨3, ![1, 64, 576]⟩
abbrev S64x576 : Shape := ⟨2, ![64, 576]⟩

abbrev nBuf : Space → Nat
  | .hbm => 100
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x64x576, .f32⟩
  | .hbm, ⟨4, _⟩ => ⟨S1x1024, .f32⟩
  | .hbm, ⟨5, _⟩ => ⟨S2048x1024, .f32⟩
  | .hbm, ⟨6, _⟩ => ⟨S2048x3072, .f32⟩
  | .hbm, ⟨7, _⟩ => ⟨S_, .i32⟩
  | .hbm, ⟨8, _⟩ => ⟨S_, .f32⟩
  | .hbm, ⟨9, _⟩ => ⟨S3072x3072, .f32⟩
  | .hbm, ⟨10, _⟩ => ⟨S3072x3072, .bf16⟩
  | .hbm, ⟨11, _⟩ => ⟨S2048x16x64, .f32⟩
  | .hbm, ⟨12, _⟩ => ⟨S_, .f32⟩
  | .hbm, ⟨13, _⟩ => ⟨S512x16x64, .f32⟩
  | .hbm, ⟨14, _⟩ => ⟨S2560x16x64, .f32⟩
  | .hbm, ⟨15, _⟩ => ⟨S40x64x16x64, .f32⟩
  | .hbm, ⟨16, _⟩ => ⟨S32x64x16x64, .f32⟩
  | .hbm, ⟨17, _⟩ => ⟨S32x64x16x64, .f32⟩
  | .hbm, ⟨18, _⟩ => ⟨S32x64x16x64, .f32⟩
  | .hbm, ⟨19, _⟩ => ⟨S32x64x16x64, .f32⟩
  | .hbm, ⟨20, _⟩ => ⟨S32x64x16x64, .f32⟩
  | .hbm, ⟨21, _⟩ => ⟨S32x64x16x64, .f32⟩
  | .hbm, ⟨22, _⟩ => ⟨S32x64x16x64, .f32⟩
  | .hbm, ⟨23, _⟩ => ⟨S32x64x16x64, .f32⟩
  | .hbm, ⟨24, _⟩ => ⟨S32x64x16x64, .f32⟩
  | .hbm, ⟨25, _⟩ => ⟨S32x576x16x64, .f32⟩
  | .hbm, ⟨26, _⟩ => ⟨S32x64x16x64, .f32⟩
  | .hbm, ⟨27, _⟩ => ⟨S32x16x64x576, .f32⟩
  | .hbm, ⟨28, _⟩ => ⟨S_, .f32⟩
  | .hbm, ⟨29, _⟩ => ⟨S32x16x64x576, .f32⟩
  | .hbm, ⟨30, _⟩ => ⟨S32x16x64x576, .f32⟩
  | .hbm, ⟨31, _⟩ => ⟨S1x16x64x576, .f32⟩
  | .hbm, ⟨32, _⟩ => ⟨S32x16x64x576, .f32⟩
  | .hbm, ⟨33, _⟩ => ⟨S32x16x64x576, .f32⟩
  | .hbm, ⟨34, _⟩ => ⟨S32, .i32⟩
  | .hbm, ⟨35, _⟩ => ⟨S32x1x1x1, .i32⟩
  | .hbm, ⟨36, _⟩ => ⟨S576, .i32⟩
  | .hbm, ⟨37, _⟩ => ⟨S_, .i32⟩
  | .hbm, ⟨38, _⟩ => ⟨S32x1x1x1, .i32⟩
  | .hbm, ⟨39, _⟩ => ⟨S32x1x1x1, .i32⟩
  | .hbm, ⟨40, _⟩ => ⟨S_, .i32⟩
  | .hbm, ⟨41, _⟩ => ⟨S32x1x1x1, .i32⟩
  | .hbm, ⟨42, _⟩ => ⟨S32x1x1x1, .i32⟩
  | .hbm, ⟨43, _⟩ => ⟨S1x1x1x576, .i32⟩
  | .hbm, ⟨44, _⟩ => ⟨S32x1x1x576, .i32⟩
  | .hbm, ⟨45, _⟩ => ⟨S32x1x1x576, .i32⟩
  | .hbm, ⟨46, _⟩ => ⟨S32x1x1x576, .i1⟩
  | .hbm, ⟨47, _⟩ => ⟨S_, .f32⟩
  | .hbm, ⟨48, _⟩ => ⟨S_, .f32⟩
  | .hbm, ⟨49, _⟩ => ⟨S32x16x64x576, .i1⟩
  | .hbm, ⟨50, _⟩ => ⟨S32x16x64x576, .f32⟩
  | .hbm, ⟨51, _⟩ => ⟨S32x16x64x576, .f32⟩
  | .hbm, ⟨52, _⟩ => ⟨S_, .f32⟩
  | .hbm, ⟨53, _⟩ => ⟨S32x16x64, .f32⟩
  | .hbm, ⟨54, _⟩ => ⟨S_, .f32⟩
  | .hbm, ⟨55, _⟩ => ⟨S32x16x64, .f32⟩
  | .hbm, ⟨56, _⟩ => ⟨S32x16x64, .f32⟩
  | .hbm, ⟨57, _⟩ => ⟨S32x16x64x1, .f32⟩
  | .hbm, ⟨58, _⟩ => ⟨S32x16x64x576, .f32⟩
  | .hbm, ⟨59, _⟩ => ⟨S32x16x64x576, .f32⟩
  | .hbm, ⟨60, _⟩ => ⟨S32x16x64x576, .f32⟩
  | .hbm, ⟨61, _⟩ => ⟨S_, .f32⟩
  | .hbm, ⟨62, _⟩ => ⟨S32x16x64, .f32⟩
  | .hbm, ⟨63, _⟩ => ⟨S32x16x64x1, .f32⟩
  | .hbm, ⟨64, _⟩ => ⟨S32x16x64x576, .f32⟩
  | .hbm, ⟨65, _⟩ => ⟨S32x16x64x576, .f32⟩
  | .hbm, ⟨66, _⟩ => ⟨S8x4x16x64x576, .f32⟩
  | .hbm, ⟨67, _⟩ => ⟨S8x1x16x64x576, .f32⟩
  | .hbm, ⟨68, _⟩ => ⟨S8x16x64x576, .f32⟩
  | .hbm, ⟨69, _⟩ => ⟨S_, .i32⟩
  | .hbm, ⟨70, _⟩ => ⟨S_, .f32⟩
  | .hbm, ⟨71, _⟩ => ⟨S8x16x64x768, .f32⟩
  | .hbm, ⟨72, _⟩ => ⟨S8x1x16x64x576, .f32⟩
  | .hbm, ⟨73, _⟩ => ⟨S8x16x64x576, .f32⟩
  | .hbm, ⟨74, _⟩ => ⟨S_, .i32⟩
  | .hbm, ⟨75, _⟩ => ⟨S_, .f32⟩
  | .hbm, ⟨76, _⟩ => ⟨S8x16x64x768, .f32⟩
  | .hbm, ⟨77, _⟩ => ⟨S8x1x16x64x576, .f32⟩
  | .hbm, ⟨78, _⟩ => ⟨S8x16x64x576, .f32⟩
  | .hbm, ⟨79, _⟩ => ⟨S_, .i32⟩
  | .hbm, ⟨80, _⟩ => ⟨S_, .f32⟩
  | .hbm, ⟨81, _⟩ => ⟨S8x16x64x768, .f32⟩
  | .hbm, ⟨82, _⟩ => ⟨S8x1x16x64x576, .f32⟩
  | .hbm, ⟨83, _⟩ => ⟨S8x16x64x576, .f32⟩
  | .hbm, ⟨84, _⟩ => ⟨S_, .i32⟩
  | .hbm, ⟨85, _⟩ => ⟨S_, .f32⟩
  | .hbm, ⟨86, _⟩ => ⟨S8x16x64x768, .f32⟩
  | .hbm, ⟨87, _⟩ => ⟨S8x16x1x64x768, .f32⟩
  | .hbm, ⟨88, _⟩ => ⟨S8x16x1x64x768, .f32⟩
  | .hbm, ⟨89, _⟩ => ⟨S8x16x1x64x768, .f32⟩
  | .hbm, ⟨90, _⟩ => ⟨S8x16x1x64x768, .f32⟩
  | .hbm, ⟨91, _⟩ => ⟨S8x16x4x64x768, .f32⟩
  | .hbm, ⟨92, _⟩ => ⟨S16x8x4x64x768, .f32⟩
  | .hbm, ⟨93, _⟩ => ⟨S16x2048x768, .f32⟩
  | .hbm, ⟨94, _⟩ => ⟨S16x2048x768, .bf16⟩
  | .hbm, ⟨95, _⟩ => ⟨S2048x1024, .bf16⟩
  | .hbm, ⟨96, _⟩ => ⟨S2048x1024, .bf16⟩
  | .hbm, ⟨97, _⟩ => ⟨S2048x1024, .bf16⟩
  | .hbm, ⟨98, _⟩ => ⟨S16x64x576, .f32⟩
  | .hbm, ⟨99, _⟩ => ⟨S1x1024, .f32⟩
  | .local _ .vmem, ⟨0, _⟩ => ⟨S256x128, .bf16⟩
  | .local _ .vmem, ⟨1, _⟩ => ⟨S256x128, .bf16⟩
  | .local _ .vmem, ⟨2, _⟩ => ⟨S3072x128, .bf16⟩
  | .local _ .vmem, ⟨3, _⟩ => ⟨S3072x128, .bf16⟩
  | .local _ .vmem, ⟨4, _⟩ => ⟨S3072x128, .bf16⟩
  | .local _ .vmem, ⟨5, _⟩ => ⟨S3072x128, .bf16⟩
  | .local _ .vmem, ⟨6, _⟩ => ⟨S2x256x768, .bf16⟩
  | .local _ .vmem, ⟨7, _⟩ => ⟨S2x256x768, .bf16⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .bf16⟩
  | .local _ .vmem, ⟨13, _⟩ => ⟨S256x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2x64x576, .f32⟩
  | .local _ .vmem, ⟨19, _⟩ => ⟨S2x64x576, .f32⟩
  | .local _ .vmem, ⟨20, _⟩ => ⟨S1x128, .f32⟩
  | .local _ .vmem, ⟨21, _⟩ => ⟨S1x128, .f32⟩
  | .local _ .vmem, ⟨22, _⟩ => ⟨S2x256x768, .f32⟩
  | .local _ .vmem, ⟨23, _⟩ => ⟨S2560x128, .f32⟩
  | .local _ .vmem, ⟨24, _⟩ => ⟨S2560x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_call2_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_call3_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_call4_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_call5_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68_0 : Ref sig .tc := ⟨.hbm, 95, rfl⟩
abbrev main_v68_1 : Ref sig .tc := ⟨.hbm, 96, rfl⟩
abbrev main_v68_2 : Ref sig .tc := ⟨.hbm, 97, rfl⟩
abbrev main_v68_3 : Ref sig .tc := ⟨.hbm, 98, rfl⟩
abbrev main_v68_4 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let c1024_i32 : BitVec 32 := 1024#32
  let v5 : BitVec 32 := Scalar.addi v4 c1024_i32
  let c512_i32 : BitVec 32 := 512#32
  let v6 : BitVec 32 := Scalar.subi v5 c512_i32
  let v10 : Index := Scalar.indexCast v6
  let c0_3 : Index := 0#32
  ![v10.toNat, 0]
def k0_off2 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v68 : Index := Scalar.indexCast v4
  let c0_31 : Index := 0#32
  ![v68.toNat, 0]
def k0_mult2 (i : grid0.Coords) : BitVec 32 :=
  let arg1 : BitVec 32 := BitVec.ofNat 32 (i 1).val
  let c256_i32_40 : BitVec 32 := 256#32
  let v88 : BitVec 32 := Scalar.muli arg1 c256_i32_40
  v88
def k0_off3 (i : grid0.Coords) : Fin 2 → Nat :=
  let arg1 : BitVec 32 := BitVec.ofNat 32 (i 1).val
  let c256_i32_40 : BitVec 32 := 256#32
  let v88 : BitVec 32 := Scalar.muli arg1 c256_i32_40
  let v89 : BitVec 32 := v88
  let c1024_i32_41 : BitVec 32 := 1024#32
  let v90 : BitVec 32 := Scalar.addi v89 c1024_i32_41
  let c512_i32_42 : BitVec 32 := 512#32
  let v91 : BitVec 32 := Scalar.subi v90 c512_i32_42
  let v95 : Index := Scalar.indexCast v91
  let c64 : Index := 64#32
  ![v95.toNat, 64]
def k0_off4 (i : grid0.Coords) : Fin 2 → Nat :=
  let arg1 : BitVec 32 := BitVec.ofNat 32 (i 1).val
  let c256_i32_40 : BitVec 32 := 256#32
  let v88 : BitVec 32 := Scalar.muli arg1 c256_i32_40
  let v89 : BitVec 32 := v88
  let v153 : Index := Scalar.indexCast v89
  let c64_73 : Index := 64#32
  ![v153.toNat, 64]
def k0_cond2 (i : grid0.Coords) : BitVec 1 :=
  let arg1 : BitVec 32 := BitVec.ofNat 32 (i 1).val
  let c7_i32 : BitVec 32 := 7#32
  let v173 : BitVec 1 := Scalar.cmpi .eq arg1 c7_i32
  let v174 : BitVec 32 := Scalar.extui v173
  let c0_i32_82 : BitVec 32 := 0#32
  let v175 : BitVec 1 := Scalar.cmpi .ne v174 c0_i32_82
  v175

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3072x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x64x576 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S2048x1024 : Shape := ⟨2, ![2048, 1024]⟩
abbrev S16x64x576 : Shape := ⟨3, ![16, 64, 576]⟩
abbrev S1x1024 : Shape := ⟨2, ![1, 1024]⟩
abbrev S2048x16x64 : Shape := ⟨3, ![2048, 16, 64]⟩
abbrev S_ : Shape := ⟨0, ![]⟩
abbrev S512x16x64 : Shape := ⟨3, ![512, 16, 64]⟩
abbrev S2560x16x64 : Shape := ⟨3, ![2560, 16, 64]⟩
abbrev S40x64x16x64 : Shape := ⟨4, ![40, 64, 16, 64]⟩
abbrev S32x64x16x64 : Shape := ⟨4, ![32, 64, 16, 64]⟩
abbrev S32x576x16x64 : Shape := ⟨4, ![32, 576, 16, 64]⟩
abbrev S32x16x64x576 : Shape := ⟨4, ![32, 16, 64, 576]⟩
abbrev S1x16x64x576 : Shape := ⟨4, ![1, 16, 64, 576]⟩
abbrev S32 : Shape := ⟨1, ![32]⟩
abbrev S32x1x1x1 : Shape := ⟨4, ![32, 1, 1, 1]⟩
abbrev S576 : Shape := ⟨1, ![576]⟩
abbrev S1x1x1x576 : Shape := ⟨4, ![1, 1, 1, 576]⟩
abbrev S32x1x1x576 : Shape := ⟨4, ![32, 1, 1, 576]⟩
abbrev S32x16x64 : Shape := ⟨3, ![32, 16, 64]⟩
abbrev S32x16x64x1 : Shape := ⟨4, ![32, 16, 64, 1]⟩
abbrev S32x16x64x64 : Shape := ⟨4, ![32, 16, 64, 64]⟩
abbrev S32x64x16 : Shape := ⟨3, ![32, 64, 16]⟩
abbrev S32x64x16x1 : Shape := ⟨4, ![32, 64, 16, 1]⟩
abbrev S16x64 : Shape := ⟨2, ![16, 64]⟩
abbrev S1x1x16x64 : Shape := ⟨4, ![1, 1, 16, 64]⟩
abbrev S32x16x576x64 : Shape := ⟨4, ![32, 16, 576, 64]⟩

abbrev nBuf : Space → Nat
  | .hbm => 273
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S16x64x576, .f32⟩
  | 4 => ⟨S1x1024, .f32⟩
  | 5 => ⟨S2048x1024, .f32⟩
  | 6 => ⟨S2048x16x64, .f32⟩
  | 7 => ⟨S_, .f32⟩
  | 8 => ⟨S512x16x64, .f32⟩
  | 9 => ⟨S2560x16x64, .f32⟩
  | 10 => ⟨S_, .f32⟩
  | 11 => ⟨S512x16x64, .f32⟩
  | 12 => ⟨S40x64x16x64, .f32⟩
  | 13 => ⟨S32x64x16x64, .f32⟩
  | 14 => ⟨S32x64x16x64, .f32⟩
  | 15 => ⟨S32x64x16x64, .f32⟩
  | 16 => ⟨S32x64x16x64, .f32⟩
  | 17 => ⟨S32x64x16x64, .f32⟩
  | 18 => ⟨S32x64x16x64, .f32⟩
  | 19 => ⟨S32x64x16x64, .f32⟩
  | 20 => ⟨S32x64x16x64, .f32⟩
  | 21 => ⟨S32x64x16x64, .f32⟩
  | 22 => ⟨S32x576x16x64, .f32⟩
  | 23 => ⟨S32x64x16x64, .f32⟩
  | 24 => ⟨S32x16x64x576, .f32⟩
  | 25 => ⟨S_, .f32⟩
  | 26 => ⟨S32x16x64x576, .f32⟩
  | 27 => ⟨S32x16x64x576, .f32⟩
  | 28 => ⟨S1x16x64x576, .f32⟩
  | 29 => ⟨S32x16x64x576, .f32⟩
  | 30 => ⟨S32x16x64x576, .f32⟩
  | 31 => ⟨S32, .i32⟩
  | 32 => ⟨S32x1x1x1, .i32⟩
  | 33 => ⟨S576, .i32⟩
  | 34 => ⟨S_, .i32⟩
  | 35 => ⟨S32x1x1x1, .i32⟩
  | 36 => ⟨S32x1x1x1, .i32⟩
  | 37 => ⟨S_, .i32⟩
  | 38 => ⟨S32x1x1x1, .i32⟩
  | 39 => ⟨S32x1x1x1, .i32⟩
  | 40 => ⟨S1x1x1x576, .i32⟩
  | 41 => ⟨S32x1x1x576, .i32⟩
  | 42 => ⟨S32x1x1x576, .i32⟩
  | 43 => ⟨S32x1x1x576, .i1⟩
  | 44 => ⟨S_, .f32⟩
  | 45 => ⟨S_, .f32⟩
  | 46 => ⟨S32x16x64x576, .i1⟩
  | 47 => ⟨S32x16x64x576, .f32⟩
  | 48 => ⟨S32x16x64x576, .f32⟩
  | 49 => ⟨S_, .f32⟩
  | 50 => ⟨S32x16x64x576, .f32⟩
  | 51 => ⟨S_, .f32⟩
  | 52 => ⟨S32x16x64, .f32⟩
  | 53 => ⟨S32x16x64x1, .f32⟩
  | 54 => ⟨S32x16x64x576, .f32⟩
  | 55 => ⟨S32x16x64x576, .i1⟩
  | 56 => ⟨S32x16x64x576, .f32⟩
  | 57 => ⟨S_, .f32⟩
  | 58 => ⟨S32x16x64, .f32⟩
  | 59 => ⟨S_, .f32⟩
  | 60 => ⟨S32x16x64, .f32⟩
  | 61 => ⟨S32x16x64, .f32⟩
  | 62 => ⟨S_, .f32⟩
  | 63 => ⟨S32x16x64, .f32⟩
  | 64 => ⟨S32x16x64, .i1⟩
  | 65 => ⟨S_, .f32⟩
  | 66 => ⟨S32x16x64, .f32⟩
  | 67 => ⟨S32x16x64, .i1⟩
  | 68 => ⟨S_, .f32⟩
  | 69 => ⟨S32x16x64, .f32⟩
  | 70 => ⟨S_, .f32⟩
  | 71 => ⟨S32x16x64, .f32⟩
  | 72 => ⟨S_, .f32⟩
  | 73 => ⟨S32x16x64, .f32⟩
  | 74 => ⟨S32x16x64, .f32⟩
  | 75 => ⟨S32x16x64, .f32⟩
  | 76 => ⟨S32x16x64x1, .f32⟩
  | 77 => ⟨S32x16x64x576, .f32⟩
  | 78 => ⟨S32x16x64x576, .f32⟩
  | 79 => ⟨S32x16x64x576, .f32⟩
  | 80 => ⟨S_, .f32⟩
  | 81 => ⟨S32x16x64, .f32⟩
  | 82 => ⟨S32x16x64x1, .f32⟩
  | 83 => ⟨S32x16x64x576, .f32⟩
  | 84 => ⟨S32x16x64x576, .f32⟩
  | 85 => ⟨S32x16x64x1, .f32⟩
  | 86 => ⟨S_, .f32⟩
  | 87 => ⟨S32x16x64x1, .f32⟩
  | 88 => ⟨S32x16x64x1, .f32⟩
  | 89 => ⟨S2048x16x64, .f32⟩
  | 90 => ⟨S_, .f32⟩
  | 91 => ⟨S512x16x64, .f32⟩
  | 92 => ⟨S2560x16x64, .f32⟩
  | 93 => ⟨S_, .f32⟩
  | 94 => ⟨S512x16x64, .f32⟩
  | 95 => ⟨S40x64x16x64, .f32⟩
  | 96 => ⟨S32x64x16x64, .f32⟩
  | 97 => ⟨S32x64x16x64, .f32⟩
  | 98 => ⟨S32x64x16x64, .f32⟩
  | 99 => ⟨S32x64x16x64, .f32⟩
  | 100 => ⟨S32x64x16x64, .f32⟩
  | 101 => ⟨S32x64x16x64, .f32⟩
  | 102 => ⟨S32x64x16x64, .f32⟩
  | 103 => ⟨S32x64x16x64, .f32⟩
  | 104 => ⟨S32x64x16x64, .f32⟩
  | 105 => ⟨S32x576x16x64, .f32⟩
  | 106 => ⟨S32x16x64x64, .f32⟩
  | 107 => ⟨S32x64x16x64, .f32⟩
  | 108 => ⟨S32x64x16x64, .f32⟩
  | 109 => ⟨S_, .f32⟩
  | 110 => ⟨S32x64x16x64, .f32⟩
  | 111 => ⟨S32x64x16x64, .f32⟩
  | 112 => ⟨S_, .f32⟩
  | 113 => ⟨S32x64x16, .f32⟩
  | 114 => ⟨S32x64x16x1, .f32⟩
  | 115 => ⟨S_, .f32⟩
  | 116 => ⟨S32x64x16x1, .f32⟩
  | 117 => ⟨S32x64x16x1, .f32⟩
  | 118 => ⟨S_, .f32⟩
  | 119 => ⟨S32x64x16x1, .f32⟩
  | 120 => ⟨S32x64x16x1, .f32⟩
  | 121 => ⟨S32x64x16x1, .f32⟩
  | 122 => ⟨S32x64x16x1, .f32⟩
  | 123 => ⟨S_, .f32⟩
  | 124 => ⟨S32x64x16x1, .f32⟩
  | 125 => ⟨S32x64x16x1, .f32⟩
  | 126 => ⟨S32x64x16x64, .f32⟩
  | 127 => ⟨S32x64x16x64, .f32⟩
  | _ => ⟨S2048x1024, .f32⟩

abbrev hbmTy0_1 (i : Nat) : BufTy := match i % 128 with
  | 0 => ⟨S16x64, .f32⟩
  | 1 => ⟨S1x1x16x64, .f32⟩
  | 2 => ⟨S32x64x16x64, .f32⟩
  | 3 => ⟨S32x64x16x64, .f32⟩
  | 4 => ⟨S2048x1024, .f32⟩
  | 5 => ⟨S32x64x16x64, .f32⟩
  | 6 => ⟨S32x64x16x64, .f32⟩
  | 7 => ⟨S_, .f32⟩
  | 8 => ⟨S16x64, .f32⟩
  | 9 => ⟨S1x1x16x64, .f32⟩
  | 10 => ⟨S32x64x16x64, .f32⟩
  | 11 => ⟨S32x64x16x64, .f32⟩
  | 12 => ⟨S_, .f32⟩
  | 13 => ⟨S16x64, .f32⟩
  | 14 => ⟨S1x1024, .f32⟩
  | 15 => ⟨S32x64x16x64, .f32⟩
  | 16 => ⟨S_, .f32⟩
  | 17 => ⟨S32x64x16, .f32⟩
  | 18 => ⟨S32x64x16x1, .f32⟩
  | 19 => ⟨S32x64x16x64, .f32⟩
  | 20 => ⟨S32x64x16x64, .f32⟩
  | 21 => ⟨S32x64x16x1, .f32⟩
  | 22 => ⟨S_, .f32⟩
  | 23 => ⟨S32x64x16x1, .f32⟩
  | 24 => ⟨S32x64x16x1, .f32⟩
  | 25 => ⟨S_, .f32⟩
  | 26 => ⟨S32x64x16, .f32⟩
  | 27 => ⟨S32x64x16x64, .f32⟩
  | 28 => ⟨S32x64x16x64, .f32⟩
  | 29 => ⟨S32x64x16x64, .f32⟩
  | 30 => ⟨S32x16x64x64, .f32⟩
  | 31 => ⟨S32x16x64x576, .f32⟩
  | 32 => ⟨S32x16x64x576, .f32⟩
  | 33 => ⟨S32x576x16x64, .f32⟩
  | 34 => ⟨S32x64x16x64, .f32⟩
  | 35 => ⟨S32x64x16x64, .f32⟩
  | 36 => ⟨S32x64x16x64, .f32⟩
  | 37 => ⟨S32x64x16x64, .f32⟩
  | 38 => ⟨S32x64x16x64, .f32⟩
  | 39 => ⟨S32x64x16x64, .f32⟩
  | 40 => ⟨S32x64x16x64, .f32⟩
  | 41 => ⟨S32x64x16x64, .f32⟩
  | 42 => ⟨S32x64x16x64, .f32⟩
  | 43 => ⟨S_, .f32⟩
  | 44 => ⟨S40x64x16x64, .f32⟩
  | 45 => ⟨S_, .f32⟩
  | 46 => ⟨S40x64x16x64, .f32⟩
  | 47 => ⟨S40x64x16x64, .f32⟩
  | 48 => ⟨S_, .f32⟩
  | 49 => ⟨S40x64x16x64, .f32⟩
  | 50 => ⟨S40x64x16x64, .f32⟩
  | 51 => ⟨S_, .f32⟩
  | 52 => ⟨S40x64x16x64, .f32⟩
  | 53 => ⟨S40x64x16x64, .f32⟩
  | 54 => ⟨S_, .f32⟩
  | 55 => ⟨S40x64x16x64, .f32⟩
  | 56 => ⟨S40x64x16x64, .f32⟩
  | 57 => ⟨S_, .f32⟩
  | 58 => ⟨S40x64x16x64, .f32⟩
  | 59 => ⟨S40x64x16x64, .f32⟩
  | 60 => ⟨S_, .f32⟩
  | 61 => ⟨S40x64x16x64, .f32⟩
  | 62 => ⟨S40x64x16x64, .f32⟩
  | 63 => ⟨S_, .f32⟩
  | 64 => ⟨S40x64x16x64, .f32⟩
  | 65 => ⟨S40x64x16x64, .f32⟩
  | 66 => ⟨S_, .f32⟩
  | 67 => ⟨S40x64x16x64, .f32⟩
  | 68 => ⟨S40x64x16x64, .f32⟩
  | 69 => ⟨S2560x16x64, .f32⟩
  | 70 => ⟨S512x16x64, .f32⟩
  | 71 => ⟨S2048x16x64, .f32⟩
  | 72 => ⟨S2048x1024, .f32⟩
  | 73 => ⟨S32x16x64x576, .f32⟩
  | 74 => ⟨S32x16x64x576, .f32⟩
  | 75 => ⟨S32x16x64x576, .f32⟩
  | 76 => ⟨S_, .f32⟩
  | 77 => ⟨S32x16x64, .f32⟩
  | 78 => ⟨S32x16x64x1, .f32⟩
  | 79 => ⟨S32x16x64x1, .f32⟩
  | 80 => ⟨S32x16x64x576, .f32⟩
  | 81 => ⟨S32x16x64x576, .f32⟩
  | 82 => ⟨S_, .f32⟩
  | 83 => ⟨S32x16x64, .f32⟩
  | 84 => ⟨S32x16x64x576, .f32⟩
  | 85 => ⟨S32x16x64x576, .f32⟩
  | 86 => ⟨S32x16x64x576, .f32⟩
  | 87 => ⟨S_, .f32⟩
  | 88 => ⟨S32x16x64x576, .f32⟩
  | 89 => ⟨S32x16x64x576, .f32⟩
  | 90 => ⟨S_, .f32⟩
  | 91 => ⟨S16x64x576, .f32⟩
  | 92 => ⟨S1x16x64x576, .f32⟩
  | 93 => ⟨S_, .f32⟩
  | 94 => ⟨S16x64x576, .f32⟩
  | 95 => ⟨S_, .f32⟩
  | 96 => ⟨S32x16x64x576, .f32⟩
  | 97 => ⟨S32x16x64x576, .f32⟩
  | 98 => ⟨S32x16x576x64, .f32⟩
  | 99 => ⟨S32x576x16x64, .f32⟩
  | 100 => ⟨S32x16x64x64, .f32⟩
  | 101 => ⟨S32x64x16x64, .f32⟩
  | 102 => ⟨S2048x1024, .f32⟩
  | 103 => ⟨S32x64x16x64, .f32⟩
  | 104 => ⟨S32x64x16x64, .f32⟩
  | 105 => ⟨S32x64x16x64, .f32⟩
  | 106 => ⟨S32x64x16x64, .f32⟩
  | 107 => ⟨S32x64x16x64, .f32⟩
  | 108 => ⟨S32x64x16x64, .f32⟩
  | 109 => ⟨S32x64x16x64, .f32⟩
  | 110 => ⟨S32x64x16x64, .f32⟩
  | 111 => ⟨S32x64x16x64, .f32⟩
  | 112 => ⟨S_, .f32⟩
  | 113 => ⟨S40x64x16x64, .f32⟩
  | 114 => ⟨S_, .f32⟩
  | 115 => ⟨S40x64x16x64, .f32⟩
  | 116 => ⟨S40x64x16x64, .f32⟩
  | 117 => ⟨S_, .f32⟩
  | 118 => ⟨S40x64x16x64, .f32⟩
  | 119 => ⟨S40x64x16x64, .f32⟩
  | 120 => ⟨S_, .f32⟩
  | 121 => ⟨S40x64x16x64, .f32⟩
  | 122 => ⟨S40x64x16x64, .f32⟩
  | 123 => ⟨S_, .f32⟩
  | 124 => ⟨S40x64x16x64, .f32⟩
  | 125 => ⟨S40x64x16x64, .f32⟩
  | 126 => ⟨S_, .f32⟩
  | 127 => ⟨S40x64x16x64, .f32⟩
  | _ => ⟨S2048x1024, .f32⟩

abbrev hbmTy0_2 (i : Nat) : BufTy := match i % 128 with
  | 0 => ⟨S40x64x16x64, .f32⟩
  | 1 => ⟨S_, .f32⟩
  | 2 => ⟨S40x64x16x64, .f32⟩
  | 3 => ⟨S40x64x16x64, .f32⟩
  | 4 => ⟨S_, .f32⟩
  | 5 => ⟨S40x64x16x64, .f32⟩
  | 6 => ⟨S40x64x16x64, .f32⟩
  | 7 => ⟨S_, .f32⟩
  | 8 => ⟨S40x64x16x64, .f32⟩
  | 9 => ⟨S40x64x16x64, .f32⟩
  | 10 => ⟨S2560x16x64, .f32⟩
  | 11 => ⟨S512x16x64, .f32⟩
  | 12 => ⟨S2048x16x64, .f32⟩
  | 13 => ⟨S2048x1024, .f32⟩
  | 14 => ⟨S2048x1024, .bf16⟩
  | 15 => ⟨S2048x1024, .bf16⟩
  | 16 => ⟨S2048x1024, .bf16⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_call0_v0 : Ref sig .tc := ⟨.hbm, 45, rfl⟩
abbrev main_v33_1 : Ref sig .tc := ⟨.hbm, 46, rfl⟩
abbrev main_call0_v2 : Ref sig .tc := ⟨.hbm, 47, rfl⟩
abbrev main_v33_0 : Ref sig .tc := ⟨.hbm, 48, rfl⟩
abbrev main_call0_cst : Ref sig .tc := ⟨.hbm, 49, rfl⟩
abbrev main_v33_2 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩
abbrev main_cst_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_22 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_23 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_24 : Ref sig .tc := ⟨.hbm, 150, rfl⟩
abbrev main_v113 : Ref sig .tc := ⟨.hbm, 151, rfl⟩
abbrev main_v114 : Ref sig .tc := ⟨.hbm, 152, rfl⟩
abbrev main_cst_25 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_26 : Ref sig .tc := ⟨.hbm, 171, rfl⟩
abbrev main_v132 : Ref sig .tc := ⟨.hbm, 172, rfl⟩
abbrev main_cst_27 : Ref sig .tc := ⟨.hbm, 173, rfl⟩
abbrev main_v133 : Ref sig .tc := ⟨.hbm, 174, rfl⟩
abbrev main_v134 : Ref sig .tc := ⟨.hbm, 175, rfl⟩
abbrev main_cst_28 : Ref sig .tc := ⟨.hbm, 176, rfl⟩
abbrev main_v135 : Ref sig .tc := ⟨.hbm, 177, rfl⟩
abbrev main_v136 : Ref sig .tc := ⟨.hbm, 178, rfl⟩
abbrev main_cst_29 : Ref sig .tc := ⟨.hbm, 179, rfl⟩
abbrev main_v137 : Ref sig .tc := ⟨.hbm, 180, rfl⟩
abbrev main_v138 : Ref sig .tc := ⟨.hbm, 181, rfl⟩
abbrev main_cst_30 : Ref sig .tc := ⟨.hbm, 182, rfl⟩
abbrev main_v139 : Ref sig .tc := ⟨.hbm, 183, rfl⟩
abbrev main_v140 : Ref sig .tc := ⟨.hbm, 184, rfl⟩
abbrev main_cst_31 : Ref sig .tc := ⟨.hbm, 185, rfl⟩
abbrev main_v141 : Ref sig .tc := ⟨.hbm, 186, rfl⟩
abbrev main_v142 : Ref sig .tc := ⟨.hbm, 187, rfl⟩
abbrev main_cst_32 : Ref sig .tc := ⟨.hbm, 188, rfl⟩
abbrev main_v143 : Ref sig .tc := ⟨.hbm, 189, rfl⟩
abbrev main_v144 : Ref sig .tc := ⟨.hbm, 190, rfl⟩
abbrev main_cst_33 : Ref sig .tc := ⟨.hbm, 191, rfl⟩
abbrev main_v145 : Ref sig .tc := ⟨.hbm, 192, rfl⟩
abbrev main_v146 : Ref sig .tc := ⟨.hbm, 193, rfl⟩
abbrev main_cst_34 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_35 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_36 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_call1_cst : Ref sig .tc := ⟨.hbm, 215, rfl⟩
abbrev main_call1_v0 : Ref sig .tc := ⟨.hbm, 216, rfl⟩
abbrev main_v165 : Ref sig .tc := ⟨.hbm, 217, rfl⟩
abbrev main_cst_37 : Ref sig .tc := ⟨.hbm, 218, rfl⟩
abbrev main_v166 : Ref sig .tc := ⟨.hbm, 219, rfl⟩
abbrev main_v167 : Ref sig .tc := ⟨.hbm, 220, rfl⟩
abbrev main_cst_38 : Ref sig .tc := ⟨.hbm, 221, rfl⟩
abbrev main_v168 : Ref sig .tc := ⟨.hbm, 222, rfl⟩
abbrev main_cst_39 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_40 : Ref sig .tc := ⟨.hbm, 240, rfl⟩
abbrev main_v185 : Ref sig .tc := ⟨.hbm, 241, rfl⟩
abbrev main_cst_41 : Ref sig .tc := ⟨.hbm, 242, rfl⟩
abbrev main_v186 : Ref sig .tc := ⟨.hbm, 243, rfl⟩
abbrev main_v187 : Ref sig .tc := ⟨.hbm, 244, rfl⟩
abbrev main_cst_42 : Ref sig .tc := ⟨.hbm, 245, rfl⟩
abbrev main_v188 : Ref sig .tc := ⟨.hbm, 246, rfl⟩
abbrev main_v189 : Ref sig .tc := ⟨.hbm, 247, rfl⟩
abbrev main_cst_43 : Ref sig .tc := ⟨.hbm, 248, rfl⟩
abbrev main_v190 : Ref sig .tc := ⟨.hbm, 249, rfl⟩
abbrev main_v191 : Ref sig .tc := ⟨.hbm, 250, rfl⟩
abbrev main_cst_44 : Ref sig .tc := ⟨.hbm, 251, rfl⟩
abbrev main_v192 : Ref sig .tc := ⟨.hbm, 252, rfl⟩
abbrev main_v193 : Ref sig .tc := ⟨.hbm, 253, rfl⟩
abbrev main_cst_45 : Ref sig .tc := ⟨.hbm, 254, rfl⟩
abbrev main_v194 : Ref sig .tc := ⟨.hbm, 255, rfl⟩
abbrev main_v195 : Ref sig .tc := ⟨.hbm, 256, rfl⟩
abbrev main_cst_46 : Ref sig .tc := ⟨.hbm, 257, rfl⟩
abbrev main_v196 : Ref sig .tc := ⟨.hbm, 258, rfl⟩
abbrev main_v197 : Ref sig .tc := ⟨.hbm, 259, rfl⟩
abbrev main_cst_47 : Ref sig .tc := ⟨.hbm, 260, rfl⟩
abbrev main_v198 : Ref sig .tc := ⟨.hbm, 261, rfl⟩
abbrev main_v199 : Ref sig .tc := ⟨.hbm, 262, rfl⟩
abbrev main_cst_48 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩

abbrev nD : Nat := 1
abbrev τ : Topo := Topo.v7x

variable {F : FTy → Type} [FloatOps F]
-- ==== Kernel2.lean ====
abbrev S2048x2048 : Shape := ⟨2, ![2048, 2048]⟩
abbrev S1x5632x2048 : Shape := ⟨3, ![1, 5632, 2048]⟩
abbrev S2048x5632 : Shape := ⟨2, ![2048, 5632]⟩
abbrev S2x2048x5632 : Shape := ⟨3, ![2, 2048, 5632]⟩
abbrev S1024x2048 : Shape := ⟨2, ![1024, 2048]⟩
abbrev S1x512x2048 : Shape := ⟨3, ![1, 512, 2048]⟩
abbrev S1024x512 : Shape := ⟨2, ![1024, 512]⟩
abbrev S2x1024x512 : Shape := ⟨3, ![2, 1024, 512]⟩
abbrev S512x2048 : Shape := ⟨2, ![512, 2048]⟩
abbrev S1x1024x512 : Shape := ⟨3, ![1, 1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .bf16⟩
  | .hbm, ⟨3, _⟩ => ⟨S2048x5632, .bf16⟩
  | .hbm, ⟨4, _⟩ => ⟨S2x2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2x1024x512, .bf16⟩
  | .local _ .vmem, ⟨9, _⟩ => ⟨S2x1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2048x2048 : Shape := ⟨2, ![2048, 2048]⟩
abbrev S1x5632x2048 : Shape := ⟨3, ![1, 5632, 2048]⟩
abbrev S2048x5632 : Shape := ⟨2, ![2048, 5632]⟩
abbrev S_ : Shape := ⟨0, ![]⟩
abbrev S5632x2048 : Shape := ⟨2, ![5632, 2048]⟩
abbrev S1x2048x5632 : Shape := ⟨3, ![1, 2048, 5632]⟩
abbrev S2x2048x5632 : Shape := ⟨3, ![2, 2048, 5632]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S5632x2048, .bf16⟩
  | .hbm, ⟨21, _⟩ => ⟨S5632x2048, .f32⟩
  | .hbm, ⟨22, _⟩ => ⟨S2048x2048, .f32⟩
  | .hbm, ⟨23, _⟩ => ⟨S2048x2048, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S1x2048x5632, .f32⟩
  | .hbm, ⟨32, _⟩ => ⟨S1x2048x5632, .f32⟩
  | .hbm, ⟨33, _⟩ => ⟨S2x2048x5632, .f32⟩
  | .hbm, ⟨34, _⟩ => ⟨S2x2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel3.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x5632 : Shape := ⟨3, ![2, 2048, 5632]⟩
abbrev S4x2048x2816 : Shape := ⟨3, ![4, 2048, 2816]⟩
abbrev S2048x2x5632 : Shape := ⟨3, ![2048, 2, 5632]⟩
abbrev S2048x11264 : Shape := ⟨2, ![2048, 11264]⟩
abbrev S2048x4x2816 : Shape := ⟨3, ![2048, 4, 2816]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2x5632, .bf16⟩
  | .hbm, ⟨3, _⟩ => ⟨S2048x11264, .bf16⟩
  | .hbm, ⟨4, _⟩ => ⟨S2048x4x2816, .bf16⟩
  | .hbm, ⟨5, _⟩ => ⟨S2048x11264, .bf16⟩
  | .hbm, ⟨6, _⟩ => ⟨S_, .f32⟩
  | .hbm, ⟨7, _⟩ => ⟨S2048x2048, .f32⟩
  | .hbm, ⟨8, _⟩ => ⟨S2048x11264, .f32⟩
  | .hbm, ⟨9, _⟩ => ⟨S2048x11264, .f32⟩
  | .hbm, ⟨10, _⟩ => ⟨S2048x11264, .f32⟩
  | .hbm, ⟨11, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2048x1024 : Shape := ⟨2, ![2048, 1024]⟩
abbrev S2x2048x5632 : Shape := ⟨3, ![2, 2048, 5632]⟩
abbrev S4x1024x2816 : Shape := ⟨3, ![4, 1024, 2816]⟩
abbrev S2048x512 : Shape := ⟨2, ![2048, 512]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2x2048x5632, .bf16⟩
  | .hbm, ⟨2, _⟩ => ⟨S4x1024x2816, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2x2048x5632 : Shape := ⟨3, ![2, 2048, 5632]⟩
abbrev S2048x2x5632 : Shape := ⟨3, ![2048, 2, 5632]⟩
abbrev S2048x11264 : Shape := ⟨2, ![2048, 11264]⟩
abbrev S_ : Shape := ⟨0, ![]⟩
abbrev S1024x11264 : Shape := ⟨2, ![1024, 11264]⟩
abbrev S11264x1024 : Shape := ⟨2, ![11264, 1024]⟩
abbrev S1024x4x2816 : Shape := ⟨3, ![1024, 4, 2816]⟩
abbrev S4x1024x2816 : Shape := ⟨3, ![4, 1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x5632, .bf16⟩
  | .hbm, ⟨2, _⟩ => ⟨S2048x2x5632, .bf16⟩
  | .hbm, ⟨3, _⟩ => ⟨S2048x11264, .bf16⟩
  | .hbm, ⟨4, _⟩ => ⟨S_, .f32⟩
  | .hbm, ⟨5, _⟩ => ⟨S1024x11264, .f32⟩
  | .hbm, ⟨6, _⟩ => ⟨S2048x1024, .f32⟩
  | .hbm, ⟨7, _⟩ => ⟨S2048x11264, .f32⟩
  | .hbm, ⟨8, _⟩ => ⟨S2048x11264, .f32⟩
  | .hbm, ⟨9, _⟩ => ⟨S11264x1024, .f32⟩
  | .hbm, ⟨10, _⟩ => ⟨S1024x11264, .f32⟩
  | .hbm, ⟨11, _⟩ => ⟨S1024x4x2816, .f32⟩
  | .hbm, ⟨12, _⟩ => ⟨S4x1024x2816, .f32⟩
  | .hbm, ⟨13, _⟩ => ⟨S4x1024x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S1x5632x2048 : Shape := ⟨3, ![1, 5632, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1x5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S1x5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2048x2048 : Shape := ⟨2, ![2048, 2048]⟩
abbrev S4x2048x2816 : Shape := ⟨3, ![4, 2048, 2816]⟩
abbrev S2048x5632 : Shape := ⟨2, ![2048, 5632]⟩
abbrev S1x2048x256 : Shape := ⟨3, ![1, 2048, 256]⟩
abbrev S2048x256 : Shape := ⟨2, ![2048, 256]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c11_i32 : BitVec 32 := 11#32
  let v1 : BitVec 32 := Scalar.divsi v0 c11_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c11_i32 c0_i32_2
  let v8 : BitVec 32 := Scalar.extui v7
  let c0_i32_3 : BitVec 32 := 0#32
  let v9 : BitVec 1 := Scalar.cmpi .slt c11_i32 c0_i32_3
  let v10 : BitVec 32 := Scalar.extui v9
  let v11 : BitVec 32 := Scalar.subi v8 v10
  let v12 : BitVec 1 := Scalar.cmpi .ne v6 v11
  let v13 : BitVec 32 := Scalar.remsi v0 c11_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_2 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let v18 : BitVec 32 := Scalar.addi arg1 c22_i32_4
  let c11_i32_5 : BitVec 32 := 11#32
  let c0_i32_6 : BitVec 32 := 0#32
  let v19 : BitVec 1 := Scalar.cmpi .eq c11_i32_5 c0_i32_6
  let c1_i32_7 : BitVec 32 := 1#32
  let v20 : BitVec 32 := Scalar.select v19 c1_i32_7 c11_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x5632 : Shape := ⟨2, ![2048, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x2048, .f32⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S2048x5632, .bf16⟩
  | .hbm, ⟨10, _⟩ => ⟨S2048x5632, .bf16⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel7.lean ====
abbrev S2048x1024 : Shape := ⟨2, ![2048, 1024]⟩
abbrev S2x2048x5632 : Shape := ⟨3, ![2, 2048, 5632]⟩
abbrev S4x1024x2816 : Shape := ⟨3, ![4, 1024, 2816]⟩
abbrev S2048x512 : Shape := ⟨2, ![2048, 512]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2x2048x5632, .bf16⟩
  | .hbm, ⟨2, _⟩ => ⟨S4x1024x2816, .bf16⟩
  | .hbm, ⟨3, _⟩ => ⟨S4x1024x2816, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2048x1024 : Shape := ⟨2, ![2048, 1024]⟩
abbrev S2x2048x5632 : Shape := ⟨3, ![2, 2048, 5632]⟩
abbrev S4x1024x2816 : Shape := ⟨3, ![4, 1024, 2816]⟩
abbrev S2048x2x5632 : Shape := ⟨3, ![2048, 2, 5632]⟩
abbrev S2048x11264 : Shape := ⟨2, ![2048, 11264]⟩
abbrev S_ : Shape := ⟨0, ![]⟩
abbrev S1024x11264 : Shape := ⟨2, ![1024, 11264]⟩
abbrev S11264x1024 : Shape := ⟨2, ![11264, 1024]⟩
abbrev S1024x4x2816 : Shape := ⟨3, ![1024, 4, 2816]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x5632, .bf16⟩
  | .hbm, ⟨2, _⟩ => ⟨S4x1024x2816, .bf16⟩
  | .hbm, ⟨3, _⟩ => ⟨S2048x2x5632, .bf16⟩
  | .hbm, ⟨4, _⟩ => ⟨S2048x11264, .bf16⟩
  | .hbm, ⟨5, _⟩ => ⟨S_, .f32⟩
  | .hbm, ⟨6, _⟩ => ⟨S1024x11264, .f32⟩
  | .hbm, ⟨7, _⟩ => ⟨S2048x1024, .f32⟩
  | .hbm, ⟨8, _⟩ => ⟨S2048x11264, .f32⟩
  | .hbm, ⟨9, _⟩ => ⟨S2048x11264, .f32⟩
  | .hbm, ⟨10, _⟩ => ⟨S11264x1024, .f32⟩
  | .hbm, ⟨11, _⟩ => ⟨S1024x11264, .f32⟩
  | .hbm, ⟨12, _⟩ => ⟨S1024x4x2816, .f32⟩
  | .hbm, ⟨13, _⟩ => ⟨S4x1024x2816, .f32⟩
  | .hbm, ⟨14, _⟩ => ⟨S4x1024x2816, .f32⟩
  | .hbm, ⟨15, _⟩ => ⟨S4x1024x2816, .f32⟩
  | .hbm, ⟨16, _⟩ => ⟨S4x1024x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel8.lean ====
abbrev S2048x5632 : Shape := ⟨2, ![2048, 5632]⟩
abbrev S1x5632x2048 : Shape := ⟨3, ![1, 5632, 2048]⟩
abbrev S2048x2048 : Shape := ⟨2, ![2048, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  ![v1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x5632 : Shape := ⟨2, ![2048, 5632]⟩
abbrev S1x5632x2048 : Shape := ⟨3, ![1, 5632, 2048]⟩
abbrev S5632x2048 : Shape := ⟨2, ![5632, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x5632, .f32⟩
  | .hbm, ⟨3, _⟩ => ⟨S5632x2048, .bf16⟩
  | .hbm, ⟨4, _⟩ => ⟨S5632x2048, .f32⟩
  | .hbm, ⟨5, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x7168 : Shape := ⟨2, ![2048, 7168]⟩
abbrev S4x2048x1792 : Shape := ⟨3, ![4, 2048, 1792]⟩
abbrev S2048x2048 : Shape := ⟨2, ![2048, 2048]⟩
abbrev S1024x1792 : Shape := ⟨2, ![1024, 1792]⟩
abbrev S1x1024x1792 : Shape := ⟨3, ![1, 1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x7168, .bf16⟩
  | .hbm, ⟨1, _⟩ => ⟨S4x2048x1792, .bf16⟩
  | .hbm, ⟨2, _⟩ => ⟨S2048x2048, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x7168 : Shape := ⟨2, ![2048, 7168]⟩
abbrev S4x2048x1792 : Shape := ⟨3, ![4, 2048, 1792]⟩
abbrev S2048x4x1792 : Shape := ⟨3, ![2048, 4, 1792]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S4x2048x1792, .bf16⟩
  | .hbm, ⟨2, _⟩ => ⟨S2048x4x1792, .bf16⟩
  | .hbm, ⟨3, _⟩ => ⟨S2048x7168, .bf16⟩
  | .hbm, ⟨4, _⟩ => ⟨S_, .f32⟩
  | .hbm, ⟨5, _⟩ => ⟨S2048x2048, .f32⟩
  | .hbm, ⟨6, _⟩ => ⟨S2048x7168, .f32⟩
  | .hbm, ⟨7, _⟩ => ⟨S2048x7168, .f32⟩
  | .hbm, ⟨8, _⟩ => ⟨S2048x7168, .f32⟩
  | .hbm, ⟨9, _⟩ => ⟨S2048x2048, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S2048x7168 : Shape := ⟨2, ![2048, 7168]⟩
abbrev S4x1024x1792 : Shape := ⟨3, ![4, 1024, 1792]⟩
abbrev S2048x512 : Shape := ⟨2, ![2048, 512]⟩
abbrev S2048x896 : Shape := ⟨2, ![2048, 896]⟩
abbrev S1x512x896 : Shape := ⟨3, ![1, 512, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x7168, .bf16⟩
  | .hbm, ⟨2, _⟩ => ⟨S4x1024x1792, .bf16⟩
  | .local _ .vmem, ⟨0, _⟩ => ⟨S2048x512, .bf16⟩
  | .local _ .vmem, ⟨1, _⟩ => ⟨S2048x512, .bf16⟩
  | .local _ .vmem, ⟨2, _⟩ => ⟨S2048x896, .bf16⟩
  | .local _ .vmem, ⟨3, _⟩ => ⟨S2048x896, .bf16⟩
  | .local _ .vmem, ⟨4, _⟩ => ⟨S1x512x896, .bf16⟩
  | .local _ .vmem, ⟨5, _⟩ => ⟨S1x512x896, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S2048x7168 : Shape := ⟨2, ![2048, 7168]⟩
abbrev S_ : Shape := ⟨0, ![]⟩
abbrev S1024x7168 : Shape := ⟨2, ![1024, 7168]⟩
abbrev S7168x1024 : Shape := ⟨2, ![7168, 1024]⟩
abbrev S1024x4x1792 : Shape := ⟨3, ![1024, 4, 1792]⟩
abbrev S4x1024x1792 : Shape := ⟨3, ![4, 1024, 1792]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x7168, .bf16⟩
  | .hbm, ⟨2, _⟩ => ⟨S_, .f32⟩
  | .hbm, ⟨3, _⟩ => ⟨S1024x7168, .f32⟩
  | .hbm, ⟨4, _⟩ => ⟨S2048x1024, .f32⟩
  | .hbm, ⟨5, _⟩ => ⟨S2048x7168, .f32⟩
  | .hbm, ⟨6, _⟩ => ⟨S2048x7168, .f32⟩
  | .hbm, ⟨7, _⟩ => ⟨S7168x1024, .f32⟩
  | .hbm, ⟨8, _⟩ => ⟨S1024x7168, .f32⟩
  | .hbm, ⟨9, _⟩ => ⟨S1024x4x1792, .f32⟩
  | .hbm, ⟨10, _⟩ => ⟨S4x1024x1792, .f32⟩
  | .hbm, ⟨11, _⟩ => ⟨S4x1024x1792, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S2048x1024 : Shape := ⟨2, ![2048, 1024]⟩
abbrev S2048x7168 : Shape := ⟨2, ![2048, 7168]⟩
abbrev S4x1024x1792 : Shape := ⟨3, ![4, 1024, 1792]⟩
abbrev S2048x512 : Shape := ⟨2, ![2048, 512]⟩
abbrev S2048x896 : Shape := ⟨2, ![2048, 896]⟩
abbrev S1x512x896 : Shape := ⟨3, ![1, 512, 896]⟩
abbrev S512x896 : Shape := ⟨2, ![512, 896]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x7168, .bf16⟩
  | .hbm, ⟨2, _⟩ => ⟨S4x1024x1792, .bf16⟩
  | .hbm, ⟨3, _⟩ => ⟨S4x1024x1792, .bf16⟩
  | .local _ .vmem, ⟨0, _⟩ => ⟨S2048x512, .bf16⟩
  | .local _ .vmem, ⟨1, _⟩ => ⟨S2048x512, .bf16⟩
  | .local _ .vmem, ⟨2, _⟩ => ⟨S2048x896, .bf16⟩
  | .local _ .vmem, ⟨3, _⟩ => ⟨S2048x896, .bf16⟩
  | .local _ .vmem, ⟨4, _⟩ => ⟨S1x512x896, .bf16⟩
  | .local _ .vmem, ⟨5, _⟩ => ⟨S1x512x896, .bf16⟩
  | .local _ .vmem, ⟨6, _⟩ => ⟨S1x512x896, .bf16⟩
  | .local _ .vmem, ⟨7, _⟩ => ⟨S1x512x896, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S2048x1024 : Shape := ⟨2, ![2048, 1024]⟩
abbrev S2048x7168 : Shape := ⟨2, ![2048, 7168]⟩
abbrev S4x1024x1792 : Shape := ⟨3, ![4, 1024, 1792]⟩
abbrev S_ : Shape := ⟨0, ![]⟩
abbrev S1024x7168 : Shape := ⟨2, ![1024, 7168]⟩
abbrev S7168x1024 : Shape := ⟨2, ![7168, 1024]⟩
abbrev S1024x4x1792 : Shape := ⟨3, ![1024, 4, 1792]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x7168, .bf16⟩
  | .hbm, ⟨2, _⟩ => ⟨S4x1024x1792, .bf16⟩
  | .hbm, ⟨3, _⟩ => ⟨S_, .f32⟩
  | .hbm, ⟨4, _⟩ => ⟨S1024x7168, .f32⟩
  | .hbm, ⟨5, _⟩ => ⟨S2048x1024, .f32⟩
  | .hbm, ⟨6, _⟩ => ⟨S2048x7168, .f32⟩
  | .hbm, ⟨7, _⟩ => ⟨S2048x7168, .f32⟩
  | .hbm, ⟨8, _⟩ => ⟨S7168x1024, .f32⟩
  | .hbm, ⟨9, _⟩ => ⟨S1024x7168, .f32⟩
  | .hbm, ⟨10, _⟩ => ⟨S1024x4x1792, .f32⟩
  | .hbm, ⟨11, _⟩ => ⟨S4x1024x1792, .f32⟩
  | .hbm, ⟨12, _⟩ => ⟨S4x1024x1792, .f32⟩
  | .hbm, ⟨13, _⟩ => ⟨S4x1024x1792, .f32⟩
  | .hbm, ⟨14, _⟩ => ⟨S4x1024x1792, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel12.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  ![v1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S1x2048x2048 : Shape := ⟨3, ![1, 2048, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S2048x2048 : Shape := ⟨2, ![2048, 2048]⟩
abbrev S1x2048x2048 : Shape := ⟨3, ![1, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S2048x2048 : Shape := ⟨2, ![2048, 2048]⟩
abbrev S4x2048x1792 : Shape := ⟨3, ![4, 2048, 1792]⟩
abbrev S3072x3072 : Shape := ⟨2, ![3072, 3072]⟩
abbrev S1024x2048 : Shape := ⟨2, ![1024, 2048]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1792, .bf16⟩
  | .hbm, ⟨2, _⟩ => ⟨S3072x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1024x256, .bf16⟩
  | .local _ .vmem, ⟨5, _⟩ => ⟨S1024x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 12, 1], ![false, false, false]⟩

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c1_i32_0 : BitVec 32 := 1#32
  let v3 : BitVec 1 := Scalar.cmpi .sge arg0 c1_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c7_i32 : BitVec 32 := 7#32
  let v1 : BitVec 32 := Scalar.divsi v0 c7_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c7_i32 c0_i32_2
  let v8 : BitVec 32 := Scalar.extui v7
  let c0_i32_3 : BitVec 32 := 0#32
  let v9 : BitVec 1 := Scalar.cmpi .slt c7_i32 c0_i32_3
  let v10 : BitVec 32 := Scalar.extui v9
  let v11 : BitVec 32 := Scalar.subi v8 v10
  let v12 : BitVec 1 := Scalar.cmpi .ne v6 v11
  let v13 : BitVec 32 := Scalar.remsi v0 c7_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c7_i32_6 : BitVec 32 := 7#32
  let c0_i32_7 : BitVec 32 := 0#32
  let v19 : BitVec 1 := Scalar.cmpi .eq c7_i32_6 c0_i32_7
  let c1_i32_8 : BitVec 32 := 1#32
  let v20 : BitVec 32 := Scalar.select v19 c1_i32_8 c7_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S4x2048x1792 : Shape := ⟨3, ![4, 2048, 1792]⟩
abbrev S2048x4x1792 : Shape := ⟨3, ![2048, 4, 1792]⟩
abbrev S2048x7168 : Shape := ⟨2, ![2048, 7168]⟩
abbrev S2048x3072 : Shape := ⟨2, ![2048, 3072]⟩
abbrev S_ : Shape := ⟨0, ![]⟩
abbrev S1024x3072 : Shape := ⟨2, ![1024, 3072]⟩
abbrev S3072x3072 : Shape := ⟨2, ![3072, 3072]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1792, .bf16⟩
  | .hbm, ⟨2, _⟩ => ⟨S2048x2048, .f32⟩
  | .hbm, ⟨3, _⟩ => ⟨S2048x4x1792, .bf16⟩
  | .hbm, ⟨4, _⟩ => ⟨S2048x7168, .bf16⟩
  | .hbm, ⟨5, _⟩ => ⟨S2048x3072, .bf16⟩
  | .hbm, ⟨6, _⟩ => ⟨S2048x3072, .f32⟩
  | .hbm, ⟨7, _⟩ => ⟨S2048x3072, .f32⟩
  | .hbm, ⟨8, _⟩ => ⟨S_, .f32⟩
  | .hbm, ⟨9, _⟩ => ⟨S1024x3072, .f32⟩
  | .hbm, ⟨10, _⟩ => ⟨S3072x3072, .f32⟩
  | .hbm, ⟨11, _⟩ => ⟨S3072x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel16.lean ====
abbrev S2048x2048 : Shape := ⟨2, ![2048, 2048]⟩
abbrev S4x2048x1792 : Shape := ⟨3, ![4, 2048, 1792]⟩
abbrev S2048x4096 : Shape := ⟨2, ![2048, 4096]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x1792, .bf16⟩
  | .hbm, ⟨2, _⟩ => ⟨S2048x4096, .f32⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  ![v1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c7_i32 : BitVec 32 := 7#32
  let v1 : BitVec 32 := Scalar.divsi v0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let v18 : BitVec 32 := Scalar.addi arg1 c12_i32_4
  let c7_i32_5 : BitVec 32 := 7#32
  let c0_i32_6 : BitVec 32 := 0#32
  let v19 : BitVec 1 := Scalar.cmpi .eq c7_i32_5 c0_i32_6
  let c1_i32_7 : BitVec 32 := 1#32
  let v20 : BitVec 32 := Scalar.select v19 c1_i32_7 c7_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S4x2048x1792 : Shape := ⟨3, ![4, 2048, 1792]⟩
abbrev S2048x4x1792 : Shape := ⟨3, ![2048, 4, 1792]⟩
abbrev S2048x7168 : Shape := ⟨2, ![2048, 7168]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1792, .bf16⟩
  | .hbm, ⟨2, _⟩ => ⟨S2048x2048, .f32⟩
  | .hbm, ⟨3, _⟩ => ⟨S2048x4x1792, .bf16⟩
  | .hbm, ⟨4, _⟩ => ⟨S2048x7168, .bf16⟩
  | .hbm, ⟨5, _⟩ => ⟨S2048x4096, .bf16⟩
  | .hbm, ⟨6, _⟩ => ⟨S2048x4096, .f32⟩
  | .hbm, ⟨7, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel17.lean ====
abbrev S2048x2048 : Shape := ⟨2, ![2048, 2048]⟩
abbrev S1x2048 : Shape := ⟨2, ![1, 2048]⟩
abbrev S8x2048 : Shape := ⟨2, ![8, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S8x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S6x2048 : Shape := ⟨2, ![6, 2048]⟩
abbrev S8x2048 : Shape := ⟨2, ![8, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S1x2048, .f32⟩
  | .hbm, ⟨38, _⟩ => ⟨S1x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x2048, .f32⟩
  | .hbm, ⟨64, _⟩ => ⟨S2048x2048, .f32⟩
  | .hbm, ⟨65, _⟩ => ⟨S2048x1, .f32⟩
  | .hbm, ⟨66, _⟩ => ⟨S2048x2048, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x2048, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x2048, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x2048, .f32⟩
  | .hbm, ⟨90, _⟩ => ⟨S2048x2048, .f32⟩
  | .hbm, ⟨91, _⟩ => ⟨S_, .f32⟩
  | .hbm, ⟨92, _⟩ => ⟨S6x2048, .f32⟩
  | .hbm, ⟨93, _⟩ => ⟨S8x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_19 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.Attn.Step.lean ====
/- What one grid point of the backward call does to the values it holds, as plain functions of vectors.
   A point works on a pair of heads; `n = i 1` is the step along the sequence. The names:
   `Blocks` are the six blocks the pipeline brings in, `Acc` the four accumulators that live from point to point
   (the table of score gradients, the key and value gradients in scratch, the gain gradient in its output block),
   `Outs` the four output blocks that are only written. -/
module

public import proofs.«01_k».proof.Proof.Gen.KernelIdeal.Skeleton
public import Idealize.ShloMosaic.Lib.VecWindow

@[expose] public section

set_option maxRecDepth 16384

noncomputable section

namespace Cert.KernelIdeal.Attn

open Idealize.ShloMosaic Cert.KernelIdeal.Gen
open Idealize.ShloMosaic.VecWindow (window put)

variable {F : FTy → Type} [FloatOps F]

/-! ## One head -/

/-- The gradient of the head's attention output: the gradient through the norm, rounded. -/
def headDo (p : Vec F S1x256x768 .bf16) (v : Vec F S768x64 .bf16) (d : Vec F S256x64 .f32) (g : Vec F S1x64 .f32) : FVec F S256x64 .bf16 :=
  k0_pay22 (k0_pay17 p v) (k0_pay18 p v) d (k0_pay20 g)

/-- The gain gradient after the head's rows are added. -/
def headGain (p : Vec F S1x256x768 .bf16) (v : Vec F S768x64 .bf16) (d : Vec F S256x64 .f32) (old : Vec F S1x64 .f32) : FVec F S1x64 .f32 :=
  k0_pay19 p v d old

/-- The table of score gradients after the head's are added. -/
def headTab (p : Vec F S1x256x768 .bf16) (v : Vec F S768x64 .bf16) (d : Vec F S256x64 .f32) (g : Vec F S1x64 .f32) (old : Vec F S1x256x768 .f32) :
    FVec F S1x256x768 .f32 :=
  k0_pay24 (k0_pay14 p) (k0_pay15 v) (k0_pay16 p v) (k0_pay17 p v) (k0_pay18 p v) d (k0_pay20 g) old

/-- The query gradient of the head's rows. -/
def headDq (p : Vec F S1x256x768 .bf16) (v : Vec F S768x64 .bf16) (d : Vec F S256x64 .f32) (g : Vec F S1x64 .f32) (k : Vec F S768x64 .bf16) :
    FVec F S256x64 .bf16 :=
  k0_pay26 (k0_pay14 p) (k0_pay15 v) (k0_pay16 p v) (k0_pay17 p v) (k0_pay18 p v) d (k0_pay20 g) k

/-- The key gradient over the rows of the union after the head's are added. -/
def headDk (p : Vec F S1x256x768 .bf16) (v : Vec F S768x64 .bf16) (d : Vec F S256x64 .f32) (g : Vec F S1x64 .f32) (q : Vec F S256x64 .bf16)
    (old : Vec F S768x64 .f32) : FVec F S768x64 .f32 :=
  k0_pay28 old (k0_pay27 (k0_pay14 p) (k0_pay15 v) (k0_pay16 p v) (k0_pay17 p v) (k0_pay18 p v) d (k0_pay20 g) q)

/-- The value gradient over the rows of the union after the head's are added. -/
def headDv (p : Vec F S1x256x768 .bf16) (v : Vec F S768x64 .bf16) (d : Vec F S256x64 .f32) (g : Vec F S1x64 .f32) (old : Vec F S768x64 .f32) :
    FVec F S768x64 .f32 :=
  k0_pay29 (k0_pay13 p) (headDo p v d g) old

/-! ## The first head's, folded, and the second head's operations, which are the first's -/

theorem gain_e0 (p : Vec F S1x256x768 .bf16) (v d old) : k0_pay19 (F := F) p v d old = headGain p v d old := rfl

theorem tab_e0 (p : Vec F S1x256x768 .bf16) (v d g old) :
    k0_pay24 (F := F) (k0_pay14 p) (k0_pay15 v) (k0_pay16 p v) (k0_pay17 p v) (k0_pay18 p v) d (k0_pay20 g) old = headTab p v d g old := rfl

theorem dk_e0 (p : Vec F S1x256x768 .bf16) (v d g q old) :
    k0_pay28 (F := F) old (k0_pay27 (k0_pay14 p) (k0_pay15 v) (k0_pay16 p v) (k0_pay17 p v) (k0_pay18 p v) d (k0_pay20 g) q) = headDk p v d g q old := rfl

theorem dv_e0 (p : Vec F S1x256x768 .bf16) (v d g old) :
    k0_pay29 (F := F) (k0_pay13 p) (k0_pay22 (k0_pay17 p v) (k0_pay18 p v) d (k0_pay20 g)) old = headDv p v d g old := rfl

theorem gain_e1 (p : Vec F S1x256x768 .bf16) (v d old) : k0_pay36 (F := F) (k0_pay35 p v) d old = headGain p v d old := rfl

theorem do_e1 (p : Vec F S1x256x768 .bf16) (v d g) : k0_pay38 (F := F) (k0_pay34 p v) (k0_pay35 p v) d g = headDo p v d g := rfl

theorem tab_e1 (p : Vec F S1x256x768 .bf16) (v d g old) :
    k0_pay40 (F := F) (k0_pay31 p) (k0_pay32 v) (k0_pay33 p v) (k0_pay34 p v) (k0_pay35 p v) d g old = headTab p v d g old := rfl

theorem dq_e1 (p : Vec F S1x256x768 .bf16) (v d g k) :
    k0_pay1 (k0_pay42 (F := F) (k0_pay31 p) (k0_pay32 v) (k0_pay33 p v) (k0_pay34 p v) (k0_pay35 p v) d g k) = headDq p v d g k := rfl

theorem dk_e1 (p : Vec F S1x256x768 .bf16) (v d g q old) :
    k0_pay2 (k0_pay41 (F := F) (k0_pay31 p) (k0_pay32 v) (k0_pay33 p v) (k0_pay34 p v) (k0_pay35 p v) d g) old q = headDk p v d g q old := rfl

theorem dv_e1 (p : Vec F S1x256x768 .bf16) (v d g old) :
    k0_pay3 (F := F) (k0_pay30 p) (k0_pay38 (k0_pay34 p v) (k0_pay35 p v) d g) old = headDv p v d g old := rfl

/-! ## One point -/

/-- The six blocks a point reads. -/
structure Blocks (F : FTy → Type) [FloatOps F] where
  q : Vec F S256x128 .bf16
  k : Vec F S3072x128 .bf16
  v : Vec F S3072x128 .bf16
  p : Vec F S2x256x768 .bf16
  g : Vec F S1x128 .f32
  d : Vec F S256x128 .f32

/-- The four accumulators. -/
structure Acc (F : FTy → Type) [FloatOps F] where
  dg : Vec F S1x128 .f32
  tab : Vec F S2x256x768 .f32
  dk : Vec F S2560x128 .f32
  dv : Vec F S2560x128 .f32

/-- The four output blocks that are only written. -/
structure Outs (F : FTy → Type) [FloatOps F] where
  dq : Vec F S256x128 .bf16
  dk : Vec F S2048x128 .bf16
  dv : Vec F S2048x128 .bf16
  band : Vec F S2x64x576 .f32

variable (i : grid0.Coords)

namespace Blocks
variable (B : Blocks F)
/-- The first head's windows of the blocks. -/
def p0 : Vec F S1x256x768 .bf16 := window B.p ![0, 0, 0] S1x256x768.size inb_S2x256x768_S1x256x768_0_0_0
def v0 : Vec F S768x64 .bf16 := window B.v (k0_off1 i) S768x64.size (k0_off1_inb i)
def k0 : Vec F S768x64 .bf16 := window B.k (k0_off1 i) S768x64.size (k0_off1_inb i)
def d0 : Vec F S256x64 .f32 := window B.d ![0, 0] S256x64.size inb_S256x128_S256x64_0_0
def q0 : Vec F S256x64 .bf16 := window B.q ![0, 0] S256x64.size inb_S256x128_S256x64_0_0
def g0 : Vec F S1x64 .f32 := window B.g ![0, 0] S1x64.size inb_S1x128_S1x64_0_0
/-- The second head's. -/
def p1 : Vec F S1x256x768 .bf16 := window B.p ![1, 0, 0] S1x256x768.size inb_S2x256x768_S1x256x768_1_0_0
def v1 : Vec F S768x64 .bf16 := window B.v (k0_off3 i) S768x64.size (k0_off3_inb i)
def k1 : Vec F S768x64 .bf16 := window B.k (k0_off3 i) S768x64.size (k0_off3_inb i)
def d1 : Vec F S256x64 .f32 := window B.d ![0, 64] S256x64.size inb_S256x128_S256x64_0_64
def q1 : Vec F S256x64 .bf16 := window B.q ![0, 64] S256x64.size inb_S256x128_S256x64_0_64
def g1 : Vec F S1x64 .f32 := window B.g ![0, 64] S1x64.size inb_S1x128_S1x64_0_64
end Blocks

/-- The accumulators after the first head of a point. -/
def step0 (B : Blocks F) (s : Acc F) : Acc F where
  dg := put s.dg ![0, 0] S1x64.size (headGain B.p0 (B.v0 i) B.d0 (window s.dg ![0, 0] S1x64.size inb_S1x128_S1x64_0_0))
  tab := put s.tab ![0, 0, 0] S1x256x768.size
    (headTab B.p0 (B.v0 i) B.d0 B.g0 (window s.tab ![0, 0, 0] S1x256x768.size inb_S2x256x768_S1x256x768_0_0_0))
  dk := put s.dk (k0_off2 i) S768x64.size (headDk B.p0 (B.v0 i) B.d0 B.g0 B.q0 (window s.dk (k0_off2 i) S768x64.size (k0_off2_inb i)))
  dv := put s.dv (k0_off2 i) S768x64.size (headDv B.p0 (B.v0 i) B.d0 B.g0 (window s.dv (k0_off2 i) S768x64.size (k0_off2_inb i)))

/-- The accumulators after the second head of a point. -/
def step1 (B : Blocks F) (s : Acc F) : Acc F where
  dg := put s.dg ![0, 64] S1x64.size (headGain B.p1 (B.v1 i) B.d1 (window s.dg ![0, 64] S1x64.size inb_S1x128_S1x64_0_64))
  tab := put s.tab ![1, 0, 0] S1x256x768.size
    (headTab B.p1 (B.v1 i) B.d1 B.g1 (window s.tab ![1, 0, 0] S1x256x768.size inb_S2x256x768_S1x256x768_1_0_0))
  dk := put s.dk (k0_off4 i) S768x64.size (headDk B.p1 (B.v1 i) B.d1 B.g1 B.q1 (window s.dk (k0_off4 i) S768x64.size (k0_off4_inb i)))
  dv := put s.dv (k0_off4 i) S768x64.size (headDv B.p1 (B.v1 i) B.d1 B.g1 (window s.dv (k0_off4 i) S768x64.size (k0_off4_inb i)))

/-- The accumulators after a point. -/
def step (B : Blocks F) (s : Acc F) : Acc F := step1 i B (step0 i B s)

/-- The gain gradient of a point: the two heads' lanes are apart, so each adds to what the point found. -/
theorem step_dg (B : Blocks F) (s : Acc F) : (step i B s).dg
    = put (put s.dg ![0, 0] S1x64.size (headGain B.p0 (B.v0 i) B.d0 (window s.dg ![0, 0] S1x64.size inb_S1x128_S1x64_0_0)))
        ![0, 64] S1x64.size (headGain B.p1 (B.v1 i) B.d1 (window s.dg ![0, 64] S1x64.size inb_S1x128_S1x64_0_64)) :=
  congrArg (fun old => put (step0 i B s).dg ![0, 64] S1x64.size (headGain B.p1 (B.v1 i) B.d1 old))
    (VecWindow.window_put_of_disjoint (s := S1x128) s.dg ![0, 0] S1x64.size ![0, 64] S1x64.size inb_S1x128_S1x64_0_64 _ 1 (Or.inr (by decide)))

/-- The table of a point, likewise. -/
theorem step_tab (B : Blocks F) (s : Acc F) : (step i B s).tab
    = put (put s.tab ![0, 0, 0] S1x256x768.size
          (headTab B.p0 (B.v0 i) B.d0 B.g0 (window s.tab ![0, 0, 0] S1x256x768.size inb_S2x256x768_S1x256x768_0_0_0)))
        ![1, 0, 0] S1x256x768.size (headTab B.p1 (B.v1 i) B.d1 B.g1 (window s.tab ![1, 0, 0] S1x256x768.size inb_S2x256x768_S1x256x768_1_0_0)) :=
  congrArg (fun old => put (step0 i B s).tab ![1, 0, 0] S1x256x768.size (headTab B.p1 (B.v1 i) B.d1 B.g1 old))
    (VecWindow.window_put_of_disjoint (s := S2x256x768) s.tab ![0, 0, 0] S1x256x768.size ![1, 0, 0] S1x256x768.size
      inb_S2x256x768_S1x256x768_1_0_0 _ 0 (Or.inr (by decide)))

/-- The key gradient of a point, likewise: the two heads store into different lanes. -/
theorem step_dk (B : Blocks F) (s : Acc F) : (step i B s).dk
    = put (put s.dk (k0_off2 i) S768x64.size (headDk B.p0 (B.v0 i) B.d0 B.g0 B.q0 (window s.dk (k0_off2 i) S768x64.size (k0_off2_inb i))))
        (k0_off4 i) S768x64.size (headDk B.p1 (B.v1 i) B.d1 B.g1 B.q1 (window s.dk (k0_off4 i) S768x64.size (k0_off4_inb i))) :=
  congrArg (fun old => put (step0 i B s).dk (k0_off4 i) S768x64.size (headDk B.p1 (B.v1 i) B.d1 B.g1 B.q1 old))
    (VecWindow.window_put_of_disjoint (s := S2560x128) s.dk (k0_off2 i) S768x64.size (k0_off4 i) S768x64.size (k0_off4_inb i) _ 1
      (Or.inr (show 0 + 64 ≤ 64 by decide)))

/-- The value gradient of a point, likewise. -/
theorem step_dv (B : Blocks F) (s : Acc F) : (step i B s).dv
    = put (put s.dv (k0_off2 i) S768x64.size (headDv B.p0 (B.v0 i) B.d0 B.g0 (window s.dv (k0_off2 i) S768x64.size (k0_off2_inb i))))
        (k0_off4 i) S768x64.size (headDv B.p1 (B.v1 i) B.d1 B.g1 (window s.dv (k0_off4 i) S768x64.size (k0_off4_inb i))) :=
  congrArg (fun old => put (step0 i B s).dv (k0_off4 i) S768x64.size (headDv B.p1 (B.v1 i) B.d1 B.g1 old))
    (VecWindow.window_put_of_disjoint (s := S2560x128) s.dv (k0_off2 i) S768x64.size (k0_off4 i) S768x64.size (k0_off4_inb i) _ 1
      (Or.inr (show 0 + 64 ≤ 64 by decide)))

/-- The cleared accumulators: what the first point of a pair of heads starts from. -/
def cleared : Acc F where
  dg := k0_pay12
  tab := k0_pay11
  dk := k0_pay9
  dv := k0_pay10

/-- The query gradients a point leaves in its output block, whatever was in it. -/
def dqOut (B : Blocks F) (x : Vec F S256x128 .bf16) : Vec F S256x128 .bf16 :=
  put (put x ![0, 0] S256x64.size (headDq B.p0 (B.v0 i) B.d0 B.g0 (B.k0 i))) ![0, 64] S256x64.size (headDq B.p1 (B.v1 i) B.d1 B.g1 (B.k1 i))

/-- The gradient of the band bias: per head the four diagonal blocks of the table, added. -/
def bandOut (s : Acc F) (x : Vec F S2x64x576 .f32) : Vec F S2x64x576 .f32 :=
  put (put x ![0, 0, 0] S1x64x576.size
      (k0_pay7 (window s.tab ![0, 0, 0] S1x64x576.size inb_S2x256x768_S1x64x576_0_0_0) (window s.tab ![0, 64, 64] S1x64x576.size inb_S2x256x768_S1x64x576_0_64_64)
        (window s.tab ![0, 128, 128] S1x64x576.size inb_S2x256x768_S1x64x576_0_128_128) (window s.tab ![0, 192, 192] S1x64x576.size inb_S2x256x768_S1x64x576_0_192_192)))
    ![1, 0, 0] S1x64x576.size
    (k0_pay4 (k0_pay8 (window s.tab ![1, 0, 0] S1x64x576.size inb_S2x256x768_S1x64x576_1_0_0) (window s.tab ![1, 64, 64] S1x64x576.size inb_S2x256x768_S1x64x576_1_64_64)
        (window s.tab ![1, 128, 128] S1x64x576.size inb_S2x256x768_S1x64x576_1_128_128) (window s.tab ![1, 192, 192] S1x64x576.size inb_S2x256x768_S1x64x576_1_192_192)))

/-- What the last point of a pair of heads writes beside its query gradients. -/
def finish (s : Acc F) (o : Outs F) : Outs F where
  dq := o.dq
  dk := k0_pay5 (window s.dk ![512, 0] S2048x128.size inb_S2560x128_S2048x128_512_0)
  dv := k0_pay6 (window s.dv ![512, 0] S2048x128.size inb_S2560x128_S2048x128_512_0)
  band := bandOut s o.band

/-! ## Two windows that cover the buffer leave nothing of it -/

/-- Where two windows cover every index, what was there before does not matter. -/
theorem put_put_base {s : Shape} {α : Type} (x y : s.Idx → α) {off₀ size₀ off₁ size₁ : Fin s.rank → ℕ} (w₀ : ((a : Fin s.rank) → Fin (size₀ a)) → α)
    (w₁ : ((a : Fin s.rank) → Fin (size₁ a)) → α)
    (h : ∀ z : s.Idx, (∀ a, off₀ a ≤ (z a).val ∧ (z a).val < off₀ a + size₀ a) ∨ ∀ a, off₁ a ≤ (z a).val ∧ (z a).val < off₁ a + size₁ a) :
    put (put x off₀ size₀ w₀) off₁ size₁ w₁ = put (put y off₀ size₀ w₀) off₁ size₁ w₁ := by
  funext z
  unfold put
  by_cases h₁ : ∀ a, off₁ a ≤ (z a).val ∧ (z a).val < off₁ a + size₁ a
  · rw [dif_pos h₁, dif_pos h₁]
  · rw [dif_neg h₁, dif_neg h₁, dif_pos ((h z).resolve_right h₁), dif_pos ((h z).resolve_right h₁)]

theorem tab_base (x y : Vec F S2x256x768 .f32) (w₀ w₁) :
    put (put x ![0, 0, 0] S1x256x768.size w₀) ![1, 0, 0] S1x256x768.size w₁ = put (put y ![0, 0, 0] S1x256x768.size w₀) ![1, 0, 0] S1x256x768.size w₁ :=
  put_put_base x y w₀ w₁ fun z => by
    have h0 : (z 0).val < 2 := (z 0).isLt
    have h1 : (z 1).val < 256 := (z 1).isLt
    have h2 : (z 2).val < 768 := (z 2).isLt
    rcases Nat.eq_zero_or_pos (z 0).val with e | e
    · exact Or.inl fun | 0 => ⟨Nat.zero_le _, show _ < 0 + 1 by omega⟩ | 1 => ⟨Nat.zero_le _, show _ < 0 + 256 by omega⟩ | 2 => ⟨Nat.zero_le _, show _ < 0 + 768 by omega⟩
    · exact Or.inr fun | 0 => ⟨e, show _ < 1 + 1 by omega⟩ | 1 => ⟨Nat.zero_le _, show _ < 0 + 256 by omega⟩ | 2 => ⟨Nat.zero_le _, show _ < 0 + 768 by omega⟩

theorem band_base (x y : Vec F S2x64x576 .f32) (w₀ w₁) :
    put (put x ![0, 0, 0] S1x64x576.size w₀) ![1, 0, 0] S1x64x576.size w₁ = put (put y ![0, 0, 0] S1x64x576.size w₀) ![1, 0, 0] S1x64x576.size w₁ :=
  put_put_base x y w₀ w₁ fun z => by
    have h0 : (z 0).val < 2 := (z 0).isLt
    have h1 : (z 1).val < 64 := (z 1).isLt
    have h2 : (z 2).val < 576 := (z 2).isLt
    rcases Nat.eq_zero_or_pos (z 0).val with e | e
    · exact Or.inl fun | 0 => ⟨Nat.zero_le _, show _ < 0 + 1 by omega⟩ | 1 => ⟨Nat.zero_le _, show _ < 0 + 64 by omega⟩ | 2 => ⟨Nat.zero_le _, show _ < 0 + 576 by omega⟩
    · exact Or.inr fun | 0 => ⟨e, show _ < 1 + 1 by omega⟩ | 1 => ⟨Nat.zero_le _, show _ < 0 + 64 by omega⟩ | 2 => ⟨Nat.zero_le _, show _ < 0 + 576 by omega⟩

theorem lanes_base (x y : Vec F S256x128 .bf16) (w₀ w₁) :
    put (put x ![0, 0] S256x64.size w₀) ![0, 64] S256x64.size w₁ = put (put y ![0, 0] S256x64.size w₀) ![0, 64] S256x64.size w₁ :=
  put_put_base x y w₀ w₁ fun z => by
    have h0 : (z 0).val < 256 := (z 0).isLt
    have h1 : (z 1).val < 128 := (z 1).isLt
    by_cases e : (z 1).val < 64
    · exact Or.inl fun | 0 => ⟨Nat.zero_le _, show _ < 0 + 256 by omega⟩ | 1 => ⟨Nat.zero_le _, show _ < 0 + 64 by omega⟩
    · exact Or.inr fun | 0 => ⟨Nat.zero_le _, show _ < 0 + 256 by omega⟩ | 1 => ⟨show 64 ≤ _ by omega, show _ < 64 + 64 by omega⟩

/-- The query gradients do not depend on what the block held. -/
theorem dqOut_base (B : Blocks F) (x y : Vec F S256x128 .bf16) : dqOut i B x = dqOut i B y := lanes_base x y _ _

/-- Nor does the gradient of the band bias. -/
theorem bandOut_base (s : Acc F) (x y : Vec F S2x64x576 .f32) : bandOut s x = bandOut s y := band_base x y _ _

end Cert.KernelIdeal.Attn

end
-- ==== Proof.Attn.Run.lean ====
/- What a run of the body at one point is stated over: the buffers it is handed, what they hold, and the triple
   that says it turns one holding into another. The three cases (first point of a pair of heads, last, between) are
   proved in modules of their own. -/
module

public import proofs.«01_k».proof.Proof.Attn.Step
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)
open Cert.KernelIdeal.Gen

variable {F : FTy → Type} [FloatOps F]

local notation "𝕄" => MT nD τ sig Unit (Elt F) ℕ (UR sig nD τ) ℕ

/-- The buffers of a point: six read blocks, five output blocks, three scratch buffers, each whole. -/
structure Refs where
  a2 : Memref sig .tc .vmem S256x128 .bf16
  h2 : a2.IsWhole
  a3 : Memref sig .tc .vmem S3072x128 .bf16
  h3 : a3.IsWhole
  a4 : Memref sig .tc .vmem S3072x128 .bf16
  h4 : a4.IsWhole
  a5 : Memref sig .tc .vmem S2x256x768 .bf16
  h5 : a5.IsWhole
  a6 : Memref sig .tc .vmem S1x128 .f32
  h6 : a6.IsWhole
  a7 : Memref sig .tc .vmem S256x128 .f32
  h7 : a7.IsWhole
  a8 : Memref sig .tc .vmem S256x128 .bf16
  h8 : a8.IsWhole
  a9 : Memref sig .tc .vmem S2048x128 .bf16
  h9 : a9.IsWhole
  a10 : Memref sig .tc .vmem S2048x128 .bf16
  h10 : a10.IsWhole
  a11 : Memref sig .tc .vmem S2x64x576 .f32
  h11 : a11.IsWhole
  a12 : Memref sig .tc .vmem S1x128 .f32
  h12 : a12.IsWhole
  a13 : Memref sig .tc .vmem S2x256x768 .f32
  h13 : a13.IsWhole
  a14 : Memref sig .tc .vmem S2560x128 .f32
  h14 : a14.IsWhole
  a15 : Memref sig .tc .vmem S2560x128 .f32
  h15 : a15.IsWhole

/-- The body on these buffers. -/
abbrev Refs.body (r : Refs) (i : grid0.Coords) : Prog (TpuEff nD τ sig (Elt F) Λ₀ .tc) PUnit :=
  cc0_attn_bwd i r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15

/-- The buffers holding the blocks `B`, the outputs `o` and the accumulators `s`. -/
abbrev Refs.holds (c : Dev nD) (r : Refs) (B : Blocks F) (o : Outs F) (s : Acc F) : sProp 𝕄 :=
  iprop(owns (c : Thread nD τ) r.a2 fullShare B.q
    ∗ owns (c : Thread nD τ) r.a3 fullShare B.k
    ∗ owns (c : Thread nD τ) r.a4 fullShare B.v
    ∗ owns (c : Thread nD τ) r.a5 fullShare B.p
    ∗ owns (c : Thread nD τ) r.a6 fullShare B.g
    ∗ owns (c : Thread nD τ) r.a7 fullShare B.d
    ∗ owns (c : Thread nD τ) r.a8 fullShare o.dq
    ∗ owns (c : Thread nD τ) r.a9 fullShare o.dk
    ∗ owns (c : Thread nD τ) r.a10 fullShare o.dv
    ∗ owns (c : Thread nD τ) r.a11 fullShare o.band
    ∗ owns (c : Thread nD τ) r.a12 fullShare s.dg
    ∗ owns (c : Thread nD τ) r.a13 fullShare s.tab
    ∗ owns (c : Thread nD τ) r.a14 fullShare s.dk
    ∗ owns (c : Thread nD τ) r.a15 fullShare s.dv)

/-- The body at `i` turns the outputs and accumulators `o`, `s` into `o'`, `s'`. -/
def Turns (c : Dev nD) (r : Refs) (i : grid0.Coords) (B : Blocks F) (o : Outs F) (s : Acc F) (o' : Outs F) (s' : Acc F) : Prop :=
  ∀ (E : Set ℕ) (K : PUnit → sProp 𝕄), iprop(r.holds c B o s ∗ (r.holds c B o' s' -∗ K ⟨⟩))
    ⊢ wp frame (wpE (defs₀ (F := F)) Variants.none c none) E (r.body i) K

/-- Two windows stored one after the other, read back. -/
theorem read_put_put {κ : Kind} {sp : Space} {s : Shape} {e : EltTy} {Val : EltTy → Type} (v : View sig κ sp s e) (f : v.ty.Contents Val)
    {off₀ size₀ off₁ size₁ : Fin s.rank → ℕ} (inb₀ : ∀ a, off₀ a + size₀ a ≤ s.size a) (inb₁ : ∀ a, off₁ a + size₁ a ≤ s.size a)
    (w₀ : (Rect.unit off₀ size₀ inb₀).shape.Idx → Val e) (w₁ : (Rect.unit off₁ size₁ inb₁).shape.Idx → Val e) :
    v.read Val (v.writes Val f [⟨Rect.unit off₁ size₁ inb₁, w₁⟩, ⟨Rect.unit off₀ size₀ inb₀, w₀⟩])
      = put (put (v.read Val f) off₀ size₀ w₀) off₁ size₁ w₁ := by
  rw [View.read_writes_cons_put v f inb₁ w₁ _ rfl, View.read_writes_cons_put v f inb₀ w₀ _ rfl]; rfl

theorem put_put_congr {s : Shape} {α : Type} {x x' : s.Idx → α} {off₀ size₀ off₁ size₁ : Fin s.rank → ℕ} {w₀ w₀' : ((a : Fin s.rank) → Fin (size₀ a)) → α}
    {w₁ w₁' : ((a : Fin s.rank) → Fin (size₁ a)) → α} (hx : x = x') (h₀ : w₀ = w₀') (h₁ : w₁ = w₁') :
    put (put x off₀ size₀ w₀) off₁ size₁ w₁ = put (put x' off₀ size₀ w₀') off₁ size₁ w₁' := by
  subst hx h₀ h₁; rfl

/-- Two windows stored over a cleared buffer, read back. -/
theorem read_put_put_full {κ : Kind} {sp : Space} {s : Shape} {e : EltTy} {Val : EltTy → Type} (v : View sig κ sp s e) (f : v.ty.Contents Val)
    {off₀ size₀ off₁ size₁ off : Fin s.rank → ℕ} (inb₀ : ∀ a, off₀ a + size₀ a ≤ s.size a) (inb₁ : ∀ a, off₁ a + size₁ a ≤ s.size a)
    (inb : ∀ a, off a + s.size a ≤ s.size a) (z : (Rect.unit off s.size inb).shape.Idx → Val e)
    (w₀ : (Rect.unit off₀ size₀ inb₀).shape.Idx → Val e) (w₁ : (Rect.unit off₁ size₁ inb₁).shape.Idx → Val e) :
    v.read Val (v.writes Val f [⟨Rect.unit off₁ size₁ inb₁, w₁⟩, ⟨Rect.unit off₀ size₀ inb₀, w₀⟩, ⟨Rect.unit off s.size inb, z⟩])
      = put (put z off₀ size₀ w₀) off₁ size₁ w₁ := by
  rw [View.read_writes_cons_put v f inb₁ w₁ _ rfl, View.read_writes_cons_put v f inb₀ w₀ _ rfl, View.read_writes_full]

/-- A window of a cleared buffer. -/
theorem readAt_full_put {κ : Kind} {sp : Space} {s : Shape} {e : EltTy} {Val : EltTy → Type} (v : View sig κ sp s e) (f : v.ty.Contents Val)
    {off₀ size₀ off : Fin s.rank → ℕ} (inb₀ : ∀ a, off₀ a + size₀ a ≤ s.size a) (inb : ∀ a, off a + s.size a ≤ s.size a)
    (z : (Rect.unit off s.size inb).shape.Idx → Val e) :
    v.readAt Val (Rect.unit off₀ size₀ inb₀).toLoadRect (v.writes Val f [⟨Rect.unit off s.size inb, z⟩]) = window z off₀ size₀ inb₀ := by
  rw [View.readAt_unit v _ inb₀ rfl inb₀, View.read_writes_full]

/-- A window of a cleared buffer after another window was stored. -/
theorem readAt_put_full {κ : Kind} {sp : Space} {s : Shape} {e : EltTy} {Val : EltTy → Type} (v : View sig κ sp s e) (f : v.ty.Contents Val)
    {off₀ size₀ off₁ size₁ off : Fin s.rank → ℕ} (inb₀ : ∀ a, off₀ a + size₀ a ≤ s.size a) (inb₁ : ∀ a, off₁ a + size₁ a ≤ s.size a)
    (inb : ∀ a, off a + s.size a ≤ s.size a) (z : (Rect.unit off s.size inb).shape.Idx → Val e)
    {w₀ : (Rect.unit off₀ size₀ inb₀).shape.Idx → Val e} {w₀' : ((a : Fin s.rank) → Fin (size₀ a)) → Val e} (hw : w₀ = w₀') :
    v.readAt Val (Rect.unit off₁ size₁ inb₁).toLoadRect (v.writes Val f [⟨Rect.unit off₀ size₀ inb₀, w₀⟩, ⟨Rect.unit off s.size inb, z⟩])
      = window (put z off₀ size₀ w₀') off₁ size₁ inb₁ := by
  subst hw
  rw [View.readAt_unit v _ inb₁ rfl inb₁, View.read_writes_cons_put v f inb₀ w₀ _ rfl, View.read_writes_full]

/-- A window read from a buffer whose contents are known. -/
theorem readAt_of_read {κ : Kind} {sp : Space} {s : Shape} {e : EltTy} {Val : EltTy → Type} (v : View sig κ sp s e) {f : v.ty.Contents Val} {x : s.Idx → Val e}
    (h : v.read Val f = x) {off size : Fin s.rank → ℕ} (inb : ∀ a, off a + size a ≤ s.size a) :
    v.readAt Val (Rect.unit off size inb).toLoadRect f = window x off size inb := by
  subst h; exact View.readAt_unit v f inb rfl inb

/-- The sum over the first head's diagonal blocks, read from the table. -/
theorem band_e0 (v : View sig .tc .vmem S2x256x768 .f32) (f : v.ty.Contents (Elt F)) {t : Vec F S2x256x768 .f32} (h : v.read (Elt F) f = t) :
    k0_pay7 (F := F) (v.readAt (Elt F) (Rect.unit (s := S2x256x768) ![0, 0, 0] S1x64x576.size inb_S2x256x768_S1x64x576_0_0_0).toLoadRect f)
        (v.readAt (Elt F) (Rect.unit (s := S2x256x768) ![0, 64, 64] S1x64x576.size inb_S2x256x768_S1x64x576_0_64_64).toLoadRect f)
        (v.readAt (Elt F) (Rect.unit (s := S2x256x768) ![0, 128, 128] S1x64x576.size inb_S2x256x768_S1x64x576_0_128_128).toLoadRect f)
        (v.readAt (Elt F) (Rect.unit (s := S2x256x768) ![0, 192, 192] S1x64x576.size inb_S2x256x768_S1x64x576_0_192_192).toLoadRect f)
      = k0_pay7 (window t ![0, 0, 0] S1x64x576.size inb_S2x256x768_S1x64x576_0_0_0) (window t ![0, 64, 64] S1x64x576.size inb_S2x256x768_S1x64x576_0_64_64)
        (window t ![0, 128, 128] S1x64x576.size inb_S2x256x768_S1x64x576_0_128_128) (window t ![0, 192, 192] S1x64x576.size inb_S2x256x768_S1x64x576_0_192_192) := by
  subst h; rfl

/-- The second head's. -/
theorem band_e1 (v : View sig .tc .vmem S2x256x768 .f32) (f : v.ty.Contents (Elt F)) {t : Vec F S2x256x768 .f32} (h : v.read (Elt F) f = t) :
    k0_pay4 (F := F) (k0_pay8 (v.readAt (Elt F) (Rect.unit (s := S2x256x768) ![1, 0, 0] S1x64x576.size inb_S2x256x768_S1x64x576_1_0_0).toLoadRect f)
        (v.readAt (Elt F) (Rect.unit (s := S2x256x768) ![1, 64, 64] S1x64x576.size inb_S2x256x768_S1x64x576_1_64_64).toLoadRect f)
        (v.readAt (Elt F) (Rect.unit (s := S2x256x768) ![1, 128, 128] S1x64x576.size inb_S2x256x768_S1x64x576_1_128_128).toLoadRect f)
        (v.readAt (Elt F) (Rect.unit (s := S2x256x768) ![1, 192, 192] S1x64x576.size inb_S2x256x768_S1x64x576_1_192_192).toLoadRect f))
      = k0_pay4 (k0_pay8 (window t ![1, 0, 0] S1x64x576.size inb_S2x256x768_S1x64x576_1_0_0) (window t ![1, 64, 64] S1x64x576.size inb_S2x256x768_S1x64x576_1_64_64)
        (window t ![1, 128, 128] S1x64x576.size inb_S2x256x768_S1x64x576_1_128_128) (window t ![1, 192, 192] S1x64x576.size inb_S2x256x768_S1x64x576_1_192_192)) := by
  subst h; rfl

/-- The point is the first of its pair of heads: the condition the body tests before clearing. -/
abbrev first (i : grid0.Coords) : Prop := (Scalar.cmpi .ne (Scalar.extui (Scalar.cmpi .eq (BitVec.ofNat 32 (i 1).val) 0#32)) 0#32) = 1#1

/-- The point is the last of its pair of heads: the condition the body tests before writing the sums out. -/
abbrev last (i : grid0.Coords) : Prop := k0_cond2 i = 1#1

theorem first_iff : ∀ t : Fin cfg0.N, first (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [first, e1]; word_cmp : ∀ t : Fin grid0.N, _)

theorem last_iff : ∀ t : Fin cfg0.N, last (grid0.coords t) ↔ t.val % 8 = 7 :=
  (fun t => by
    have ht : t.val < 64 := Nat.lt_of_lt_of_eq t.isLt N_0
    have e1 : (grid0.coords t 1).val = t.val / 1 % 8 := Pipeline.Grid.coords_val t 1 (by decide) rfl
    simp only [last, k0_cond2, e1]; word_cmp : ∀ t : Fin grid0.N, _)

end Cert.KernelIdeal.Attn

end
-- ==== Proof.Attn.RunB.lean ====
/- The body between the first and the last point of a pair of heads. -/
module

public import proofs.«01_k».proof.Proof.Attn.Run

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)
open Cert.KernelIdeal.Gen

variable {F : FTy → Type} [FloatOps F]

local notation "𝕄" => MT nD τ sig Unit (Elt F) ℕ (UR sig nD τ) ℕ

set_option maxHeartbeats 1200000 in
theorem run_between (c : Dev nD) (r : Refs) (i : grid0.Coords) (hc0 : ¬first i) (hc1 : ¬last i) (B : Blocks F) (o : Outs F) (s : Acc F) :
    Turns c r i B o s { o with dq := dqOut i B o.dq } (step i B s) := by
  intro E K
  obtain ⟨arg2, harg2, arg3, harg3, arg4, harg4, arg5, harg5, arg6, harg6, arg7, harg7, arg8, harg8, arg9, harg9, arg10, harg10, arg11, harg11, arg12, harg12, arg13, harg13, arg14, harg14, arg15, harg15⟩ := r
  obtain ⟨Bq, Bk, Bv, Bp, Bg, Bd⟩ := B
  obtain ⟨oq, ok, ov, ob⟩ := o
  obtain ⟨sg, st, sk, sv⟩ := s
  simp only [Refs.holds, Refs.body, cc0_attn_bwd_eq_skeleton]; unfold cc0_attn_bwd_skel
  simp only [k0_part2_eq_skeleton, k0_part3_eq_skeleton, k0_part4_eq_skeleton, k0_part5_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf2 hf3 hf4 hf5 hf6 hf7 hf8 hf9 hf10 hf11 hf12 hf13 hf14 hf15
  sl_exec (disch := first | sl_exact hc0 | sl_exact hc1)
  sl_step
  iapply Hk
  isplitl [H2]
  · iexists _; isplitr; rotate_left
    · iexact H2
    · ipureintro
      rfl
  isplitl [H3]
  · iexists _; isplitr; rotate_left
    · iexact H3
    · ipureintro
      rfl
  isplitl [H4]
  · iexists _; isplitr; rotate_left
    · iexact H4
    · ipureintro
      rfl
  isplitl [H5]
  · iexists _; isplitr; rotate_left
    · iexact H5
    · ipureintro
      rfl
  isplitl [H6]
  · iexists _; isplitr; rotate_left
    · iexact H6
    · ipureintro
      rfl
  isplitl [H7]
  · iexists _; isplitr; rotate_left
    · iexact H7
    · ipureintro
      rfl
  isplitl [H8]
  · iexists _; isplitr; rotate_left
    · iexact H8
    · ipureintro
      refine (read_put_put ..).trans (put_put_congr rfl ?_ ?_)
      · rfl
      · exact dq_e1 _ _ _ _ _
  isplitl [H9]
  · iexists _; isplitr; rotate_left
    · iexact H9
    · ipureintro
      rfl
  isplitl [H10]
  · iexists _; isplitr; rotate_left
    · iexact H10
    · ipureintro
      rfl
  isplitl [H11]
  · iexists _; isplitr; rotate_left
    · iexact H11
    · ipureintro
      rfl
  isplitl [H12]
  · iexists _; isplitr; rotate_left
    · iexact H12
    · ipureintro
      refine Eq.trans ?_ (step_dg (F := F) i _ _).symm
      refine (read_put_put ..).trans (put_put_congr rfl ?_ ?_)
      · rfl
      · exact gain_e1 _ _ _ _
  isplitl [H13]
  · iexists _; isplitr; rotate_left
    · iexact H13
    · ipureintro
      refine Eq.trans ?_ (step_tab (F := F) i _ _).symm
      refine (read_put_put ..).trans (put_put_congr rfl ?_ ?_)
      · rfl
      · exact tab_e1 _ _ _ _ _
  isplitl [H14]
  · iexists _; isplitr; rotate_left
    · iexact H14
    · ipureintro
      refine Eq.trans ?_ (step_dk (F := F) i _ _).symm
      refine (read_put_put ..).trans (put_put_congr rfl ?_ ?_)
      · rfl
      · exact dk_e1 _ _ _ _ _ _
  iexists _; isplitr; rotate_left
  · iexact H15
  · ipureintro
    refine Eq.trans ?_ (step_dv (F := F) i _ _).symm
    refine (read_put_put ..).trans (put_put_congr rfl ?_ ?_)
    · rfl
    · exact dv_e1 _ _ _ _ _

end Cert.KernelIdeal.Attn

end
-- ==== Proof.Attn.RunA.lean ====
/- The body at the first point of a pair of heads: the accumulators are cleared first. -/
module

public import proofs.«01_k».proof.Proof.Attn.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)
open Cert.KernelIdeal.Gen

variable {F : FTy → Type} [FloatOps F]

local notation "𝕄" => MT nD τ sig Unit (Elt F) ℕ (UR sig nD τ) ℕ

set_option maxHeartbeats 1200000 in
theorem run_first (c : Dev nD) (r : Refs) (i : grid0.Coords) (hc0 : first i) (hc1 : ¬last i) (B : Blocks F) (o : Outs F) (s : Acc F) :
    Turns c r i B o s { o with dq := dqOut i B o.dq } (step i B cleared) := by
  intro E K
  obtain ⟨arg2, harg2, arg3, harg3, arg4, harg4, arg5, harg5, arg6, harg6, arg7, harg7, arg8, harg8, arg9, harg9, arg10, harg10, arg11, harg11, arg12, harg12, arg13, harg13, arg14, harg14, arg15, harg15⟩ := r
  obtain ⟨Bq, Bk, Bv, Bp, Bg, Bd⟩ := B
  obtain ⟨oq, ok, ov, ob⟩ := o
  obtain ⟨sg, st, sk, sv⟩ := s
  simp only [Refs.holds, Refs.body, cc0_attn_bwd_eq_skeleton]; unfold cc0_attn_bwd_skel
  simp only [k0_part2_eq_skeleton, k0_part3_eq_skeleton, k0_part4_eq_skeleton, k0_part5_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf2 hf3 hf4 hf5 hf6 hf7 hf8 hf9 hf10 hf11 hf12 hf13 hf14 hf15
  sl_exec (disch := first | sl_exact hc0 | sl_exact hc1)
  sl_step
  iapply Hk
  isplitl [H2]
  · iexists _; isplitr; rotate_left
    · iexact H2
    · ipureintro
      rfl
  isplitl [H3]
  · iexists _; isplitr; rotate_left
    · iexact H3
    · ipureintro
      rfl
  isplitl [H4]
  · iexists _; isplitr; rotate_left
    · iexact H4
    · ipureintro
      rfl
  isplitl [H5]
  · iexists _; isplitr; rotate_left
    · iexact H5
    · ipureintro
      rfl
  isplitl [H6]
  · iexists _; isplitr; rotate_left
    · iexact H6
    · ipureintro
      rfl
  isplitl [H7]
  · iexists _; isplitr; rotate_left
    · iexact H7
    · ipureintro
      rfl
  isplitl [H8]
  · iexists _; isplitr; rotate_left
    · iexact H8
    · ipureintro
      refine (read_put_put ..).trans (put_put_congr rfl ?_ ?_)
      · rfl
      · exact dq_e1 _ _ _ _ _
  isplitl [H9]
  · iexists _; isplitr; rotate_left
    · iexact H9
    · ipureintro
      rfl
  isplitl [H10]
  · iexists _; isplitr; rotate_left
    · iexact H10
    · ipureintro
      rfl
  isplitl [H11]
  · iexists _; isplitr; rotate_left
    · iexact H11
    · ipureintro
      rfl
  isplitl [H12]
  · iexists _; isplitr; rotate_left
    · iexact H12
    · ipureintro
      refine (read_put_put_full ..).trans (put_put_congr rfl ?h0 (?h1 : _ = _))
      case h0 => exact (gain_e0 _ _ _ _).trans (congrArg (headGain _ _ _) (readAt_full_put arg12.view _ inb_S1x128_S1x64_0_0 _ _))
      case h1 => exact (gain_e1 _ _ _ _).trans (congrArg (headGain _ _ _) (readAt_put_full arg12.view _ inb_S1x128_S1x64_0_0 inb_S1x128_S1x64_0_64 _ _
          ((gain_e0 _ _ _ _).trans (congrArg (headGain _ _ _) (readAt_full_put arg12.view _ inb_S1x128_S1x64_0_0 _ _)))))
  isplitl [H13]
  · iexists _; isplitr; rotate_left
    · iexact H13
    · ipureintro
      refine (read_put_put_full ..).trans (put_put_congr rfl ?h0 (?h1 : _ = _))
      case h0 => exact (tab_e0 _ _ _ _ _).trans (congrArg (headTab _ _ _ _) (readAt_full_put arg13.view _ inb_S2x256x768_S1x256x768_0_0_0 _ _))
      case h1 => exact (tab_e1 _ _ _ _ _).trans (congrArg (headTab _ _ _ _) (readAt_put_full arg13.view _ inb_S2x256x768_S1x256x768_0_0_0 inb_S2x256x768_S1x256x768_1_0_0 _ _
          ((tab_e0 _ _ _ _ _).trans (congrArg (headTab _ _ _ _) (readAt_full_put arg13.view _ inb_S2x256x768_S1x256x768_0_0_0 _ _)))))
  isplitl [H14]
  · iexists _; isplitr; rotate_left
    · iexact H14
    · ipureintro
      refine (read_put_put_full ..).trans (put_put_congr rfl ?h0 (?h1 : _ = _))
      case h0 => exact (dk_e0 _ _ _ _ _ _).trans (congrArg (headDk _ _ _ _ _) (readAt_full_put arg14.view _ (k0_off2_inb i) _ _))
      case h1 => exact (dk_e1 _ _ _ _ _ _).trans (congrArg (headDk _ _ _ _ _) (readAt_put_full arg14.view _ (k0_off2_inb i) (k0_off4_inb i) _ _
          ((dk_e0 _ _ _ _ _ _).trans (congrArg (headDk _ _ _ _ _) (readAt_full_put arg14.view _ (k0_off2_inb i) _ _)))))
  iexists _; isplitr; rotate_left
  · iexact H15
  · ipureintro
    refine (read_put_put_full ..).trans (put_put_congr rfl ?h0 (?h1 : _ = _))
    case h0 => exact (dv_e0 _ _ _ _ _).trans (congrArg (headDv _ _ _ _) (readAt_full_put arg15.view _ (k0_off2_inb i) _ _))
    case h1 => exact (dv_e1 _ _ _ _ _).trans (congrArg (headDv _ _ _ _) (readAt_put_full arg15.view _ (k0_off2_inb i) (k0_off4_inb i) _ _
        ((dv_e0 _ _ _ _ _).trans (congrArg (headDv _ _ _ _) (readAt_full_put arg15.view _ (k0_off2_inb i) _ _)))))

end Cert.KernelIdeal.Attn

end
-- ==== Proof.Attn.RunC.lean ====
/- The body at the last point of a pair of heads: the sums are written out at the end. -/
module

public import proofs.«01_k».proof.Proof.Attn.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)
open Cert.KernelIdeal.Gen

variable {F : FTy → Type} [FloatOps F]

local notation "𝕄" => MT nD τ sig Unit (Elt F) ℕ (UR sig nD τ) ℕ

set_option maxHeartbeats 1200000 in
theorem run_last (c : Dev nD) (r : Refs) (i : grid0.Coords) (hc0 : ¬first i) (hc1 : last i) (B : Blocks F) (o : Outs F) (s : Acc F) :
    Turns c r i B o s (finish (step i B s) { o with dq := dqOut i B o.dq }) (step i B s) := by
  intro E K
  obtain ⟨arg2, harg2, arg3, harg3, arg4, harg4, arg5, harg5, arg6, harg6, arg7, harg7, arg8, harg8, arg9, harg9, arg10, harg10, arg11, harg11, arg12, harg12, arg13, harg13, arg14, harg14, arg15, harg15⟩ := r
  obtain ⟨Bq, Bk, Bv, Bp, Bg, Bd⟩ := B
  obtain ⟨oq, ok, ov, ob⟩ := o
  obtain ⟨sg, st, sk, sv⟩ := s
  simp only [Refs.holds, Refs.body, cc0_attn_bwd_eq_skeleton]; unfold cc0_attn_bwd_skel
  simp only [k0_part1_eq_skeleton, k0_part2_eq_skeleton, k0_part3_eq_skeleton, k0_part4_eq_skeleton, k0_part5_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf2 hf3 hf4 hf5 hf6 hf7 hf8 hf9 hf10 hf11 hf12 hf13 hf14 hf15
  sl_exec (disch := first | sl_exact hc0 | sl_exact hc1)
  sl_step
  iapply Hk
  isplitl [H2]
  · iexists _; isplitr; rotate_left
    · iexact H2
    · ipureintro
      rfl
  isplitl [H3]
  · iexists _; isplitr; rotate_left
    · iexact H3
    · ipureintro
      rfl
  isplitl [H4]
  · iexists _; isplitr; rotate_left
    · iexact H4
    · ipureintro
      rfl
  isplitl [H5]
  · iexists _; isplitr; rotate_left
    · iexact H5
    · ipureintro
      rfl
  isplitl [H6]
  · iexists _; isplitr; rotate_left
    · iexact H6
    · ipureintro
      rfl
  isplitl [H7]
  · iexists _; isplitr; rotate_left
    · iexact H7
    · ipureintro
      rfl
  isplitl [H8]
  · iexists _; isplitr; rotate_left
    · iexact H8
    · ipureintro
      refine (read_put_put ..).trans (put_put_congr rfl ?_ ?_)
      · rfl
      · exact dq_e1 _ _ _ _ _
  isplitl [H9]
  · iexists _; isplitr; rotate_left
    · iexact H9
    · ipureintro
      refine (View.read_writes_full ..).trans (congrArg k0_pay5 (readAt_of_read arg14.view ?_ inb_S2560x128_S2048x128_512_0))
      refine Eq.trans ?_ (step_dk (F := F) i _ _).symm
      refine (read_put_put ..).trans (put_put_congr rfl ?_ ?_)
      · rfl
      · exact dk_e1 _ _ _ _ _ _
  isplitl [H10]
  · iexists _; isplitr; rotate_left
    · iexact H10
    · ipureintro
      refine (View.read_writes_full ..).trans (congrArg k0_pay6 (readAt_of_read arg15.view ?_ inb_S2560x128_S2048x128_512_0))
      refine Eq.trans ?_ (step_dv (F := F) i _ _).symm
      refine (read_put_put ..).trans (put_put_congr rfl ?_ ?_)
      · rfl
      · exact dv_e1 _ _ _ _ _
  isplitl [H11]
  · iexists _; isplitr; rotate_left
    · iexact H11
    · ipureintro
      refine (read_put_put ..).trans (put_put_congr rfl (band_e0 arg13.view _ ?_) (band_e1 arg13.view _ ?_)) <;>
        refine Eq.trans ?_ (step_tab (F := F) i _ _).symm <;>
        refine ((read_put_put ..).trans (tab_base _ (View.read (Elt F) arg13.view f13) _ _)).trans (put_put_congr rfl ?_ ?_)
      · rfl
      · exact tab_e1 _ _ _ _ _
      · rfl
      · exact tab_e1 _ _ _ _ _
  isplitl [H12]
  · iexists _; isplitr; rotate_left
    · iexact H12
    · ipureintro
      refine Eq.trans ?_ (step_dg (F := F) i _ _).symm
      refine (read_put_put ..).trans (put_put_congr rfl ?_ ?_)
      · rfl
      · exact gain_e1 _ _ _ _
  isplitl [H13]
  · iexists _; isplitr; rotate_left
    · iexact H13
    · ipureintro
      refine Eq.trans ?_ (step_tab (F := F) i _ _).symm
      refine (read_put_put ..).trans (put_put_congr rfl ?_ ?_)
      · rfl
      · exact tab_e1 _ _ _ _ _
  isplitl [H14]
  · iexists _; isplitr; rotate_left
    · iexact H14
    · ipureintro
      refine Eq.trans ?_ (step_dk (F := F) i _ _).symm
      refine (read_put_put ..).trans (put_put_congr rfl ?_ ?_)
      · rfl
      · exact dk_e1 _ _ _ _ _ _
  iexists _; isplitr; rotate_left
  · iexact H15
  · ipureintro
    refine Eq.trans ?_ (step_dv (F := F) i _ _).symm
    refine (read_put_put ..).trans (put_put_congr rfl ?_ ?_)
    · rfl
    · exact dv_e1 _ _ _ _ _

end Cert.KernelIdeal.Attn

end
-- ==== Proof.Attn.Frame.lean ====
/- The call as a whole: what the accumulators hold after each grid point, the invariant between points, the body at
   any point, and the run of @main with every array at its end. Stated for any float values. -/
module

public import proofs.«01_k».proof.Proof.Attn.RunC
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators after each point -/

/-- The six blocks of a point. -/
def blocks (c : Dev nD) (t : Fin cfg0.N) : Blocks F := ⟨iblk m c 0 t, iblk m c 1 t, iblk m c 2 t, iblk m c 3 t, iblk m c 4 t, iblk m c 5 t⟩

/-- The point of a number. -/
def pt (n : ℕ) : Fin cfg0.N := ⟨n % 64, Nat.lt_of_lt_of_eq (Nat.mod_lt n (by decide)) N_0.symm⟩

theorem pt_val (t : Fin cfg0.N) : pt t.val = t :=
  Fin.ext (Nat.mod_eq_of_lt (Nat.lt_of_lt_of_eq t.isLt N_0))

/-- The accumulators after the point of number `n`: each pair of heads starts from cleared ones. -/
def acc (c : Dev nD) : ℕ → Acc F
  | 0 => step (grid0.coords (pt 0)) (blocks m c (pt 0)) cleared
  | n + 1 => step (grid0.coords (pt (n + 1))) (blocks m c (pt (n + 1))) (if (n + 1) % 8 = 0 then cleared else acc c n)

theorem acc_first (c : Dev nD) (t : Fin cfg0.N) (h : t.val % 8 = 0) : acc m c t.val = step (grid0.coords t) (blocks m c t) cleared := by
  obtain ⟨n, hn⟩ := t
  cases n with
  | zero => rw [acc, show pt 0 = (⟨0, hn⟩ : Fin cfg0.N) from pt_val ⟨0, hn⟩]
  | succ n => rw [acc, if_pos h, show pt (n + 1) = (⟨n + 1, hn⟩ : Fin cfg0.N) from pt_val ⟨n + 1, hn⟩]

theorem acc_next (c : Dev nD) (t : Fin cfg0.N) (h : ¬t.val % 8 = 0) :
    acc m c t.val = step (grid0.coords t) (blocks m c t) (acc m c (t.val - 1)) := by
  obtain ⟨n, hn⟩ := t
  cases n with
  | zero => exact absurd rfl h
  | succ n => rw [acc, if_neg h, show pt (n + 1) = (⟨n + 1, hn⟩ : Fin cfg0.N) from pt_val ⟨n + 1, hn⟩]; rfl

/-- What the outputs hold that are only written: a fixed vector stands for what was there before. -/
def blank : Outs F :=
  let any : ∀ e, Elt F e := fun e => Classical.choice ((inferInstance : ∀ e, Nonempty (Elt F e)) e)
  ⟨fun _ => any .bf16, fun _ => any .bf16, fun _ => any .bf16, fun _ => any .f32⟩

/-- The outputs of a point, the last three of the last point of a pair of heads. -/
def outs (c : Dev nD) (t : Fin cfg0.N) : Outs F :=
  finish (acc m c t.val) { (blank : Outs F) with dq := dqOut (grid0.coords t) (blocks m c t) (blank : Outs F).dq }

/-! ## The invariant and the proof data -/

abbrev scr0 : Memref sig .tc .vmem S2x256x768 .f32 := Memref.whole cc0_scratch0
abbrev scr1 : Memref sig .tc .vmem S2560x128 .f32 := Memref.whole cc0_scratch1
abbrev scr2 : Memref sig .tc .vmem S2560x128 .f32 := Memref.whole cc0_scratch2

/-- Before point `n`: the scratch at some accumulators, which are those of the point before unless a pair of heads begins. -/
def inv (c : Dev nD) (n : ℕ) : sProp 𝕄 :=
  iprop((∃ s : Acc F, ⌜¬n % 8 = 0 → s = acc m c (n - 1)⌝ ∗ owns (c : Thread nD τ) scr0 fullShare s.tab
    ∗ owns (c : Thread nD τ) scr1 fullShare s.dk ∗ owns (c : Thread nD τ) scr2 fullShare s.dv) ∗ (∃ r, prngReg c r))

theorem rest_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d))
          ∗ (∃ r, prngReg c r)) := by
  unfold Pipeline.ΦA; rw [scopedRest0_eq]; simp only [scr0, scr1, scr2, owns_whole]; try rfl

/-- The proof data: each input's block stays, the outputs as `outs` and `acc` say. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t).dq
    | ⟨7, _⟩ => (outs m c t).dk
    | ⟨8, _⟩ => (outs m c t).dv
    | ⟨9, _⟩ => (outs m c t).band
    | ⟨10, _⟩ => (acc m c t.val).dg
  Φ t := inv m c t.val
  q w := Pipeline.shareOf spec0 w
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = inv m c t.val := by
  dsimp only [dats]; rw [Fin.val_castSucc]

theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = iblk m c 5 t := by dsimp only [dats]
theorem after_6 (c : Dev nD) (t) : (dats m 0 c).after 6 t = (outs m c t).dq := by dsimp only [dats]
theorem after_7 (c : Dev nD) (t) : (dats m 0 c).after 7 t = (outs m c t).dk := by dsimp only [dats]
theorem after_8 (c : Dev nD) (t) : (dats m 0 c).after 8 t = (outs m c t).dv := by dsimp only [dats]
theorem after_9 (c : Dev nD) (t) : (dats m 0 c).after 9 t = (outs m c t).band := by dsimp only [dats]
theorem after_10 (c : Dev nD) (t) : (dats m 0 c).after 10 t = (acc m c t.val).dg := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- Within a pair of heads the gain gradient's block still holds what the point before left. -/
theorem before_10 (c : Dev nD) (t : Fin cfg0.N) (h0 : ¬t.val % 8 = 0) (d) : (dats m 0 c).before 10 t d = (acc m c (t.val - 1)).dg := by
  have hN : t.val < 64 := lt_of_lt_of_eq t.isLt N_0
  rw [Dat.before_out_kept _ 10 rfl t (by omega) (Bool.eq_false_iff.mpr fun h => by have := (flush0_10 _).mp h; dsimp only at this; omega)
    (fun _ => rfl) (fun _ _ => rfl)]
  dsimp only [dats]

/-! ## Which outputs a point leaves alone -/

theorem idle_7 : ∀ t : Fin cfg0.N, ¬t.val % 8 = 7 → cfg0.idle 7 (grid0.coords t) = true ∧ (cfg0.win 7).flush t = false := by decide +kernel
theorem idle_8 : ∀ t : Fin cfg0.N, ¬t.val % 8 = 7 → cfg0.idle 8 (grid0.coords t) = true ∧ (cfg0.win 8).flush t = false := by decide +kernel
theorem idle_9 : ∀ t : Fin cfg0.N, ¬t.val % 8 = 7 → cfg0.idle 9 (grid0.coords t) = true ∧ (cfg0.win 9).flush t = false := by decide +kernel
theorem live_7 : ∀ t : Fin cfg0.N, t.val % 8 = 7 → cfg0.idle 7 (grid0.coords t) = false := by decide +kernel
theorem live_8 : ∀ t : Fin cfg0.N, t.val % 8 = 7 → cfg0.idle 8 (grid0.coords t) = false := by decide +kernel
theorem live_9 : ∀ t : Fin cfg0.N, t.val % 8 = 7 → cfg0.idle 9 (grid0.coords t) = false := by decide +kernel

/-- A window that is never idle is left at the proof data's contents. -/
theorem leaves_live (c : Dev nD) (w : Fin cfg0.W) (t : Fin cfg0.N) (h : cfg0.idle w (cfg0.grid.coords t) = false) (hl : cfg0.loose w = false) :
    (dats m 0 c).leavesExact w t = owns (c : Thread nD τ) ((cfg0.win w).stage (cfg0.slots t w)) fullShare ((dats m 0 c).after w t) := by
  unfold Dat.leavesExact; rw [h]

/-! ## The body at any point -/

/-- The buffers of a point. -/
def refs (t : Fin cfg0.N) : Refs where
  a2 := st0_0 t
  h2 := hstage0_0 ((cfg0.slots t 0).cast nbuf0_0)
  a3 := st0_1 t
  h3 := hstage0_1 ((cfg0.slots t 1).cast nbuf0_1)
  a4 := st0_2 t
  h4 := hstage0_2 ((cfg0.slots t 2).cast nbuf0_2)
  a5 := st0_3 t
  h5 := hstage0_3 ((cfg0.slots t 3).cast nbuf0_3)
  a6 := st0_4 t
  h6 := hstage0_4 ((cfg0.slots t 4).cast nbuf0_4)
  a7 := st0_5 t
  h7 := hstage0_5 ((cfg0.slots t 5).cast nbuf0_5)
  a8 := st0_6 t
  h8 := hstage0_6 ((cfg0.slots t 6).cast nbuf0_6)
  a9 := st0_7 t
  h9 := hstage0_7 ((cfg0.slots t 7).cast nbuf0_7)
  a10 := st0_8 t
  h10 := hstage0_8 ((cfg0.slots t 8).cast nbuf0_8)
  a11 := st0_9 t
  h11 := hstage0_9 ((cfg0.slots t 9).cast nbuf0_9)
  a12 := st0_10 t
  h12 := hstage0_10 ((cfg0.slots t 10).cast nbuf0_10)
  a13 := scr0
  h13 := Memref.isWhole_whole _
  a14 := scr1
  h14 := Memref.isWhole_whole _
  a15 := scr2
  h15 := Memref.isWhole_whole _

/-- What a point makes of the outputs `o` it finds. -/
def outsFrom (c : Dev nD) (t : Fin cfg0.N) (o : Outs F) : Outs F :=
  if t.val % 8 = 7 then outs m c t else { o with dq := (outs m c t).dq }

/-- The three cases together: from accumulators that are those of the point before unless a pair of heads begins. -/
theorem turns (c : Dev nD) (t : Fin cfg0.N) (o : Outs F) (s : Acc F) (hs : ¬t.val % 8 = 0 → s = acc m c (t.val - 1)) :
    Turns c (refs t) (grid0.coords t) (blocks m c t) o s (outsFrom m c t o) (acc m c t.val) := by
  by_cases h0 : t.val % 8 = 0
  · have h1 : ¬t.val % 8 = 7 := by omega
    have h := run_first c (refs t) (grid0.coords t) ((first_iff t).mpr h0) (fun h => h1 ((last_iff t).mp h)) (blocks m c t) o s
    rw [outsFrom, if_neg h1, acc_first m c t h0]
    rwa [dqOut_base _ _ o.dq (blank : Outs F).dq] at h
  · rw [hs h0]
    by_cases h1 : t.val % 8 = 7
    · have h := run_last c (refs t) (grid0.coords t) (fun h => h0 ((first_iff t).mp h)) ((last_iff t).mpr h1) (blocks m c t) o (acc m c (t.val - 1))
      rw [← acc_next m c t h0] at h
      rw [outsFrom, if_pos h1]
      unfold finish at h
      rw [dqOut_base _ _ o.dq (blank : Outs F).dq, bandOut_base _ o.band (blank : Outs F).band] at h
      exact h
    · have h := run_between c (refs t) (grid0.coords t) (fun h => h0 ((first_iff t).mp h)) (fun h => h1 ((last_iff t).mp h)) (blocks m c t) o (acc m c (t.val - 1))
      rw [outsFrom, if_neg h1, acc_next m c t h0]
      rwa [dqOut_base _ _ o.dq (blank : Outs F).dq] at h

theorem outsFrom_dq (c : Dev nD) (t : Fin cfg0.N) (o : Outs F) : (outsFrom m c t o).dq = (outs m c t).dq := by
  unfold outsFrom; split <;> rfl

theorem leaves_7 (c : Dev nD) (t : Fin cfg0.N) (d) (o : Outs F) (ho : o.dk = (dats m 0 c).before 7 t d) :
    owns (c : Thread nD τ) (st0_7 t) fullShare (outsFrom m c t o).dk ⊢ (dats m 0 c).leavesExact 7 t := by
  by_cases h : t.val % 8 = 7
  · rw [leaves_live m c 7 t (live_7 t h) rfl, outsFrom, if_pos h, after_7]
  · rw [Dat.leavesExact_idle (dats m 0 c) 7 t (idle_7 t h).1 (idle_7 t h).2, outsFrom, if_neg h]
    dsimp only; rw [ho]
    iintro H; iexists _; iexact H

theorem leaves_8 (c : Dev nD) (t : Fin cfg0.N) (d) (o : Outs F) (ho : o.dv = (dats m 0 c).before 8 t d) :
    owns (c : Thread nD τ) (st0_8 t) fullShare (outsFrom m c t o).dv ⊢ (dats m 0 c).leavesExact 8 t := by
  by_cases h : t.val % 8 = 7
  · rw [leaves_live m c 8 t (live_8 t h) rfl, outsFrom, if_pos h, after_8]
  · rw [Dat.leavesExact_idle (dats m 0 c) 8 t (idle_8 t h).1 (idle_8 t h).2, outsFrom, if_neg h]
    dsimp only; rw [ho]
    iintro H; iexists _; iexact H

theorem leaves_9 (c : Dev nD) (t : Fin cfg0.N) (d) (o : Outs F) (ho : o.band = (dats m 0 c).before 9 t d) :
    owns (c : Thread nD τ) (st0_9 t) fullShare (outsFrom m c t o).band ⊢ (dats m 0 c).leavesExact 9 t := by
  by_cases h : t.val % 8 = 7
  · rw [leaves_live m c 9 t (live_9 t h) rfl, outsFrom, if_pos h, after_9]
  · rw [Dat.leavesExact_idle (dats m 0 c) 9 t (idle_9 t h).1 (idle_9 t h).2, outsFrom, if_neg h]
    dsimp only; rw [ho]
    iintro H; iexists _; iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl]
  rw [show (dats m 0 c).Φ t.succ = inv m c (t.val + 1) from rfl, Phi_castSucc]
  rw [leaves_live m c 0 t rfl rfl, leaves_live m c 1 t rfl rfl, leaves_live m c 2 t rfl rfl, leaves_live m c 3 t rfl rfl, leaves_live m c 4 t rfl rfl,
    leaves_live m c 5 t rfl rfl, leaves_live m c 6 t rfl rfl, leaves_live m c 10 t rfl rfl,
    after_0, after_1, after_2, after_3, after_4, after_5, after_6, after_10]
  unfold inv
  iintro ⟨⟨⟨%s, %hs, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (turns m c t ⟨(dats m 0 c).before 6 t d6, (dats m 0 c).before 7 t d7, (dats m 0 c).before 8 t d8, (dats m 0 c).before 9 t d9⟩
    ⟨(dats m 0 c).before 10 t d10, s.tab, s.dk, s.dv⟩ (fun h => by rw [before_10 m c t h, hs h]) Set.univ _)
  unfold Refs.holds refs
  dsimp only [blocks]
  isplitl [H0 H1 H2 H3 H4 H5 H6 H7 H8 H9 H10 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iexact HS2
  iintro ⟨H0, H1, H2, H3, H4, H5, H6, H7, H8, H9, H10, HS0, HS1, HS2⟩
  isplitl [HS0 HS1 HS2 Hg]
  · isplitr [Hg]
    · iexists acc m c t.val
      isplitr
      · ipureintro; exact fun _ => rfl
      isplitl [HS0]; · iexact HS0
      isplitl [HS1]; · iexact HS1
      iexact HS2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [outsFrom_dq]; iexact H6
  isplitl [H7]; · iapply (leaves_7 m c t d7 ⟨(dats m 0 c).before 6 t d6, (dats m 0 c).before 7 t d7, (dats m 0 c).before 8 t d8, (dats m 0 c).before 9 t d9⟩ rfl); iexact H7
  isplitl [H8]; · iapply (leaves_8 m c t d8 ⟨(dats m 0 c).before 6 t d6, (dats m 0 c).before 7 t d7, (dats m 0 c).before 8 t d8, (dats m 0 c).before 9 t d9⟩ rfl); iexact H8
  isplitl [H9]; · iapply (leaves_9 m c t d9 ⟨(dats m 0 c).before 6 t d6, (dats m 0 c).before 7 t d7, (dats m 0 c).before 8 t d8, (dats m 0 c).before 9 t d9⟩ rfl); iexact H9
  iexact H10

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = inv m c 0 from rfl, rest_eq]
  unfold inv
  iintro ⟨⟨⟨%d0, H0⟩, ⟨%d1, H1⟩, ⟨%d2, H2⟩⟩, Hg⟩
  isplitr [Hg]
  · iexists (⟨(cleared : Acc F).dg, d0, d1, d2⟩ : Acc F)
    isplitr
    · ipureintro; exact fun h => absurd rfl h
    isplitl [H0]; · iexact H0
    isplitl [H1]; · iexact H1
    iexact H2
  · iexact Hg

/-- After the last point the scratch goes back at whatever it holds. -/
theorem hout (c : Dev nD) : (dats m 0 c).Φ (Fin.last cfg0.N) ⊢ Pipeline.ΦA spec0 c := by
  rw [show (dats m 0 c).Φ (Fin.last cfg0.N) = inv m c cfg0.N from rfl, rest_eq]
  unfold inv
  iintro ⟨⟨%s, -, H0, H1, H2⟩, Hg⟩
  isplitr [Hg]
  · isplitl [H0]; · iexists _; iexact H0
    isplitl [H1]; · iexists _; iexact H1
    iexists _; iexact H2
  · iexact Hg

/-! ## The run -/

set_option backward.isDefEq.respectTransparency.types false in
/-- Every execution of @main ends, with the arrays of the call as the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Attn

end
-- ==== Proof.Frames.lean ====
/-
  The frames of the three programs. The kernel's run is written once, for any float values (Proof/Attn/Frame.lean): the two
  frames here are that run read at `Bits` and at `Ideal`. The reference has host operations alone and declares no semaphore.
-/
module

public import proofs.«01_k».proof.Defs
public import proofs.«01_k».proof.Proof.Gen.Kernel
public import proofs.«01_k».proof.Proof.Attn.Frame
public import proofs.«01_k».proof.Proof.Gen.ReferenceIdeal.Run
public import Idealize.ShloMosaic.Lib.Quiescent

@[expose] public section

set_option maxRecDepth 16384
set_option maxHeartbeats 1000000

noncomputable section

namespace Cert.Proof

open Idealize.ShloMosaic Idealize.SL.Sem

attribute [local instance] Cert.Kernel.Gen.facts Cert.KernelIdeal.Gen.facts Cert.ReferenceIdeal.Gen.facts

/-- The two printings of the kernel have one body: the row of the body table that a grid point calls. -/
theorem row (t) (s) : Cert.Kernel.defs₀ (F := Bits) .tc (0 : Fin 1) (t, s) = Cert.KernelIdeal.defs₀ (F := Bits) .tc (0 : Fin 1) (t, s) :=
  rfl

/-- Hence one body table: there is a single label, and the other processors' rows do nothing in either. -/
theorem body_table : Cert.Kernel.defs₀ (F := Bits) = Cert.KernelIdeal.defs₀ (F := Bits) := by
  funext p ℓ a
  match p, ℓ, a with
  | .tc, (⟨0, _⟩ : Fin 1), (t, s) => exact row t s
  | .scScalar _, ℓ, a => rfl
  | .scVector _ _, ℓ, a => rfl

/-- And one table of procedures. -/
theorem table : Cert.Kernel.defs (F := Bits) = Cert.KernelIdeal.defs (F := Bits) :=
  congrArg (Pipeline.defs Cert.Kernel.pcfgs) body_table

/-- The kernel at machine floats. -/
theorem frame_kernel : Cert.quiescent_Kernel := by
  intro m ρ _
  rw [table]
  exact Cert.KernelIdeal.Attn.frame (F := Bits) m ρ

/-- The kernel at extended reals. -/
theorem frame_ideal : Cert.quiescent_KernelIdeal := fun m ρ _ => Cert.KernelIdeal.Attn.frame (F := Ideal) m ρ

/-- The reference at extended reals. -/
theorem frame_reference : Cert.quiescent_ReferenceIdeal := fun m ρ _ =>
  (θ_run Cert.ReferenceIdeal.defs _ _).mono
    (fun r h => ⟨fun c => (h c).2.2.2.2.2, sem_eq_zero_of_no_sems rfl r.2⟩) (Cert.ReferenceIdeal.Value.run (F := Ideal) m ρ)

end Cert.Proof

end
-- ==== Proof.Value.Spec.lean ====
/-
  The mathematics of the gradients of banded attention with a head norm, over the reals, one head at a time. A query row `t` attends
  to padded key rows `a`: key row `a` is row `a - 512` of the array, and rows below 512 are zero. Row `t` of chunk `n = t / 64` sees
  the 576 padded rows from `64 n` on. Kernel and reference are both proved equal to what is written here.
-/
module

public import Idealize.ShloMosaic.Lib.Pointwise
public import Idealize.ShloMosaic.Lib.IdealHost

@[expose] public section

noncomputable section

namespace Cert.Attn

open Idealize.ShloMosaic

/-! ## Extended reals that are reals -/

theorem lift_sum {n : ℕ} (f : Fin n → ℝ) : ∑ i, ((f i : ℝ) : EReal) = ((∑ i, f i : ℝ) : EReal) := by
  induction n with
  | zero => simp
  | succ n ih => rw [Fin.sum_univ_castSucc, Fin.sum_univ_castSucc, ih, EReal.coe_add]

theorem lift_div {x y : ℝ} (h : y ≠ 0) : Ideal.div (x : EReal) (y : EReal) = ((x / y : ℝ) : EReal) := by
  rw [Ideal.div_coe h, ← EReal.coe_mul, mul_one_div]

theorem lift_rsqrt {x : ℝ} (h : 0 < x) : Ideal.rsqrt (x : EReal) = (((Real.sqrt x)⁻¹ : ℝ) : EReal) := by
  rw [Ideal.rsqrt_coe, if_neg h.not_gt, if_neg h.ne']

theorem lift_mul (x y : ℝ) : (x : EReal) * (y : EReal) = ((x * y : ℝ) : EReal) := (EReal.coe_mul x y).symm
theorem lift_add (x y : ℝ) : (x : EReal) + (y : EReal) = ((x + y : ℝ) : EReal) := (EReal.coe_add x y).symm
theorem lift_sub (x y : ℝ) : (x : EReal) - (y : EReal) = ((x - y : ℝ) : EReal) := (EReal.coe_sub x y).symm
theorem lift_neg (x : ℝ) : -(x : EReal) = ((-x : ℝ) : EReal) := (EReal.coe_neg x).symm

/-- The constant added to the mean square. -/
def eps : ℝ := 10995116 / 2 ^ 40

theorem eps_pos : 0 < eps := by unfold eps; positivity

theorem ofBits_eps : Ideal.ofBits .f32 0x3727C5AC#32 = ((eps : ℝ) : EReal) := by
  simp [Ideal.ofBits, Ideal.ieee, eps, ← EReal.coe_mul]; norm_num
theorem ofBits_eighth : Ideal.ofBits .f32 0x3E000000#32 = ((1 / 8 : ℝ) : EReal) := by
  simp [Ideal.ofBits, Ideal.ieee, ← EReal.coe_mul]; norm_num
theorem ofBits_64 : Ideal.ofBits .f32 0x42800000#32 = ((64 : ℝ) : EReal) := by
  simp [Ideal.ofBits, Ideal.ieee, ← EReal.coe_mul]; norm_num
theorem ofBits_two : Ideal.ofBits .f32 0x40000000#32 = ((2 : ℝ) : EReal) := by
  simp [Ideal.ofBits, Ideal.ieee, ← EReal.coe_mul]; norm_num
theorem ofBits_half : Ideal.ofBits .f32 0xBF000000#32 = ((-(1 / 2) : ℝ) : EReal) := by
  simp [Ideal.ofBits, Ideal.ieee, ← EReal.coe_mul]; norm_num
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-! ## The arrays, and one head's probabilities -/

/-- The six arguments as real arrays. -/
structure Arrays where
  q : ℕ → ℕ → ℝ
  k : ℕ → ℕ → ℝ
  v : ℕ → ℕ → ℝ
  band : ℕ → ℕ → ℕ → ℝ
  gain : ℕ → ℝ
  ct : ℕ → ℕ → ℝ

variable (X : Arrays) (h : ℕ)

/-- Padded key row `a`. -/
def key (a d : ℕ) : ℝ := if 512 ≤ a then X.k (a - 512) (64 * h + d) else 0

/-- Padded value row `a`. -/
def val (a d : ℕ) : ℝ := if 512 ≤ a then X.v (a - 512) (64 * h + d) else 0

/-- The score of row `r` of chunk `n` against place `j` of its band. -/
def score (n r j : ℕ) : ℝ := (∑ d : Fin 64, X.q (64 * n + r) (64 * h + d) * key X h (64 * n + j) d) * (1 / 8) + X.band h r j

/-- The score, or minus infinity before the first frame. -/
def masked (n r j : ℕ) : EReal := if 512 ≤ 64 * n + j then ((score X h n r j : ℝ) : EReal) else ⊥

/-- The largest of a row. -/
def top (n r : ℕ) : EReal := Finset.univ.fold max ⊥ fun j : Fin 576 => masked X h n r j

/-- The exponential of a score less the largest. -/
def weight (n r j : ℕ) : ℝ := if 512 ≤ 64 * n + j then Real.exp (score X h n r j - (top X h n r).toReal) else 0

/-- The sum of a row's. -/
def total (n r : ℕ) : ℝ := ∑ j : Fin 576, weight X h n r j

/-- The probabilities of a chunk over its band. -/
def prob (n r j : ℕ) : ℝ := weight X h n r j / total X h n r

/-- The probability of query row `t` at padded key row `a`. -/
def P (t a : ℕ) : ℝ := if 64 * (t / 64) ≤ a ∧ a < 64 * (t / 64) + 576 then prob X h (t / 64) (t % 64) (a - 64 * (t / 64)) else 0

theorem masked_lt_top (n r j : ℕ) : masked X h n r j < ⊤ := by
  unfold masked; split
  · exact EReal.coe_lt_top _
  · exact bot_lt_top

theorem top_eq (n r : ℕ) : top X h n r = (((top X h n r).toReal : ℝ) : EReal) := by
  refine (EReal.coe_toReal (ne_of_lt ?_) (ne_of_gt ?_)).symm
  · exact (Finset.fold_max_lt _).mpr ⟨bot_lt_top, fun j _ => masked_lt_top X h n r j⟩
  · refine (Finset.lt_fold_max _).mpr (Or.inr ⟨⟨512, by decide⟩, Finset.mem_univ _, ?_⟩)
    unfold masked; rw [if_pos (by simp)]; exact EReal.bot_lt_coe _

/-- The exponential of a masked score less the largest is the weight. -/
theorem exp_masked (n r j : ℕ) : Ideal.exp (masked X h n r j - top X h n r) = ((weight X h n r j : ℝ) : EReal) := by
  rw [top_eq]; unfold masked weight; split
  · rw [lift_sub, Ideal.exp_coe]
  · rw [EReal.bot_sub, Ideal.exp_bot, EReal.coe_zero]

theorem weight_nonneg (n r j : ℕ) : 0 ≤ weight X h n r j := by
  unfold weight; split
  · exact (Real.exp_pos _).le
  · exact le_rfl

theorem total_pos (n r : ℕ) : 0 < total X h n r := by
  refine Finset.sum_pos' (fun j _ => weight_nonneg X h n r j) ⟨⟨512, by decide⟩, Finset.mem_univ _, ?_⟩
  unfold weight; rw [if_pos (by simp)]; exact Real.exp_pos _

theorem P_band (n : ℕ) (r : Fin 64) (j : Fin 576) : P X h (64 * n + r) (64 * n + j) = prob X h n r j := by
  have e : (64 * n + (r : ℕ)) / 64 = n := by omega
  have e' : (64 * n + (r : ℕ)) % 64 = r := by omega
  unfold P; rw [e, e', if_pos (by omega)]; congr 1; omega

theorem P_out (t a : ℕ) (ha : a < 64 * (t / 64) ∨ 64 * (t / 64) + 576 ≤ a) : P X h t a = 0 := by
  unfold P; rw [if_neg (by omega)]

/-- A sum over a window of the padded rows is the sum over all of them, where the rest is zero. -/
theorem sum_window (f : ℕ → ℝ) {off len N : ℕ} (hN : off + len ≤ N) (h0 : ∀ a, a < off ∨ off + len ≤ a → f a = 0) :
    ∑ c : Fin len, f (off + c) = ∑ a : Fin N, f a := by
  rw [Fin.sum_univ_eq_sum_range (fun c => f (off + c)) len, Fin.sum_univ_eq_sum_range f N]
  obtain ⟨k, rfl⟩ := Nat.exists_eq_add_of_le hN
  rw [Finset.sum_range_add, Finset.sum_range_add, Finset.sum_eq_zero (s := Finset.range off) fun a ha => h0 a (Or.inl (Finset.mem_range.mp ha)),
    Finset.sum_eq_zero (s := Finset.range k) fun a _ => h0 _ (Or.inr (Nat.le_add_right _ _)), zero_add, add_zero]

/-! ## One head's gradients -/

/-- The attention's output. -/
def out (t d : ℕ) : ℝ := ∑ a : Fin 2560, P X h t a * val X h a d

/-- The mean square of a row, with the constant. -/
def ms (t : ℕ) : ℝ := (∑ d : Fin 64, out X h t d * out X h t d) / 64 + eps

/-- The norm's factor. -/
def rr (t : ℕ) : ℝ := (Real.sqrt (ms X h t))⁻¹

/-- The gradient of the normed row. -/
def dy (t d : ℕ) : ℝ := X.ct t (64 * h + d) * X.gain (64 * h + d)

/-- The gradient of the attention's output. -/
def dout (t d : ℕ) : ℝ :=
  rr X h t * (dy X h t d - out X h t d * rr X h t * ((∑ e : Fin 64, dy X h t e * (out X h t e * rr X h t)) / 64))

/-- The gradient of the scores. -/
def ds (t a : ℕ) : ℝ := P X h t a * ((∑ d : Fin 64, dout X h t d * val X h a d) - ∑ d : Fin 64, dout X h t d * out X h t d)

/-- The query gradient. -/
def dq (t d : ℕ) : ℝ := (∑ a : Fin 2560, ds X h t a * key X h a d) * (1 / 8)

/-- The key gradient at padded row `a`. -/
def dk (a d : ℕ) : ℝ := ∑ t ∈ Finset.range 2048, ds X h t a * X.q t (64 * h + d) * (1 / 8)

/-- The value gradient at padded row `a`. -/
def dv (a d : ℕ) : ℝ := ∑ t ∈ Finset.range 2048, P X h t a * dout X h t d

/-- The gradient of the band's bias. -/
def dband (r j : ℕ) : ℝ := ∑ n ∈ Finset.range 32, ds X h (64 * n + r) (64 * n + j)

/-- The gain's gradient. -/
def dgain (d : ℕ) : ℝ := ∑ t ∈ Finset.range 2048, X.ct t (64 * h + d) * (out X h t d * rr X h t)

theorem ms_pos (t : ℕ) : 0 < ms X h t :=
  add_pos_of_nonneg_of_pos (div_nonneg (Finset.sum_nonneg fun _ _ => mul_self_nonneg _) (by norm_num)) eps_pos

theorem rr_mul_rr (t : ℕ) : rr X h t * rr X h t = 1 / ms X h t := by
  unfold rr; rw [← mul_inv, Real.mul_self_sqrt (ms_pos X h t).le, one_div]

theorem ds_out (t a : ℕ) (ha : a < 64 * (t / 64) ∨ 64 * (t / 64) + 576 ≤ a) : ds X h t a = 0 := by
  unfold ds; rw [P_out X h t a ha, zero_mul]

/-! ## The reference's forms: a chunk's band -/

theorem out_band {n : ℕ} (hn : n < 32) (r : Fin 64) (d : ℕ) :
    ∑ j : Fin 576, prob X h n r j * val X h (64 * n + j) d = out X h (64 * n + r) d := by
  unfold out
  rw [← sum_window (fun a => P X h (64 * n + r) a * val X h a d) (off := 64 * n) (len := 576) (by omega)
    fun a ha => by rw [P_out X h _ a (by omega), zero_mul]]
  exact Finset.sum_congr rfl fun j _ => by rw [P_band]

theorem dq_band {n : ℕ} (hn : n < 32) (r : Fin 64) (d : ℕ) :
    ∑ j : Fin 576, ds X h (64 * n + r) (64 * n + j) * (1 / 8) * key X h (64 * n + j) d = dq X h (64 * n + r) d := by
  unfold dq
  rw [← sum_window (fun a => ds X h (64 * n + r) a * key X h a d) (off := 64 * n) (len := 576) (by omega)
    fun a ha => by rw [ds_out X h _ a (by omega), zero_mul], Finset.sum_mul]
  exact Finset.sum_congr rfl fun j _ => by ring

/-- The gradient of the attention's output as the derivative of the norm gives it. -/
theorem dout_eq (t d : ℕ) : dy X h t d * rr X h t
      + (∑ e : Fin 64, out X h t e * dy X h t e) * (-(1 / 2) * (rr X h t / ms X h t)) / 64 * (2 * out X h t d) = dout X h t d := by
  have e : ∑ e : Fin 64, dy X h t e * (out X h t e * rr X h t) = rr X h t * ∑ e : Fin 64, out X h t e * dy X h t e := by
    rw [Finset.mul_sum]; exact Finset.sum_congr rfl fun _ _ => by ring
  unfold dout
  rw [e, div_eq_mul_one_div (rr X h t), ← rr_mul_rr]
  ring

/-- The gradient of the scores as the derivative of the softmax gives it. -/
theorem ds_eq {n : ℕ} (hn : n < 32) (r : Fin 64) (j : Fin 576) :
    ((∑ d : Fin 64, dout X h (64 * n + r) d * val X h (64 * n + j) d) / total X h n r
      + -(∑ i : Fin 576, (∑ d : Fin 64, dout X h (64 * n + r) d * val X h (64 * n + i) d) * (1 / (total X h n r * total X h n r)) * weight X h n r i))
      * weight X h n r j = ds X h (64 * n + r) (64 * n + j) := by
  have hz : total X h n r ≠ 0 := (total_pos X h n r).ne'
  have e : ∑ i : Fin 576, (∑ d : Fin 64, dout X h (64 * n + r) d * val X h (64 * n + i) d) * (1 / (total X h n r * total X h n r)) * weight X h n r i
      = (∑ d : Fin 64, dout X h (64 * n + r) d * out X h (64 * n + r) d) / total X h n r := by
    rw [Finset.sum_div]
    simp only [← out_band X h hn r, Finset.mul_sum, Finset.sum_mul, Finset.sum_div]
    rw [Finset.sum_comm]
    refine Finset.sum_congr rfl fun d _ => Finset.sum_congr rfl fun i _ => ?_
    unfold prob; field_simp
  rw [e]; unfold ds; rw [P_band]; unfold prob; field_simp; ring

/-- Rows by chunk. -/
theorem sum_chunks (f : ℕ → ℝ) (N : ℕ) : ∑ n ∈ Finset.range N, ∑ r : Fin 64, f (64 * n + r) = ∑ t ∈ Finset.range (64 * N), f t := by
  induction N with
  | zero => simp
  | succ N ih => rw [Finset.sum_range_succ, ih, Nat.mul_succ, Finset.sum_range_add, Fin.sum_univ_eq_sum_range (fun r => f (64 * N + r))]

/-- What nine shifted pieces of the band gradients add up to at padded row `64 b + s`: the sum over all query rows. -/
theorem sum_shifts (f : ℕ → ℕ → ℝ) (h0 : ∀ t a, a < 64 * (t / 64) ∨ 64 * (t / 64) + 576 ≤ a → f t a = 0) (b : ℕ) (s : Fin 64) :
    ∑ m ∈ Finset.range 9, (if m ≤ b ∧ b - m < 32 then ∑ r : Fin 64, f (64 * (b - m) + r) (64 * b + s) else 0)
      = ∑ t ∈ Finset.range 2048, f t (64 * b + s) := by
  rw [show 2048 = 64 * 32 from rfl, ← sum_chunks (fun t => f t (64 * b + s)) 32]
  have e : ∀ n ∈ Finset.range 32, ∑ r : Fin 64, f (64 * n + r) (64 * b + s)
      = ∑ m ∈ Finset.range 9, if n + m = b then ∑ r : Fin 64, f (64 * n + r) (64 * b + s) else 0 := by
    intro n _
    by_cases hb : n ≤ b ∧ b < n + 9
    · rw [Finset.sum_eq_single (b - n) (fun m _ hm => if_neg (by omega)) (fun hm => absurd (Finset.mem_range.mpr (by omega)) hm), if_pos (by omega)]
    · have z : ∑ r : Fin 64, f (64 * n + r) (64 * b + s) = 0 := Finset.sum_eq_zero fun r _ => h0 _ _ (by omega)
      rw [z]; simp
  rw [Finset.sum_congr rfl e, Finset.sum_comm]
  refine Finset.sum_congr rfl fun m _ => ?_
  by_cases hb : m ≤ b ∧ b - m < 32
  · rw [if_pos hb, Finset.sum_eq_single (b - m) (fun n _ hn => if_neg (by omega)) (fun hn => absurd (Finset.mem_range.mpr hb.2) hn), if_pos (by omega)]
  · rw [if_neg hb]
    exact (Finset.sum_eq_zero fun n hn => if_neg (by have := Finset.mem_range.mp hn; omega)).symm

/-! ## The kernel's forms: four chunks' union -/

theorem out_union {n : ℕ} (hn : n < 8) (r : Fin 256) (d : ℕ) :
    ∑ c : Fin 768, P X h (256 * n + r) (256 * n + c) * val X h (256 * n + c) d = out X h (256 * n + r) d :=
  sum_window (fun a => P X h (256 * n + r) a * val X h a d) (by omega) fun a ha => by rw [P_out X h _ a (by omega), zero_mul]

theorem dq_union {n : ℕ} (hn : n < 8) (r : Fin 256) (d : ℕ) :
    (∑ c : Fin 768, ds X h (256 * n + r) (256 * n + c) * key X h (256 * n + c) d) * (1 / 8) = dq X h (256 * n + r) d := by
  unfold dq
  rw [sum_window (fun a => ds X h (256 * n + r) a * key X h a d) (N := 2560) (by omega) fun a ha => by rw [ds_out X h _ a (by omega), zero_mul]]

end Cert.Attn

end
-- ==== Proof.Value.Host.lean ====
/-
  What the host operations before the call leave in its operands: the padded queries, keys and values, and the probabilities of
  every head, four chunks of 64 query rows laid on the 768 padded key rows they see together.
-/
module

public import proofs.«01_k».proof.Proof.Gen.KernelIdeal.Frame
public import proofs.«01_k».proof.Proof.Value.Spec

@[expose] public section

set_option maxRecDepth 16384

noncomputable section

namespace Cert.KernelIdeal.Attn

open Idealize.ShloMosaic Idealize.ShloMosaic.TcCoe Cert.KernelIdeal.Gen Cert.Attn StableHlo

/-! ## The operations as functions of vectors -/

/-- The softmax of the masked scores. -/
def softmax (s : FVec Ideal S32x16x64x576 .f32) : FVec Ideal S32x16x64x576 .f32 :=
  let M := maximumf (broadcastInDim S32x16x64 ![] bcast_S_S32x16x64 (constant (F := Ideal) S_ .f32 0xFF800000#32))
    (Host.reduce FloatOps.maximumf s (constant (F := Ideal) S_ .f32 0xFF800000#32) reducesTo_S32x16x64x576_S32x16x64_d3 h_S_)
  let E := Host.exp (subf s (broadcastInDim S32x16x64x576 ![0, 1, 2, 3] bcast_S32x16x64x1_S32x16x64x576_0_1_2_3
    (broadcastInDim S32x16x64x1 ![0, 1, 2] bcast_S32x16x64_S32x16x64x1_0_1_2 M)))
  Host.divf E (broadcastInDim S32x16x64x576 ![0, 1, 2, 3] bcast_S32x16x64x1_S32x16x64x576_0_1_2_3
    (broadcastInDim S32x16x64x1 ![0, 1, 2] bcast_S32x16x64_S32x16x64x1_0_1_2
      (Host.reduceAdd E (constant (F := Ideal) S_ .f32 0x00000000#32) reducesTo_S32x16x64x576_S32x16x64_d3 h_S_)))

/-- Four chunks' rows one under the other, head by head. -/
def stack (y0 y1 y2 y3 : FVec Ideal S8x16x1x64x768 .f32) : FVec Ideal S16x2048x768 .bf16 :=
  truncf .bf16 (shapeCast S16x2048x768 (transpose S16x8x4x64x768 [1, 0, 2, 3, 4]
    (concatenate S8x16x4x64x768 2 [⟨S8x16x1x64x768, y0⟩, ⟨S8x16x1x64x768, y1⟩, ⟨S8x16x1x64x768, y2⟩, ⟨S8x16x1x64x768, y3⟩]
      concatenates_S8x16x1x64x768_S8x16x1x64x768_S8x16x1x64x768_S8x16x1x64x768_S8x16x4x64x768_d2)
    transposes_S8x16x4x64x768_S16x8x4x64x768_1_0_2_3_4) shapeCasts_S16x8x4x64x768_S16x2048x768) bitsLt_bf16_f32

/-- Rows with a place for the chunk's number. -/
def row (x : FVec Ideal S8x16x64x768 .f32) : FVec Ideal S8x16x1x64x768 .f32 :=
  broadcastInDim S8x16x1x64x768 ![0, 1, 3, 4] bcast_S8x16x64x768_S8x16x1x64x768_0_1_3_4 x

/-- The zero the probabilities are padded with. -/
def padWith : FVec Ideal S_ .f32 := sitofp .f32 (constantI S_ 32 0#32)

/-- Each chunk's probabilities at its place among the 768 rows. -/
def place0 (p : FVec Ideal S8x4x16x64x576 .f32) : FVec Ideal S8x16x64x768 .f32 :=
  pad S8x16x64x768 ![0, 0, 0, 0] ![0, 0, 0, 192] ![0, 0, 0, 0]
    (shapeCast S8x16x64x576 (extractStridedSlice S8x1x16x64x576 ![0, 0, 0, 0, 0] p slices_S8x4x16x64x576_S8x1x16x64x576_0_0_0_0_0) shapeCasts_S8x1x16x64x576_S8x16x64x576)
    padWith pads_S8x16x64x576_S8x16x64x768_000_000_000_01920 h_S_
def place1 (p : FVec Ideal S8x4x16x64x576 .f32) : FVec Ideal S8x16x64x768 .f32 :=
  pad S8x16x64x768 ![0, 0, 0, 64] ![0, 0, 0, 128] ![0, 0, 0, 0]
    (shapeCast S8x16x64x576 (extractStridedSlice S8x1x16x64x576 ![0, 1, 0, 0, 0] p slices_S8x4x16x64x576_S8x1x16x64x576_0_1_0_0_0) shapeCasts_S8x1x16x64x576_S8x16x64x576)
    padWith pads_S8x16x64x576_S8x16x64x768_000_000_000_641280 h_S_
def place2 (p : FVec Ideal S8x4x16x64x576 .f32) : FVec Ideal S8x16x64x768 .f32 :=
  pad S8x16x64x768 ![0, 0, 0, 128] ![0, 0, 0, 64] ![0, 0, 0, 0]
    (shapeCast S8x16x64x576 (extractStridedSlice S8x1x16x64x576 ![0, 2, 0, 0, 0] p slices_S8x4x16x64x576_S8x1x16x64x576_0_2_0_0_0) shapeCasts_S8x1x16x64x576_S8x16x64x576)
    padWith pads_S8x16x64x576_S8x16x64x768_000_000_000_128640 h_S_
def place3 (p : FVec Ideal S8x4x16x64x576 .f32) : FVec Ideal S8x16x64x768 .f32 :=
  pad S8x16x64x768 ![0, 0, 0, 192] ![0, 0, 0, 0] ![0, 0, 0, 0]
    (shapeCast S8x16x64x576 (extractStridedSlice S8x1x16x64x576 ![0, 3, 0, 0, 0] p slices_S8x4x16x64x576_S8x1x16x64x576_0_3_0_0_0) shapeCasts_S8x1x16x64x576_S8x16x64x576)
    padWith pads_S8x16x64x576_S8x16x64x768_000_000_000_19200 h_S_

/-- The keys, 512 rows of zeros before them, in chunks of 64 rows. -/
def keyRows (k : FVec Ideal S2048x1024 .f32) : FVec Ideal S40x64x16x64 .f32 :=
  shapeCast S40x64x16x64 (concatenate S2560x16x64 0 [⟨S512x16x64, broadcastInDim S512x16x64 ![] bcast_S_S512x16x64 (constant (F := Ideal) S_ .f32 0x00000000#32)⟩,
    ⟨S2048x16x64, shapeCast S2048x16x64 k shapeCasts_S2048x1024_S2048x16x64⟩] concatenates_S512x16x64_S2048x16x64_S2560x16x64_d0) shapeCasts_S2560x16x64_S40x64x16x64

/-- Nine vectors one after the other: the rows every chunk sees. -/
def nine (x0 x1 x2 x3 x4 x5 x6 x7 x8 : FVec Ideal S32x64x16x64 .f32) : FVec Ideal S32x576x16x64 .f32 :=
  concatenate S32x576x16x64 1 [⟨S32x64x16x64, x0⟩, ⟨S32x64x16x64, x1⟩, ⟨S32x64x16x64, x2⟩, ⟨S32x64x16x64, x3⟩, ⟨S32x64x16x64, x4⟩, ⟨S32x64x16x64, x5⟩,
    ⟨S32x64x16x64, x6⟩, ⟨S32x64x16x64, x7⟩, ⟨S32x64x16x64, x8⟩]
    concatenates_S32x64x16x64_S32x64x16x64_S32x64x16x64_S32x64x16x64_S32x64x16x64_S32x64x16x64_S32x64x16x64_S32x64x16x64_S32x64x16x64_S32x576x16x64_d1

/-- The scores: the products by an eighth, with the band's bias. -/
def scores (q : FVec Ideal S2048x1024 .f32) (kk : FVec Ideal S32x576x16x64 .f32) (band : FVec Ideal S16x64x576 .f32) : FVec Ideal S32x16x64x576 .f32 :=
  addf (mulf (Host.dotGeneral dot_S32x64x16x64_S32x576x16x64_S32x16x64x576_3_3_1_1_02_02 none (shapeCast S32x64x16x64 q shapeCasts_S2048x1024_S32x64x16x64) kk)
      (broadcastInDim S32x16x64x576 ![] bcast_S_S32x16x64x576 (constant (F := Ideal) S_ .f32 0x3E000000#32)))
    (broadcastInDim S32x16x64x576 ![0, 1, 2, 3] bcast_S1x16x64x576_S32x16x64x576_0_1_2_3 (broadcastInDim S1x16x64x576 ![1, 2, 3] bcast_S16x64x576_S1x16x64x576_1_2_3 band))

/-- Which places of a band are frames. -/
def valid : IVec S32x1x1x576 1 :=
  cmpi .sge (broadcastInDim S32x1x1x576 ![0, 1, 2, 3] bcast_S1x1x1x576_S32x1x1x576_0_1_2_3 (broadcastInDim S1x1x1x576 ![3] bcast_S576_S1x1x1x576_3 (iotaInDim S576 32 0)))
    (broadcastInDim S32x1x1x576 ![0, 1, 2, 3] bcast_S32x1x1x1_S32x1x1x576_0_1_2_3 (muli (subi (broadcastInDim S32x1x1x1 ![] bcast_S_S32x1x1x1 (constantI S_ 32 8#32))
      (broadcastInDim S32x1x1x1 ![0] bcast_S32_S32x1x1x1_0 (iotaInDim S32 32 0))) (broadcastInDim S32x1x1x1 ![] bcast_S_S32x1x1x1 (constantI S_ 32 64#32))))

/-! ## What the lists of operations leave -/

variable (W : Valuation τ sig (Elt Ideal))

theorem read_v47 : after hostOps0_4 W (no_index (Proc.devRef .tc main_v47))
    = shapeCast S8x4x16x64x576 (softmax (W (Proc.devRef .tc main_v35))) shapeCasts_S32x16x64x576_S8x4x16x64x576 := by
  after_results_simp
  rfl

theorem read_v35 : after hostOps0_3 W (no_index (Proc.devRef .tc main_v35))
    = select (broadcastInDim S32x16x64x576 ![0, 1, 2, 3] bcast_S32x1x1x576_S32x16x64x576_0_1_2_3 (W (Proc.devRef .tc main_v34)))
      (W (Proc.devRef .tc main_v23)) (broadcastInDim S32x16x64x576 ![] bcast_S_S32x16x64x576 (W (Proc.devRef .tc main_cst_3))) := by
  after_results_simp
  rfl

theorem read_v49 : after hostOps0_4 W (no_index (Proc.devRef .tc main_v49))
    = shapeCast S8x16x64x576 (extractStridedSlice S8x1x16x64x576 ![0, 0, 0, 0, 0]
      (shapeCast S8x4x16x64x576 (softmax (W (Proc.devRef .tc main_v35))) shapeCasts_S32x16x64x576_S8x4x16x64x576)
      slices_S8x4x16x64x576_S8x1x16x64x576_0_0_0_0_0) shapeCasts_S8x1x16x64x576_S8x16x64x576 := by
  after_results_simp
  rfl

theorem read_c7 : after hostOps0_4 W (no_index (Proc.devRef .tc main_c_7)) = constantI S_ 32 0#32 := by
  after_results_simp

theorem read_rows (p : FVec Ideal S8x4x16x64x576 .f32) (h47 : W (Proc.devRef .tc main_v47) = p) (hc : W (Proc.devRef .tc main_c_7) = constantI S_ 32 0#32)
    (h49 : W (Proc.devRef .tc main_v49) = shapeCast S8x16x64x576 (extractStridedSlice S8x1x16x64x576 ![0, 0, 0, 0, 0] p
      slices_S8x4x16x64x576_S8x1x16x64x576_0_0_0_0_0) shapeCasts_S8x1x16x64x576_S8x16x64x576) :
    let W' := after (hostOps0_5 ++ hostOps0_6 ++ hostOps0_7 ++ hostOps0_8 ++ hostOps0_9 ++ hostOps0_10 ++ hostOps0_11) W
    W' (Proc.devRef .tc main_v50) = place0 p ∧ W' (Proc.devRef .tc main_v53) = place1 p ∧ W' (Proc.devRef .tc main_v56) = place2 p
      ∧ W' (Proc.devRef .tc main_v59) = place3 p := by
  simp only [List.cons_append, List.nil_append]
  refine ⟨?_, ?_, ?_, ?_⟩
  all_goals
    after_results_simp
    simp only [h47, h49, hc]
    rfl

theorem read_v67 : after hostOps0_12 W (Proc.devRef .tc main_v67)
    = stack (row (W (Proc.devRef .tc main_v50))) (row (W (Proc.devRef .tc main_v53))) (row (W (Proc.devRef .tc main_v56))) (row (W (Proc.devRef .tc main_v59))) := by
  have h : ∀ W' : Valuation τ sig (Elt Ideal), after (List.drop 4 hostOps0_12) W' (Proc.devRef .tc main_v67)
      = stack (W' (Proc.devRef .tc main_v60)) (W' (Proc.devRef .tc main_v61)) (W' (Proc.devRef .tc main_v62)) (W' (Proc.devRef .tc main_v63)) := fun W' => by
    simp only [List.drop_succ_cons, List.drop_zero]
    after_results_simp
    rfl
  have e : let W' := after (List.take 4 hostOps0_12) W
      W' (Proc.devRef .tc main_v60) = row (W (Proc.devRef .tc main_v50)) ∧ W' (Proc.devRef .tc main_v61) = row (W (Proc.devRef .tc main_v53))
      ∧ W' (Proc.devRef .tc main_v62) = row (W (Proc.devRef .tc main_v56)) ∧ W' (Proc.devRef .tc main_v63) = row (W (Proc.devRef .tc main_v59)) := by
    simp only [List.take_succ_cons, List.take_zero]
    repeat' apply And.intro
    all_goals after_results_simp
    all_goals rfl
  rw [show (hostOps0_12 : List (HloOp τ sig (Elt Ideal))) = List.take 4 hostOps0_12 ++ List.drop 4 hostOps0_12 from rfl, after_append, h,
    e.1, e.2.1, e.2.2.1, e.2.2.2]

/-- The first 56 operations: the padded operand, the scores, and where the frames are. -/
theorem read_v2 : after hostOps0_2 (after hostOps0_1 (after hostOps0 W)) (Proc.devRef .tc main_v2)
    = truncf .bf16 (pad S3072x3072 ![1024, 0] ![0, 0] ![0, 0] (concatenate S2048x3072 1 [⟨S2048x1024, W (Proc.devRef .tc main_arg0)⟩, ⟨S2048x1024, W (Proc.devRef .tc main_arg1)⟩,
      ⟨S2048x1024, W (Proc.devRef .tc main_arg2)⟩] concatenates_S2048x1024_S2048x1024_S2048x1024_S2048x3072_d1) padWith pads_S2048x3072_S3072x3072_102400_000 h_S_) bitsLt_bf16_f32 := by
  have e : after hostOps0 W (Proc.devRef .tc main_v0) = concatenate S2048x3072 1 [⟨S2048x1024, W (Proc.devRef .tc main_arg0)⟩, ⟨S2048x1024, W (Proc.devRef .tc main_arg1)⟩,
      ⟨S2048x1024, W (Proc.devRef .tc main_arg2)⟩] concatenates_S2048x1024_S2048x1024_S2048x1024_S2048x3072_d1 := by after_results_simp; rfl
  have ec : after hostOps0 W (Proc.devRef .tc main_c) = constantI S_ 32 0#32 := by after_results_simp
  generalize after hostOps0 W = W' at *
  after_results_simp
  rw [e, ec]; rfl

theorem read_keys : let W' := after (List.take 15 hostOps0_2) W
    W' (Proc.devRef .tc main_v7) = extractStridedSlice S32x64x16x64 ![0, 0, 0, 0] (keyRows (W (Proc.devRef .tc main_arg1))) slices_S40x64x16x64_S32x64x16x64_0_0_0_0
    ∧ W' (Proc.devRef .tc main_v8) = extractStridedSlice S32x64x16x64 ![1, 0, 0, 0] (keyRows (W (Proc.devRef .tc main_arg1))) slices_S40x64x16x64_S32x64x16x64_1_0_0_0
    ∧ W' (Proc.devRef .tc main_v9) = extractStridedSlice S32x64x16x64 ![2, 0, 0, 0] (keyRows (W (Proc.devRef .tc main_arg1))) slices_S40x64x16x64_S32x64x16x64_2_0_0_0
    ∧ W' (Proc.devRef .tc main_v10) = extractStridedSlice S32x64x16x64 ![3, 0, 0, 0] (keyRows (W (Proc.devRef .tc main_arg1))) slices_S40x64x16x64_S32x64x16x64_3_0_0_0
    ∧ W' (Proc.devRef .tc main_v11) = extractStridedSlice S32x64x16x64 ![4, 0, 0, 0] (keyRows (W (Proc.devRef .tc main_arg1))) slices_S40x64x16x64_S32x64x16x64_4_0_0_0
    ∧ W' (Proc.devRef .tc main_v12) = extractStridedSlice S32x64x16x64 ![5, 0, 0, 0] (keyRows (W (Proc.devRef .tc main_arg1))) slices_S40x64x16x64_S32x64x16x64_5_0_0_0
    ∧ W' (Proc.devRef .tc main_v13) = extractStridedSlice S32x64x16x64 ![6, 0, 0, 0] (keyRows (W (Proc.devRef .tc main_arg1))) slices_S40x64x16x64_S32x64x16x64_6_0_0_0
    ∧ W' (Proc.devRef .tc main_v14) = extractStridedSlice S32x64x16x64 ![7, 0, 0, 0] (keyRows (W (Proc.devRef .tc main_arg1))) slices_S40x64x16x64_S32x64x16x64_7_0_0_0
    ∧ W' (Proc.devRef .tc main_v15) = extractStridedSlice S32x64x16x64 ![8, 0, 0, 0] (keyRows (W (Proc.devRef .tc main_arg1))) slices_S40x64x16x64_S32x64x16x64_8_0_0_0
    ∧ W' (Proc.devRef .tc main_arg0) = W (Proc.devRef .tc main_arg0) ∧ W' (Proc.devRef .tc main_arg3) = W (Proc.devRef .tc main_arg3) := by
  simp only [List.take_succ_cons, List.take_zero]
  repeat' apply And.intro
  all_goals after_results_simp
  all_goals rfl

theorem read_scores : let W' := after (List.drop 15 hostOps0_2) W
    W' (Proc.devRef .tc main_v23) = scores (W (Proc.devRef .tc main_arg0)) (nine (W (Proc.devRef .tc main_v7)) (W (Proc.devRef .tc main_v8)) (W (Proc.devRef .tc main_v9))
      (W (Proc.devRef .tc main_v10)) (W (Proc.devRef .tc main_v11)) (W (Proc.devRef .tc main_v12)) (W (Proc.devRef .tc main_v13)) (W (Proc.devRef .tc main_v14))
      (W (Proc.devRef .tc main_v15))) (W (Proc.devRef .tc main_arg3))
    ∧ W' (Proc.devRef .tc main_v34) = valid ∧ W' (Proc.devRef .tc main_cst_3) = constant (F := Ideal) S_ .f32 0xFF800000#32 := by
  simp only [List.drop_succ_cons, List.drop_zero]
  repeat' apply And.intro
  all_goals after_results_simp
  all_goals rfl

/-! ## The two operands -/

variable (m : (ℓ : Loc nD τ sig) → Buf (Elt Ideal) ℓ) (c : Dev nD)

/-- The masked scores of the arguments. -/
def maskedScores : FVec Ideal S32x16x64x576 .f32 :=
  let kk := keyRows (m (c, main_arg1))
  select (broadcastInDim S32x16x64x576 ![0, 1, 2, 3] bcast_S32x1x1x576_S32x16x64x576_0_1_2_3 valid)
    (scores (m (c, main_arg0)) (nine (extractStridedSlice S32x64x16x64 ![0, 0, 0, 0] kk slices_S40x64x16x64_S32x64x16x64_0_0_0_0)
      (extractStridedSlice S32x64x16x64 ![1, 0, 0, 0] kk slices_S40x64x16x64_S32x64x16x64_1_0_0_0)
      (extractStridedSlice S32x64x16x64 ![2, 0, 0, 0] kk slices_S40x64x16x64_S32x64x16x64_2_0_0_0)
      (extractStridedSlice S32x64x16x64 ![3, 0, 0, 0] kk slices_S40x64x16x64_S32x64x16x64_3_0_0_0)
      (extractStridedSlice S32x64x16x64 ![4, 0, 0, 0] kk slices_S40x64x16x64_S32x64x16x64_4_0_0_0)
      (extractStridedSlice S32x64x16x64 ![5, 0, 0, 0] kk slices_S40x64x16x64_S32x64x16x64_5_0_0_0)
      (extractStridedSlice S32x64x16x64 ![6, 0, 0, 0] kk slices_S40x64x16x64_S32x64x16x64_6_0_0_0)
      (extractStridedSlice S32x64x16x64 ![7, 0, 0, 0] kk slices_S40x64x16x64_S32x64x16x64_7_0_0_0)
      (extractStridedSlice S32x64x16x64 ![8, 0, 0, 0] kk slices_S40x64x16x64_S32x64x16x64_8_0_0_0)) (m (c, main_arg3)))
    (broadcastInDim S32x16x64x576 ![] bcast_S_S32x16x64x576 (constant (F := Ideal) S_ .f32 0xFF800000#32))

/-- The padded operand. -/
def qkv : FVec Ideal S3072x3072 .bf16 :=
  truncf .bf16 (pad S3072x3072 ![1024, 0] ![0, 0] ![0, 0] (concatenate S2048x3072 1 [⟨S2048x1024, m (c, main_arg0)⟩, ⟨S2048x1024, m (c, main_arg1)⟩,
    ⟨S2048x1024, m (c, main_arg2)⟩] concatenates_S2048x1024_S2048x1024_S2048x1024_S2048x3072_d1) padWith pads_S2048x3072_S3072x3072_102400_000 h_S_) bitsLt_bf16_f32

/-- The probabilities' operand. -/
def probs : FVec Ideal S16x2048x768 .bf16 :=
  let p := shapeCast S8x4x16x64x576 (softmax (maskedScores m c)) shapeCasts_S32x16x64x576_S8x4x16x64x576
  stack (row (place0 p)) (row (place1 p)) (row (place2 p)) (row (place3 p))

/-- The lists after the first three leave the padded operand alone. -/
theorem keep_v2 : after (hostOps0_3 ++ hostOps0_4 ++ hostOps0_5 ++ hostOps0_6 ++ hostOps0_7 ++ hostOps0_8 ++ hostOps0_9 ++ hostOps0_10 ++ hostOps0_11 ++ hostOps0_12) W
    (Proc.devRef .tc main_v2) = W (Proc.devRef .tc main_v2) := by
  simp only [List.cons_append, List.nil_append]
  after_results_simp

/-- The first three lists leave the arguments alone. -/
theorem keep_args : let W' := after hostOps0_1 (after hostOps0 W)
    W' (Proc.devRef .tc main_arg0) = W (Proc.devRef .tc main_arg0) ∧ W' (Proc.devRef .tc main_arg1) = W (Proc.devRef .tc main_arg1)
      ∧ W' (Proc.devRef .tc main_arg3) = W (Proc.devRef .tc main_arg3) := by
  repeat' apply And.intro
  all_goals after_results_simp

theorem V_qkv : V m c main_v2 = qkv m c := by
  unfold V
  simp only [List.flatten_cons, List.flatten_nil, after_append]
  have h := keep_v2 (after hostOps0_2 (after hostOps0_1 (after hostOps0 fun b => m (c, b))))
  simp only [after_append] at h
  exact h.trans (read_v2 _)

theorem V_probs : V m c main_v67 = probs m c := by
  unfold V
  simp only [List.flatten_cons, List.flatten_nil, after_append]
  refine (read_v67 _).trans ?_
  have k := keep_args fun b => m (c, b)
  dsimp only at k
  generalize after hostOps0_1 (after hostOps0 fun b => m (c, b)) = W0 at *
  have hk := read_keys W0
  have hs := read_scores (after (List.take 15 hostOps0_2) W0)
  dsimp only at hk hs
  obtain ⟨h7, h8, h9, h10, h11, h12, h13, h14, h15, ha0, ha3⟩ := hk
  rw [h7, h8, h9, h10, h11, h12, h13, h14, h15, ha0, ha3, k.1, k.2.1, k.2.2, ← after_append, List.take_append_drop] at hs
  generalize after hostOps0_2 W0 = W2 at *
  have h35 := read_v35 W2
  rw [hs.1, hs.2.1, hs.2.2] at h35
  generalize after hostOps0_3 W2 = W3 at *
  have h47 := read_v47 W3
  have h49 := read_v49 W3
  have hc := read_c7 W3
  rw [h35] at h47 h49
  generalize after hostOps0_4 W3 = W4 at *
  have hr := read_rows W4 _ h47 hc h49
  simp only [after_append] at hr
  rw [hr.1, hr.2.1, hr.2.2.1, hr.2.2.2]
  rfl

end Cert.KernelIdeal.Attn

end
-- ==== Proof.Value.Band.lean ====
/-
  A chunk's band of rows, the mask of its places, and its softmax, at an index.
-/
module

public import proofs.«01_k».proof.Proof.Value.Host

@[expose] public section

set_option maxRecDepth 16384

noncomputable section

namespace Cert.KernelIdeal.Attn

open Idealize.ShloMosaic Idealize.ShloMosaic.TcCoe Cert.KernelIdeal.Gen Cert.Attn StableHlo

/-- The rows every chunk sees. -/
def bandRows (k : FVec Ideal S2048x1024 .f32) : FVec Ideal S32x576x16x64 .f32 :=
  let kk := keyRows k
  nine (extractStridedSlice S32x64x16x64 ![0, 0, 0, 0] kk slices_S40x64x16x64_S32x64x16x64_0_0_0_0)
    (extractStridedSlice S32x64x16x64 ![1, 0, 0, 0] kk slices_S40x64x16x64_S32x64x16x64_1_0_0_0)
    (extractStridedSlice S32x64x16x64 ![2, 0, 0, 0] kk slices_S40x64x16x64_S32x64x16x64_2_0_0_0)
    (extractStridedSlice S32x64x16x64 ![3, 0, 0, 0] kk slices_S40x64x16x64_S32x64x16x64_3_0_0_0)
    (extractStridedSlice S32x64x16x64 ![4, 0, 0, 0] kk slices_S40x64x16x64_S32x64x16x64_4_0_0_0)
    (extractStridedSlice S32x64x16x64 ![5, 0, 0, 0] kk slices_S40x64x16x64_S32x64x16x64_5_0_0_0)
    (extractStridedSlice S32x64x16x64 ![6, 0, 0, 0] kk slices_S40x64x16x64_S32x64x16x64_6_0_0_0)
    (extractStridedSlice S32x64x16x64 ![7, 0, 0, 0] kk slices_S40x64x16x64_S32x64x16x64_7_0_0_0)
    (extractStridedSlice S32x64x16x64 ![8, 0, 0, 0] kk slices_S40x64x16x64_S32x64x16x64_8_0_0_0)

variable {x : FVec Ideal S2048x1024 .f32} {f : ℕ → ℕ → ℝ} (hx : ∀ (t : Fin 2048) (l : Fin 1024), x (ix2 t l) = ((f t l : ℝ) : EReal))
include hx

theorem keyRows_at (b : Fin 40) (s : Fin 64) (h : Fin 16) (d : Fin 64) :
    keyRows x (ix4 b s h d) = (((if 512 ≤ 64 * (b : ℕ) + s then f (64 * b + s - 512) (64 * h + d) else 0 : ℝ)) : EReal) := by
  pointwise [keyRows]
  by_cases hb : 512 ≤ 64 * (b : ℕ) + s
  · rw [dif_neg (by omega), if_pos hb, hx]
    simp only [mul_comm]
  · rw [dif_pos (by omega), if_neg hb, EReal.coe_zero]

theorem bandRows_at (n : Fin 32) (j : Fin 576) (h : Fin 16) (d : Fin 64) :
    bandRows x (ix4 n j h d) = (((if 512 ≤ 64 * (n : ℕ) + j then f (64 * n + j - 512) (64 * h + d) else 0 : ℝ)) : EReal) := by
  have e : ∀ (b : Fin 40) (s : Fin 64), 64 * (b : ℕ) + s = 64 * n + j → keyRows x (ix4 b s h d)
      = (((if 512 ≤ 64 * (n : ℕ) + j then f (64 * n + j - 512) (64 * h + d) else 0 : ℝ)) : EReal) := fun b s hb => by
    rw [keyRows_at hx, hb]
  pointwise [bandRows, nine]
  split
  · exact e _ _ (by simp)
  iterate 7
    split
    · exact e _ _ (by simp; omega)
  exact e _ _ (by simp; omega)

omit hx

theorem valid_at : ∀ (n : Fin 32) (j : Fin 576), valid (ix4 n 0 0 j) = BitVec.ofBool (decide (512 ≤ 64 * (n : ℕ) + j)) := by
  have e : ∀ (n : Fin 32) (j : Fin 576), IntOp.cmpi CmpIPredicate.sge (BitVec.ofNat 32 j) (IntOp.muli (IntOp.subi (8#32) (BitVec.ofNat 32 n)) 64#32)
      = BitVec.ofBool (decide (512 ≤ 64 * (n : ℕ) + j)) := by decide +kernel
  intro n j
  pointwise [valid]
  exact e n j

/-- The largest score of every row. -/
def rowMax (s : FVec Ideal S32x16x64x576 .f32) : FVec Ideal S32x16x64 .f32 :=
  maximumf (broadcastInDim S32x16x64 ![] bcast_S_S32x16x64 (constant (F := Ideal) S_ .f32 0xFF800000#32))
    (Host.reduce FloatOps.maximumf s (constant (F := Ideal) S_ .f32 0xFF800000#32) reducesTo_S32x16x64x576_S32x16x64_d3 h_S_)

theorem max_at (a b : FVec Ideal S32x16x64 .f32) (z : S32x16x64.Idx) : maximumf a b z = max (a z) (b z) := rfl

theorem rowMax_at (s : FVec Ideal S32x16x64x576 .f32) (n : Fin 32) (h : Fin 16) (r : Fin 64) :
   rowMax s (ix3 n h r) = Finset.fold max ⊥ (fun x => s (ix4 n h r x)) Finset.univ := by
  rw [rowMax, max_at]
  generalize hb : Host.reduce FloatOps.maximumf s (constant (F := Ideal) S_ .f32 0xFF800000#32) reducesTo_S32x16x64x576_S32x16x64_d3 h_S_ = b
  pointwise []
  rw [ofBits_bot, max_eq_right bot_le, ← hb]
  pointwise []
  rw [ofBits_bot]

/-- The exponentials of the scores less the largest. -/
def expo (s : FVec Ideal S32x16x64x576 .f32) : FVec Ideal S32x16x64x576 .f32 :=
  Host.exp (subf s (broadcastInDim S32x16x64x576 ![0, 1, 2, 3] bcast_S32x16x64x1_S32x16x64x576_0_1_2_3
    (broadcastInDim S32x16x64x1 ![0, 1, 2] bcast_S32x16x64_S32x16x64x1_0_1_2 (rowMax s))))

theorem expo_at {s : FVec Ideal S32x16x64x576 .f32} {X : Arrays} (n : Fin 32) (h : Fin 16) (r : Fin 64)
    (hs : ∀ j : Fin 576, s (ix4 n h r j) = masked X h n r j) (j : Fin 576) : expo s (ix4 n h r j) = ((weight X h n r j : ℝ) : EReal) := by
  pointwise [expo]
  rw [rowMax_at]
  simp only [hs]
  exact exp_masked X h n r j

theorem softmax_at {s : FVec Ideal S32x16x64x576 .f32} {X : Arrays} (n : Fin 32) (h : Fin 16) (r : Fin 64)
    (hs : ∀ j : Fin 576, s (ix4 n h r j) = masked X h n r j) (j : Fin 576) : softmax s (ix4 n h r j) = ((prob X h n r j : ℝ) : EReal) := by
  show Host.divf (expo s) (broadcastInDim S32x16x64x576 ![0, 1, 2, 3] bcast_S32x16x64x1_S32x16x64x576_0_1_2_3
    (broadcastInDim S32x16x64x1 ![0, 1, 2] bcast_S32x16x64_S32x16x64x1_0_1_2
      (Host.reduceAdd (expo s) (constant (F := Ideal) S_ .f32 0x00000000#32) reducesTo_S32x16x64x576_S32x16x64_d3 h_S_))) _ = _
  pointwise []
  simp only [expo_at n h r hs, lift_sum]
  exact lift_div (total_pos X h n r).ne'

end Cert.KernelIdeal.Attn

end
-- ==== Proof.Value.Place.lean ====
/-
  The probabilities laid out for the kernel: every chunk's band at its place among the 768 rows its step sees, zero outside.
-/
module

public import proofs.«01_k».proof.Proof.Value.Host

@[expose] public section

set_option maxRecDepth 16384

noncomputable section

namespace Cert.KernelIdeal.Attn

open Idealize.ShloMosaic Idealize.ShloMosaic.TcCoe Cert.KernelIdeal.Gen Cert.Attn StableHlo

/-- The probabilities of every chunk. -/
def HoldsProbs (X : Arrays) (p : FVec Ideal S8x4x16x64x576 .f32) : Prop :=
  ∀ (i : Fin 8) (a : Fin 4) (h : Fin 16) (r : Fin 64) (j : Fin 576), p (ix5 i a h r j) = ((prob X h (4 * i + a) r j : ℝ) : EReal)

theorem zero_word : (FloatOps.sitofp .f32 (0#32) : Ideal .f32) = 0 := by
  show (((0#32 : BitVec 32).toInt : ℝ) : EReal) = 0
  simp

section

variable {X : Arrays} {p : FVec Ideal S8x4x16x64x576 .f32} (hp : HoldsProbs X p)
include hp

theorem hit (i : Fin 8) (a : Fin 4) (h : Fin 16) (r : Fin 64) (j : Fin 576) {t e : ℕ} (ht : 64 * (4 * (i : ℕ) + a) + r = t)
    (he : 64 * (a : ℕ) + j = e) : p (ix5 i a h r j) = ((P X h t (256 * i + e) : ℝ) : EReal) := by
  rw [hp, ← P_band, ht]; congr 2; omega

theorem place0_at (i : Fin 8) (h : Fin 16) (r : Fin 64) (e : Fin 768) :
    place0 p (ix4 i h r e) = ((P X h (256 * i + r) (256 * i + e) : ℝ) : EReal) := by
  pointwise [place0, padWith]
  by_cases he : (e : ℕ) < 576
  · rw [dif_pos (by omega)]
    exact hit hp _ _ _ _ _ (by simp; omega) (by simp)
  · rw [dif_neg (by omega), P_out X h _ _ (by omega), EReal.coe_zero]
    exact zero_word

theorem place1_at (i : Fin 8) (h : Fin 16) (r : Fin 64) (e : Fin 768) :
    place1 p (ix4 i h r e) = ((P X h (256 * i + 64 + r) (256 * i + e) : ℝ) : EReal) := by
  pointwise [place1, padWith]
  by_cases he : 64 ≤ (e : ℕ) ∧ (e : ℕ) - 64 < 576
  · rw [dif_pos (by omega)]
    exact hit hp _ _ _ _ _ (by simp; omega) (by simp; omega)
  · rw [dif_neg (by omega), P_out X h _ _ (by omega), EReal.coe_zero]
    exact zero_word

theorem place2_at (i : Fin 8) (h : Fin 16) (r : Fin 64) (e : Fin 768) :
    place2 p (ix4 i h r e) = ((P X h (256 * i + 128 + r) (256 * i + e) : ℝ) : EReal) := by
  pointwise [place2, padWith]
  by_cases he : 128 ≤ (e : ℕ) ∧ (e : ℕ) - 128 < 576
  · rw [dif_pos (by omega)]
    exact hit hp _ _ _ _ _ (by simp; omega) (by simp; omega)
  · rw [dif_neg (by omega), P_out X h _ _ (by omega), EReal.coe_zero]
    exact zero_word

theorem place3_at (i : Fin 8) (h : Fin 16) (r : Fin 64) (e : Fin 768) :
    place3 p (ix4 i h r e) = ((P X h (256 * i + 192 + r) (256 * i + e) : ℝ) : EReal) := by
  pointwise [place3, padWith]
  by_cases he : 192 ≤ (e : ℕ)
  · rw [dif_pos (by omega)]
    exact hit hp _ _ _ _ _ (by simp; omega) (by simp; omega)
  · rw [dif_neg (by omega), P_out X h _ _ (by omega), EReal.coe_zero]
    exact zero_word

omit hp

/-- The stacked rows, by the chunk of the row. -/
theorem stack_at (y0 y1 y2 y3 : FVec Ideal S8x16x64x768 .f32) (h : Fin 16) (t : Fin 2048) (e : Fin 768) :
    stack (row y0) (row y1) (row y2) (row y3) (ix3 h t e)
      = if (t : ℕ) / 64 % 4 < 1 then y0 (ix4 ⟨t / 256, by omega⟩ h ⟨t % 64, by omega⟩ e)
        else if (t : ℕ) / 64 % 4 - 1 < 1 then y1 (ix4 ⟨t / 256, by omega⟩ h ⟨t % 64, by omega⟩ e)
        else if (t : ℕ) / 64 % 4 - 1 - 1 < 1 then y2 (ix4 ⟨t / 256, by omega⟩ h ⟨t % 64, by omega⟩ e)
        else y3 (ix4 ⟨t / 256, by omega⟩ h ⟨t % 64, by omega⟩ e) := by
  pointwise [stack, row]
  rfl

include hp

theorem stacked_at (h : Fin 16) (t : Fin 2048) (e : Fin 768) :
    stack (row (place0 p)) (row (place1 p)) (row (place2 p)) (row (place3 p)) (ix3 h t e) = ((P X h t (256 * (t / 256) + e) : ℝ) : EReal) := by
  rw [stack_at, place0_at hp, place1_at hp, place2_at hp, place3_at hp]
  split
  · congr 2; simp only; omega
  split
  · congr 2; simp only; omega
  split
  · congr 2; simp only; omega
  · congr 2; simp only; omega

end

end Cert.KernelIdeal.Attn

end
-- ==== Proof.Value.HostAt.lean ====
/-
  The values of the two operands the host prepares: where the arguments hold real arrays, the padded operand holds those arrays
  below 1024 rows of zeros, and the probabilities' operand holds the probabilities.
-/
module

public import proofs.«01_k».proof.Proof.Value.Band
public import proofs.«01_k».proof.Proof.Value.Place

@[expose] public section

set_option maxRecDepth 16384

noncomputable section

namespace Cert.KernelIdeal.Attn

open Idealize.ShloMosaic Idealize.ShloMosaic.TcCoe Cert.KernelIdeal.Gen Cert.Attn StableHlo

/-- The scores and their mask, at an index. -/
theorem scores_at {X : Arrays} {q k : FVec Ideal S2048x1024 .f32} {band : FVec Ideal S16x64x576 .f32}
    (hq : ∀ (t : Fin 2048) (l : Fin 1024), q (ix2 t l) = ((X.q t l : ℝ) : EReal)) (hk : ∀ (t : Fin 2048) (l : Fin 1024), k (ix2 t l) = ((X.k t l : ℝ) : EReal))
    (hb : ∀ (h : Fin 16) (r : Fin 64) (j : Fin 576), band (ix3 h r j) = ((X.band h r j : ℝ) : EReal)) (n : Fin 32) (h : Fin 16) (r : Fin 64) (j : Fin 576) :
    scores q (bandRows k) band (ix4 n h r j) = ((score X h n r j : ℝ) : EReal) := by
  pointwise [scores]
  simp only [hq, bandRows_at hk, hb, ofBits_eighth, lift_mul, lift_sum, lift_add, mul_comm _ 64]
  rfl

theorem masked_at {X : Arrays} {s : FVec Ideal S32x16x64x576 .f32} (n : Fin 32) (h : Fin 16) (r : Fin 64) (j : Fin 576)
    (hs : s (ix4 n h r j) = ((score X h n r j : ℝ) : EReal)) :
    select (broadcastInDim S32x16x64x576 ![0, 1, 2, 3] bcast_S32x1x1x576_S32x16x64x576_0_1_2_3 valid) s
      (broadcastInDim S32x16x64x576 ![] bcast_S_S32x16x64x576 (constant (F := Ideal) S_ .f32 0xFF800000#32)) (ix4 n h r j) = masked X h n r j := by
  pointwise []
  rw [valid_at, hs, ofBits_bot]
  unfold masked
  by_cases e : 512 ≤ 64 * (n : ℕ) + j <;> simp [e, Scalar.select]

/-- The arguments hold these arrays. -/
structure Given (X : Arrays) (q k v : FVec Ideal S2048x1024 .f32) (band : FVec Ideal S16x64x576 .f32) (gain : FVec Ideal S1x1024 .f32)
    (ct : FVec Ideal S2048x1024 .f32) : Prop where
  q : ∀ (t : Fin 2048) (l : Fin 1024), q (ix2 t l) = ((X.q t l : ℝ) : EReal)
  k : ∀ (t : Fin 2048) (l : Fin 1024), k (ix2 t l) = ((X.k t l : ℝ) : EReal)
  v : ∀ (t : Fin 2048) (l : Fin 1024), v (ix2 t l) = ((X.v t l : ℝ) : EReal)
  band : ∀ (h : Fin 16) (r : Fin 64) (j : Fin 576), band (ix3 h r j) = ((X.band h r j : ℝ) : EReal)
  gain : ∀ l : Fin 1024, gain (ix2 0 l) = ((X.gain l : ℝ) : EReal)
  ct : ∀ (t : Fin 2048) (l : Fin 1024), ct (ix2 t l) = ((X.ct t l : ℝ) : EReal)

variable {m : (ℓ : Loc nD τ sig) → Buf (Elt Ideal) ℓ} {c : Dev nD} {X : Arrays}
  (G : Given X (m (c, main_arg0)) (m (c, main_arg1)) (m (c, main_arg2)) (m (c, main_arg3)) (m (c, main_arg4)) (m (c, main_arg5)))
include G

theorem maskedScores_at (n : Fin 32) (h : Fin 16) (r : Fin 64) (j : Fin 576) : maskedScores m c (ix4 n h r j) = masked X h n r j :=
  masked_at n h r j (scores_at G.q G.k G.band n h r j)

theorem probs_at (h : Fin 16) (t : Fin 2048) (e : Fin 768) : probs m c (ix3 h t e) = ((P X h t (256 * (t / 256) + e) : ℝ) : EReal) := by
  refine stacked_at (fun i a h r j => ?_) h t e
  have s := softmax_at (X := X) (⟨4 * (i : ℕ) + a, by omega⟩ : Fin 32) h r (maskedScores_at G _ h r) j
  generalize softmax (maskedScores m c) = S at *
  pointwise []
  rw [← s]
  congr 2
  simp [mul_comm]

theorem qkv_at (a l : Fin 3072) : qkv m c (ix2 a l) = (((if 1024 ≤ (a : ℕ) then
    (if (l : ℕ) < 1024 then X.q (a - 1024) l else if (l : ℕ) < 2048 then X.k (a - 1024) (l - 1024) else X.v (a - 1024) (l - 2048)) else 0 : ℝ)) : EReal) := by
  obtain ⟨hq, hk, hv, _, _, _⟩ := G
  unfold qkv
  generalize m (c, main_arg0) = q at *
  generalize m (c, main_arg1) = k at *
  generalize m (c, main_arg2) = v at *
  pointwise [padWith]
  by_cases ha : 1024 ≤ (a : ℕ)
  · rw [dif_pos (by omega), if_pos ha]
    by_cases h0 : (l : ℕ) < 1024
    · rw [dif_pos h0, if_pos h0, hq]
    · rw [dif_neg h0, if_neg h0]
      by_cases h1 : (l : ℕ) < 2048
      · rw [dif_pos (by omega), if_pos h1, hk]
      · rw [dif_neg (by omega), if_neg h1, hv]
        congr 2
  · rw [dif_neg (by omega), if_neg ha, EReal.coe_zero]
    exact zero_word

end Cert.KernelIdeal.Attn

end
-- ==== Proof.Value.Finite.lean ====
/-
  The precondition says of every argument element that its absolute value is below infinity: it is a real number. With the six
  arrays of those numbers the arguments are `Given`.
-/
module

public import proofs.«01_k».proof.Defs
public import proofs.«01_k».proof.Proof.Gen.KernelIdeal
public import proofs.«01_k».proof.Proof.Gen.Pre_finite
public import proofs.«01_k».proof.Proof.Value.HostAt

@[expose] public section

set_option maxRecDepth 16384

noncomputable section

namespace Cert.Attn

open Idealize.ShloMosaic Idealize.ShloMosaic.TcCoe
open Cert.KernelIdeal.Attn (Given)

attribute [local instance] Cert.Pre_finite.Gen.facts

/-- An extended real of absolute value below infinity is a real number. -/
theorem real_of_lt {x : EReal} (h : Ideal.cmp .olt (max x (-x)) ⊤ = 1#1) : x = ((x.toReal : ℝ) : EReal) := by
  have e : max x (-x) < ⊤ := by
    by_contra hn
    simp [Ideal.cmp, hn] at h
  refine (EReal.coe_toReal (fun hx => ?_) (fun hx => ?_)).symm
  · exact absurd ((le_max_left _ _).trans_lt e) (by simp [hx])
  · exact absurd ((le_max_right _ _).trans_lt e) (by simp [hx])

/-- The test of a whole array, at one index. -/
theorem real_at {s : Shape} {x : FVec Ideal s .f32} {b : (⟨0, ![]⟩ : Shape).BroadcastsInDim s ![]}
    (h : cmpf .olt (Host.absf x) (broadcastInDim s ![] b (constant (F := Ideal) ⟨0, ![]⟩ .f32 0x7F800000#32)) = fun _ => 1#1) (i : s.Idx) :
    x i = (((x i).toReal : ℝ) : EReal) :=
  real_of_lt (by rw [← ofBits_top]; exact congrFun h i)

/-- The real numbers the six arrays hold. -/
def numbers (q k v : FVec Ideal Cert.KernelIdeal.S2048x1024 .f32) (band : FVec Ideal Cert.KernelIdeal.S16x64x576 .f32)
    (gain : FVec Ideal Cert.KernelIdeal.S1x1024 .f32) (ct : FVec Ideal Cert.KernelIdeal.S2048x1024 .f32) : Arrays where
  q t l := if e : t < 2048 ∧ l < 1024 then EReal.toReal (q (ix2 ⟨t, e.1⟩ ⟨l, e.2⟩)) else 0
  k t l := if e : t < 2048 ∧ l < 1024 then EReal.toReal (k (ix2 ⟨t, e.1⟩ ⟨l, e.2⟩)) else 0
  v t l := if e : t < 2048 ∧ l < 1024 then EReal.toReal (v (ix2 ⟨t, e.1⟩ ⟨l, e.2⟩)) else 0
  band h r j := if e : h < 16 ∧ r < 64 ∧ j < 576 then EReal.toReal (band (ix3 ⟨h, e.1⟩ ⟨r, e.2.1⟩ ⟨j, e.2.2⟩)) else 0
  gain l := if e : l < 1024 then EReal.toReal (gain (ix2 0 ⟨l, e⟩)) else 0
  ct t l := if e : t < 2048 ∧ l < 1024 then EReal.toReal (ct (ix2 ⟨t, e.1⟩ ⟨l, e.2⟩)) else 0

/-- Under the precondition the arguments are those numbers. -/
theorem given {q k v : FVec Ideal Cert.KernelIdeal.S2048x1024 .f32} {band : FVec Ideal Cert.KernelIdeal.S16x64x576 .f32}
    {gain : FVec Ideal Cert.KernelIdeal.S1x1024 .f32} {ct : FVec Ideal Cert.KernelIdeal.S2048x1024 .f32}
    (h : (Cert.Pre_finite.fn (F := Ideal) q k v band gain ct).1 = (fun _ => 1#1)
      ∧ (Cert.Pre_finite.fn (F := Ideal) q k v band gain ct).2.1 = (fun _ => 1#1)
      ∧ (Cert.Pre_finite.fn (F := Ideal) q k v band gain ct).2.2.1 = (fun _ => 1#1)
      ∧ (Cert.Pre_finite.fn (F := Ideal) q k v band gain ct).2.2.2.1 = (fun _ => 1#1)
      ∧ (Cert.Pre_finite.fn (F := Ideal) q k v band gain ct).2.2.2.2.1 = (fun _ => 1#1)
      ∧ (Cert.Pre_finite.fn (F := Ideal) q k v band gain ct).2.2.2.2.2 = (fun _ => 1#1)) :
    Given (numbers q k v band gain ct) q k v band gain ct where
  q t l := (real_at h.1 _).trans (by simp [numbers])
  k t l := (real_at h.2.1 _).trans (by simp [numbers])
  v t l := (real_at h.2.2.1 _).trans (by simp [numbers])
  band a r j := (real_at h.2.2.2.1 _).trans (by simp [numbers])
  gain l := (real_at h.2.2.2.2.1 _).trans (by simp [numbers])
  ct t l := (real_at h.2.2.2.2.2 _).trans (by simp [numbers])

end Cert.Attn

end
-- ==== Proof.Value.Head.lean ====
/-
  One head of one grid point of the kernel, where what it holds is real: the gradients it computes are those of the mathematics,
  for the 256 query rows from `256 n` on and the 768 padded key rows from `256 n` on.
-/
module

public import proofs.«01_k».proof.Proof.Attn.Step
public import proofs.«01_k».proof.Proof.Value.Spec

@[expose] public section

set_option maxRecDepth 16384

noncomputable section

namespace Cert.KernelIdeal.Attn

open Idealize.ShloMosaic Cert.KernelIdeal.Gen Cert.Attn

/-- What the head's blocks hold. -/
structure Holds (X : Arrays) (h n : ℕ) (p : Vec Ideal S1x256x768 .bf16) (v : Vec Ideal S768x64 .bf16) (d : Vec Ideal S256x64 .f32)
    (g : Vec Ideal S1x64 .f32) : Prop where
  small : n < 8
  probs : ∀ (r : Fin 256) (c : Fin 768), p (ix3 0 r c) = ((P X h (256 * n + r) (256 * n + c) : ℝ) : EReal)
  value : ∀ (c : Fin 768) (e : Fin 64), v (ix2 c e) = ((val X h (256 * n + c) e : ℝ) : EReal)
  grad : ∀ (r : Fin 256) (e : Fin 64), d (ix2 r e) = ((X.ct (256 * n + r) (64 * h + e) : ℝ) : EReal)
  gain : ∀ e : Fin 64, g (ix2 0 e) = ((X.gain (64 * h + e) : ℝ) : EReal)

variable {X : Arrays} {h n : ℕ} {p : Vec Ideal S1x256x768 .bf16} {v : Vec Ideal S768x64 .bf16} {d : Vec Ideal S256x64 .f32}
  {g : Vec Ideal S1x64 .f32} (H : Holds X h n p v d g)
include H

theorem pay16_at (r : Fin 256) (e : Fin 64) : k0_pay16 p v (ix2 r e) = ((out X h (256 * n + r) e : ℝ) : EReal) := by
  pointwise [k0_pay16, k0_pay13, k0_pay15]
  simp only [H.probs, H.value, lift_mul, lift_sum]
  rw [out_union X h H.small]

theorem pay17_at (r : Fin 256) : k0_pay17 p v (ix2 r 0) = ((rr X h (256 * n + r) : ℝ) : EReal) := by
  pointwise [k0_pay17]
  simp only [pay16_at H, lift_mul, lift_sum]
  rw [ofBits_64, ofBits_eps, lift_div (by norm_num), lift_add]
  exact lift_rsqrt (ms_pos X h _)

/-- The output's gradient, through the norm. -/
theorem pay21_at (r : Fin 256) (e : Fin 64) :
    k0_pay21 (k0_pay17 p v) (k0_pay18 p v) d (k0_pay20 g) (ix2 r e) = ((dout X h (256 * n + r) e : ℝ) : EReal) := by
  pointwise [k0_pay21, k0_pay18, k0_pay20]
  simp only [pay16_at H, pay17_at H, H.grad, H.gain, ofBits_64, lift_mul, lift_sum]
  rw [lift_div (by norm_num), lift_mul, lift_sub, lift_mul]
  rfl

/-- The gradient of the scores. -/
theorem pay23_at (r : Fin 256) (c : Fin 768) :
    k0_pay23 (k0_pay14 p) (k0_pay15 v) (k0_pay16 p v) (k0_pay17 p v) (k0_pay18 p v) d (k0_pay20 g) (ix2 r c)
      = ((ds X h (256 * n + r) (256 * n + c) : ℝ) : EReal) := by
  pointwise [k0_pay23, k0_pay22, k0_pay14, k0_pay13, k0_pay15]
  simp only [pay16_at H, pay21_at H, H.probs, H.value, lift_mul, lift_sum, lift_sub]
  rfl

theorem headDq_at {k : Vec Ideal S768x64 .bf16} (hk : ∀ (c : Fin 768) (e : Fin 64), k (ix2 c e) = ((key X h (256 * n + c) e : ℝ) : EReal))
    (r : Fin 256) (e : Fin 64) : headDq p v d g k (ix2 r e) = ((dq X h (256 * n + r) e : ℝ) : EReal) := by
  pointwise [headDq, k0_pay26, k0_pay25]
  simp only [pay23_at H, hk, ofBits_eighth, lift_mul, lift_sum]
  rw [dq_union X h H.small]

theorem headGain_at {old : Vec Ideal S1x64 .f32} {x : ℝ} {e : Fin 64} (ho : old (ix2 0 e) = (x : EReal)) :
    headGain p v d old (ix2 0 e)
      = ((x + ∑ r : Fin 256, X.ct (256 * n + r) (64 * h + e) * (out X h (256 * n + r) e * rr X h (256 * n + r)) : ℝ) : EReal) := by
  pointwise [headGain, k0_pay19, k0_pay18]
  simp only [pay16_at H, pay17_at H, H.grad, ho, lift_mul, lift_sum, lift_add]

theorem headTab_at {old : Vec Ideal S1x256x768 .f32} {x : ℝ} {r : Fin 256} {c : Fin 768} (ho : old (ix3 0 r c) = (x : EReal)) :
    headTab p v d g old (ix3 0 r c) = ((x + ds X h (256 * n + r) (256 * n + c) : ℝ) : EReal) := by
  pointwise [headTab, k0_pay24]
  rw [ho, pay23_at H, lift_add]

theorem headDk_at {q : Vec Ideal S256x64 .bf16} (hq : ∀ (r : Fin 256) (e : Fin 64), q (ix2 r e) = ((X.q (256 * n + r) (64 * h + e) : ℝ) : EReal))
    {old : Vec Ideal S768x64 .f32} {x : ℝ} {c : Fin 768} {e : Fin 64} (ho : old (ix2 c e) = (x : EReal)) :
    headDk p v d g q old (ix2 c e)
      = ((x + ∑ r : Fin 256, ds X h (256 * n + r) (256 * n + c) * X.q (256 * n + r) (64 * h + e) * (1 / 8) : ℝ) : EReal) := by
  pointwise [headDk, k0_pay28, k0_pay27, k0_pay25]
  simp only [pay23_at H, hq, ho, ofBits_eighth, lift_mul, lift_sum, lift_add, Finset.sum_mul]

theorem headDv_at {old : Vec Ideal S768x64 .f32} {x : ℝ} {c : Fin 768} {e : Fin 64} (ho : old (ix2 c e) = (x : EReal)) :
    headDv p v d g old (ix2 c e)
      = ((x + ∑ r : Fin 256, P X h (256 * n + r) (256 * n + c) * dout X h (256 * n + r) e : ℝ) : EReal) := by
  pointwise [headDv, headDo, k0_pay29, k0_pay22, k0_pay13]
  simp only [pay21_at H, H.probs, ho, lift_mul, lift_sum, lift_add]

end Cert.KernelIdeal.Attn

end
-- ==== Proof.Value.Acc.lean ====
/-
  One grid point of the kernel adds its 256 query rows to the accumulators of a pair of heads: where the blocks hold the arrays'
  values and the accumulators the sums over the rows before, they hold the sums over one step more.
-/
module

public import proofs.«01_k».proof.Proof.Value.Head
public import Idealize.ShloMosaic.Lib.Pipeline.ValueKit

@[expose] public section

set_option maxRecDepth 16384

noncomputable section

namespace Cert.KernelIdeal.Attn

open Idealize.ShloMosaic Cert.KernelIdeal.Gen Cert.Attn
open Idealize.ShloMosaic.VecWindow (window put)

/-! ## Windows of vectors given by their indices -/

theorem window2 {A C a c : ℕ} {x : (⟨2, ![A, C]⟩ : Shape).Idx → EReal} {f : ℕ → ℕ → EReal} (hx : ∀ z, x z = f (z 0).val (z 1).val)
    {off : Fin 2 → ℕ} (inb) (r : Fin a) (e : Fin c) : window x off ![a, c] inb (ix2 r e) = f (off 0 + r) (off 1 + e) := by
  refine (hx _).trans ?_
  rw [ValueKit.rect_emb_unit_val, ValueKit.rect_emb_unit_val]; rfl

theorem window3 {A B C a b c : ℕ} {x : (⟨3, ![A, B, C]⟩ : Shape).Idx → EReal} {f : ℕ → ℕ → ℕ → EReal}
    (hx : ∀ z, x z = f (z 0).val (z 1).val (z 2).val) {off : Fin 3 → ℕ} (inb) (u : Fin a) (r : Fin b) (e : Fin c) :
    window x off ![a, b, c] inb (ix3 u r e) = f (off 0 + u) (off 1 + r) (off 2 + e) := by
  refine (hx _).trans ?_
  rw [ValueKit.rect_emb_unit_val, ValueKit.rect_emb_unit_val, ValueKit.rect_emb_unit_val]; rfl

/-- Two heads' lanes of the same rows. -/
theorem lanes_at {A a o : ℕ} {x : (⟨2, ![A, 128]⟩ : Shape).Idx → EReal} {w₀ w₁ : (⟨2, ![a, 64]⟩ : Shape).Idx → EReal} {f : ℕ → ℕ → EReal}
    (hx : ∀ z, (z 0).val < o ∨ o + a ≤ (z 0).val → x z = f (z 0).val (z 1).val)
    (h₀ : ∀ (r : Fin a) (e : Fin 64), w₀ (ix2 r e) = f (o + r) e) (h₁ : ∀ (r : Fin a) (e : Fin 64), w₁ (ix2 r e) = f (o + r) (64 + e))
    (z : (⟨2, ![A, 128]⟩ : Shape).Idx) :
    put (put x ![o, 0] ![a, 64] w₀) ![o, 64] ![a, 64] w₁ z = f (z 0).val (z 1).val := by
  have hz : (z 1).val < 128 := (z 1).isLt
  by_cases hr : o ≤ (z 0).val ∧ (z 0).val < o + a
  · by_cases hl : (z 1).val < 64
    · have n₁ : ¬∀ b : Fin 2, (![o, 64] : Fin 2 → ℕ) b ≤ (z b).val ∧ (z b).val < (![o, 64] : Fin 2 → ℕ) b + (![a, 64] : Fin 2 → ℕ) b := fun h => by
        have := (h 1).1; simp at this; omega
      have y₀ : ∀ b : Fin 2, (![o, 0] : Fin 2 → ℕ) b ≤ (z b).val ∧ (z b).val < (![o, 0] : Fin 2 → ℕ) b + (![a, 64] : Fin 2 → ℕ) b :=
        Fin.forall_fin_two.mpr ⟨hr, by simpa using hl⟩
      refine (dif_neg n₁).trans ((dif_pos y₀).trans (((congrArg w₀ (eq_ix2 _)).trans (h₀ _ _)).trans ?_))
      show f (o + ((z 0).val - o)) ((z 1).val - 0) = _
      rw [Nat.add_sub_cancel' hr.1, Nat.sub_zero]
    · have y₁ : ∀ b : Fin 2, (![o, 64] : Fin 2 → ℕ) b ≤ (z b).val ∧ (z b).val < (![o, 64] : Fin 2 → ℕ) b + (![a, 64] : Fin 2 → ℕ) b :=
        Fin.forall_fin_two.mpr ⟨hr, show 64 ≤ (z 1).val ∧ (z 1).val < 64 + 64 by omega⟩
      refine (dif_pos y₁).trans (((congrArg w₁ (eq_ix2 _)).trans (h₁ _ _)).trans ?_)
      show f (o + ((z 0).val - o)) (64 + ((z 1).val - 64)) = _
      rw [Nat.add_sub_cancel' hr.1, Nat.add_sub_cancel' (by omega)]
  · exact (dif_neg fun h => hr (h 0)).trans ((dif_neg fun h => hr (h 0)).trans (hx z (by omega)))

/-- Two heads' pages. -/
theorem pages_at {R C : ℕ} {x : (⟨3, ![2, R, C]⟩ : Shape).Idx → EReal} {w₀ w₁ : (⟨3, ![1, R, C]⟩ : Shape).Idx → EReal} {f : ℕ → ℕ → ℕ → EReal}
    (h₀ : ∀ (r : Fin R) (c : Fin C), w₀ (ix3 0 r c) = f 0 r c) (h₁ : ∀ (r : Fin R) (c : Fin C), w₁ (ix3 0 r c) = f 1 r c)
    (z : (⟨3, ![2, R, C]⟩ : Shape).Idx) :
    put (put x ![0, 0, 0] ![1, R, C] w₀) ![1, 0, 0] ![1, R, C] w₁ z = f (z 0).val (z 1).val (z 2).val := by
  have hz : (z 0).val < 2 := (z 0).isLt
  have hr : (z 1).val < R := (z 1).isLt
  have hc : (z 2).val < C := (z 2).isLt
  by_cases hp : (z 0).val < 1
  · have n₁ : ¬∀ b : Fin 3, (![1, 0, 0] : Fin 3 → ℕ) b ≤ (z b).val ∧ (z b).val < (![1, 0, 0] : Fin 3 → ℕ) b + (![1, R, C] : Fin 3 → ℕ) b := fun h => by
      have := (h 0).1; simp at this; omega
    have y₀ : ∀ b : Fin 3, (![0, 0, 0] : Fin 3 → ℕ) b ≤ (z b).val ∧ (z b).val < (![0, 0, 0] : Fin 3 → ℕ) b + (![1, R, C] : Fin 3 → ℕ) b := by
      intro b; fin_cases b
      · exact ⟨Nat.zero_le _, by simpa using hp⟩
      · exact ⟨Nat.zero_le _, by simpa using hr⟩
      · exact ⟨Nat.zero_le _, by simpa using hc⟩
    refine (dif_neg n₁).trans ((dif_pos y₀).trans ?_)
    rw [show (Rect.unitLocal z y₀) = ix3 (0 : Fin 1) ⟨(z 1).val, hr⟩ ⟨(z 2).val, hc⟩ from by
      funext b; fin_cases b
      · exact Fin.ext (by show (z 0).val - 0 = 0; omega)
      · rfl
      · rfl]
    rw [show (z 0).val = 0 by omega]; exact h₀ _ _
  · have y₁ : ∀ b : Fin 3, (![1, 0, 0] : Fin 3 → ℕ) b ≤ (z b).val ∧ (z b).val < (![1, 0, 0] : Fin 3 → ℕ) b + (![1, R, C] : Fin 3 → ℕ) b := by
      intro b; fin_cases b
      · exact ⟨show 1 ≤ (z 0).val by omega, show (z 0).val < 1 + 1 by omega⟩
      · exact ⟨Nat.zero_le _, by simpa using hr⟩
      · exact ⟨Nat.zero_le _, by simpa using hc⟩
    refine (dif_pos y₁).trans ?_
    rw [show (Rect.unitLocal z y₁) = ix3 (0 : Fin 1) ⟨(z 1).val, hr⟩ ⟨(z 2).val, hc⟩ from by
      funext b; fin_cases b
      · exact Fin.ext (by show (z 0).val - 1 = 0; omega)
      · rfl
      · rfl]
    rw [show (z 0).val = 1 by omega]; exact h₁ _ _

/-! ## What the blocks and the accumulators hold -/

/-- The blocks of step `n` of the pair of heads `2 u`, `2 u + 1`. -/
structure Loads (X : Arrays) (u n : ℕ) (B : Blocks Ideal) : Prop where
  small : n < 8
  q : ∀ z, B.q z = ((X.q (256 * n + (z 0).val) (128 * u + (z 1).val) : ℝ) : EReal)
  k : ∀ z, B.k z = ((if 1024 ≤ (z 0).val then X.k ((z 0).val - 1024) (128 * u + (z 1).val) else 0 : ℝ) : EReal)
  v : ∀ z, B.v z = ((if 1024 ≤ (z 0).val then X.v ((z 0).val - 1024) (128 * u + (z 1).val) else 0 : ℝ) : EReal)
  p : ∀ z, B.p z = ((P X (2 * u + (z 0).val) (256 * n + (z 1).val) (256 * n + (z 2).val) : ℝ) : EReal)
  g : ∀ z, B.g z = ((X.gain (128 * u + (z 1).val) : ℝ) : EReal)
  d : ∀ z, B.d z = ((X.ct (256 * n + (z 0).val) (128 * u + (z 1).val) : ℝ) : EReal)

section
variable (X : Arrays) (u n a r c l : ℕ)
/-- The sums over the query rows below `256 n` of the pair's gradients. Lane `l` is lane `l % 64` of head `2 u + l / 64`. -/
def gainSum : ℝ := ∑ t ∈ Finset.range (256 * n), X.ct t (64 * (2 * u + l / 64) + l % 64) * (out X (2 * u + l / 64) t (l % 64) * rr X (2 * u + l / 64) t)
def tabSum : ℝ := ∑ m ∈ Finset.range n, ds X (2 * u + a) (256 * m + r) (256 * m + c)
def dkSum : ℝ := ∑ t ∈ Finset.range (256 * n), ds X (2 * u + l / 64) t a * X.q t (64 * (2 * u + l / 64) + l % 64) * (1 / 8)
def dvSum : ℝ := ∑ t ∈ Finset.range (256 * n), P X (2 * u + l / 64) t a * dout X (2 * u + l / 64) t (l % 64)
end

/-- The accumulators of the pair after the query rows below `256 n`. -/
structure Sums (X : Arrays) (u n : ℕ) (s : Acc Ideal) : Prop where
  dg : ∀ z, s.dg z = ((gainSum X u n (z 1).val : ℝ) : EReal)
  tab : ∀ z, s.tab z = ((tabSum X u n (z 0).val (z 1).val (z 2).val : ℝ) : EReal)
  dk : ∀ z, s.dk z = ((dkSum X u n (z 0).val (z 1).val : ℝ) : EReal)
  dv : ∀ z, s.dv z = ((dvSum X u n (z 0).val (z 1).val : ℝ) : EReal)

theorem sums_cleared (X : Arrays) (u : ℕ) : Sums X u 0 cleared := by
  constructor <;> intro z
  · rw [gainSum]; idx_vars z; pointwise [cleared, k0_pay12]; simp
  · rw [tabSum]; idx_vars z; pointwise [cleared, k0_pay11]; simp
  · rw [dkSum]; idx_vars z; pointwise [cleared, k0_pay9]; simp
  · rw [dvSum]; idx_vars z; pointwise [cleared, k0_pay10]; simp

variable {X : Arrays} {u n : ℕ} {B : Blocks Ideal} (L : Loads X u n B) {i : grid0.Coords} (hi : (i 1).val = n)

theorem lane0 (e : Fin 64) : 2 * u + (e : ℕ) / 64 = 2 * u ∧ (e : ℕ) % 64 = e := by omega
theorem lane1 (e : Fin 64) : 2 * u + (64 + (e : ℕ)) / 64 = 2 * u + 1 ∧ (64 + (e : ℕ)) % 64 = e := by omega

theorem key_row (a l : ℕ) (X : Arrays) (h d : ℕ) (hl : l = 64 * h + d) :
    (if 1024 ≤ a + 512 then X.k (a + 512 - 1024) l else 0) = key X h a d ∧ (if 1024 ≤ a + 512 then X.v (a + 512 - 1024) l else 0) = val X h a d := by
  subst hl; unfold key val
  by_cases h' : 512 ≤ a
  · rw [if_pos (by omega), if_pos h', if_pos (by omega), if_pos h', show a + 512 - 1024 = a - 512 by omega]; exact ⟨rfl, rfl⟩
  · rw [if_neg (by omega), if_neg h', if_neg (by omega), if_neg h']; exact ⟨rfl, rfl⟩

include L hi

omit L in
theorem off1 : k0_off1 i 0 = 256 * n + 512 ∧ k0_off1 i 1 = 0 := by
  have hn : n < 8 := hi ▸ (i 1).isLt
  unfold k0_off1; rw [hi]; interval_cases n <;> exact ⟨rfl, rfl⟩
omit L in
theorem off3 : k0_off3 i 0 = 256 * n + 512 ∧ k0_off3 i 1 = 64 := by
  have hn : n < 8 := hi ▸ (i 1).isLt
  unfold k0_off3; rw [hi]; interval_cases n <;> exact ⟨rfl, rfl⟩
omit L in
theorem off2 : k0_off2 i = ![256 * n, 0] := by
  have hn : n < 8 := hi ▸ (i 1).isLt
  unfold k0_off2; rw [hi]; interval_cases n <;> rfl
omit L in
theorem off4 : k0_off4 i = ![256 * n, 64] := by
  have hn : n < 8 := hi ▸ (i 1).isLt
  unfold k0_off4; rw [hi]; interval_cases n <;> rfl

theorem k0_at (c : Fin 768) (e : Fin 64) : B.k0 i (ix2 c e) = ((key X (2 * u) (256 * n + c) e : ℝ) : EReal) := by
  refine (window2 (f := fun a l => ((if 1024 ≤ a then X.k (a - 1024) (128 * u + l) else 0 : ℝ) : EReal)) L.k _ c e).trans ?_
  rw [(off1 hi).1, (off1 hi).2, ← (key_row (256 * n + c) (128 * u + e) X (2 * u) e (by omega)).1, Nat.add_right_comm, Nat.zero_add]

theorem k1_at (c : Fin 768) (e : Fin 64) : B.k1 i (ix2 c e) = ((key X (2 * u + 1) (256 * n + c) e : ℝ) : EReal) := by
  refine (window2 (f := fun a l => ((if 1024 ≤ a then X.k (a - 1024) (128 * u + l) else 0 : ℝ) : EReal)) L.k _ c e).trans ?_
  rw [(off3 hi).1, (off3 hi).2, ← (key_row (256 * n + c) (128 * u + (64 + e)) X (2 * u + 1) e (by omega)).1, Nat.add_right_comm]

theorem v0_at (c : Fin 768) (e : Fin 64) : B.v0 i (ix2 c e) = ((val X (2 * u) (256 * n + c) e : ℝ) : EReal) := by
  refine (window2 (f := fun a l => ((if 1024 ≤ a then X.v (a - 1024) (128 * u + l) else 0 : ℝ) : EReal)) L.v _ c e).trans ?_
  rw [(off1 hi).1, (off1 hi).2, ← (key_row (256 * n + c) (128 * u + e) X (2 * u) e (by omega)).2, Nat.add_right_comm, Nat.zero_add]

theorem v1_at (c : Fin 768) (e : Fin 64) : B.v1 i (ix2 c e) = ((val X (2 * u + 1) (256 * n + c) e : ℝ) : EReal) := by
  refine (window2 (f := fun a l => ((if 1024 ≤ a then X.v (a - 1024) (128 * u + l) else 0 : ℝ) : EReal)) L.v _ c e).trans ?_
  rw [(off3 hi).1, (off3 hi).2, ← (key_row (256 * n + c) (128 * u + (64 + e)) X (2 * u + 1) e (by omega)).2, Nat.add_right_comm]

/-- The first head of the pair. -/
theorem holds0 : Holds X (2 * u) n B.p0 (B.v0 i) B.d0 B.g0 where
  small := L.small
  probs r c := (window3 (f := fun a r c => ((P X (2 * u + a) (256 * n + r) (256 * n + c) : ℝ) : EReal)) L.p _ 0 r c).trans (by simp)
  value := v0_at L hi
  grad r e := (window2 (f := fun r l => ((X.ct (256 * n + r) (128 * u + l) : ℝ) : EReal)) L.d _ r e).trans (by
    simp only [Matrix.cons_val_zero, Matrix.cons_val_one, Nat.zero_add]; rw [show 128 * u + (e : ℕ) = 64 * (2 * u) + e by omega])
  gain e := (window2 (f := fun _ l => ((X.gain (128 * u + l) : ℝ) : EReal)) L.g _ 0 e).trans (by
    simp only [Matrix.cons_val_zero, Matrix.cons_val_one, Nat.zero_add]; rw [show 128 * u + (e : ℕ) = 64 * (2 * u) + e by omega])

/-- The second. -/
theorem holds1 : Holds X (2 * u + 1) n B.p1 (B.v1 i) B.d1 B.g1 where
  small := L.small
  probs r c := (window3 (f := fun a r c => ((P X (2 * u + a) (256 * n + r) (256 * n + c) : ℝ) : EReal)) L.p _ 0 r c).trans (by simp)
  value := v1_at L hi
  grad r e := (window2 (f := fun r l => ((X.ct (256 * n + r) (128 * u + l) : ℝ) : EReal)) L.d _ r e).trans (by
    simp only [Matrix.cons_val_zero, Matrix.cons_val_one, Nat.zero_add]; rw [show 128 * u + (64 + (e : ℕ)) = 64 * (2 * u + 1) + e by omega])
  gain e := (window2 (f := fun _ l => ((X.gain (128 * u + l) : ℝ) : EReal)) L.g _ 0 e).trans (by
    simp only [Matrix.cons_val_zero, Matrix.cons_val_one, Nat.zero_add]; rw [show 128 * u + (64 + (e : ℕ)) = 64 * (2 * u + 1) + e by omega])

theorem q0_at (r : Fin 256) (e : Fin 64) : B.q0 (ix2 r e) = ((X.q (256 * n + r) (64 * (2 * u) + e) : ℝ) : EReal) :=
  (window2 (f := fun r l => ((X.q (256 * n + r) (128 * u + l) : ℝ) : EReal)) L.q _ r e).trans (by
    simp only [Matrix.cons_val_zero, Matrix.cons_val_one, Nat.zero_add]; rw [show 128 * u + (e : ℕ) = 64 * (2 * u) + e by omega])

theorem q1_at (r : Fin 256) (e : Fin 64) : B.q1 (ix2 r e) = ((X.q (256 * n + r) (64 * (2 * u + 1) + e) : ℝ) : EReal) :=
  (window2 (f := fun r l => ((X.q (256 * n + r) (128 * u + l) : ℝ) : EReal)) L.q _ r e).trans (by
    simp only [Matrix.cons_val_zero, Matrix.cons_val_one, Nat.zero_add]; rw [show 128 * u + (64 + (e : ℕ)) = 64 * (2 * u + 1) + e by omega])

/-! ## A step -/

omit L hi in
theorem rows_next (f : ℕ → ℝ) (n : ℕ) : ∑ t ∈ Finset.range (256 * (n + 1)), f t = ∑ t ∈ Finset.range (256 * n), f t + ∑ r : Fin 256, f (256 * n + r) := by
  rw [Nat.mul_succ, Finset.sum_range_add, Fin.sum_univ_eq_sum_range (fun r => f (256 * n + r))]

omit L hi in
/-- Padded key rows outside the union get nothing from the step. -/
theorem rows_same (f : ℕ → ℝ) (n : ℕ) (h0 : ∀ r : Fin 256, f (256 * n + r) = 0) :
    ∑ t ∈ Finset.range (256 * n), f t = ∑ t ∈ Finset.range (256 * (n + 1)), f t := by
  rw [rows_next, Finset.sum_eq_zero fun r _ => h0 r, add_zero]

/-- The query gradients of the step. -/
theorem dqOut_at (x : Vec Ideal S256x128 .bf16) (z) :
    dqOut i B x z = ((dq X (2 * u + (z 1).val / 64) (256 * n + (z 0).val) ((z 1).val % 64) : ℝ) : EReal) := by
  refine lanes_at (o := 0) (f := fun a l => ((dq X (2 * u + l / 64) (256 * n + a) (l % 64) : ℝ) : EReal))
    (fun z hz => absurd (z 0).isLt (by show ¬(z 0).val < 256; omega)) (fun r e => ?_) (fun r e => ?_) z
  · rw [(lane0 (u := u) e).1, (lane0 (u := u) e).2, Nat.zero_add]; exact headDq_at (holds0 L hi) (k0_at L hi) r e
  · rw [(lane1 (u := u) e).1, (lane1 (u := u) e).2, Nat.zero_add]; exact headDq_at (holds1 L hi) (k1_at L hi) r e

theorem sums_step {s : Acc Ideal} (S : Sums X u n s) : Sums X u (n + 1) (step i B s) where
  dg z := by
    rw [step_dg]
    refine lanes_at (o := 0) (f := fun _ l => ((gainSum X u (n + 1) l : ℝ) : EReal))
      (fun z hz => absurd (z 0).isLt (by show ¬(z 0).val < 1; omega)) (fun r e => ?_) (fun r e => ?_) z
    · unfold gainSum; rw [(lane0 (u := u) e).1, (lane0 (u := u) e).2, rows_next, Subsingleton.elim r 0]
      refine headGain_at (holds0 L hi) ((window2 (f := fun _ l => ((gainSum X u n l : ℝ) : EReal)) S.dg _ 0 e).trans ?_)
      simp only [Matrix.cons_val_one, Matrix.cons_val_zero, Nat.zero_add, gainSum]; rw [(lane0 (u := u) e).1, (lane0 (u := u) e).2]
    · unfold gainSum; rw [(lane1 (u := u) e).1, (lane1 (u := u) e).2, rows_next, Subsingleton.elim r 0]
      refine headGain_at (holds1 L hi) ((window2 (f := fun _ l => ((gainSum X u n l : ℝ) : EReal)) S.dg _ 0 e).trans ?_)
      simp only [Matrix.cons_val_one, Matrix.cons_val_zero, gainSum]; rw [(lane1 (u := u) e).1, (lane1 (u := u) e).2]
  tab z := by
    rw [step_tab]
    refine pages_at (f := fun a r c => ((tabSum X u (n + 1) a r c : ℝ) : EReal)) (fun r c => ?_) (fun r c => ?_) z
    · rw [tabSum, Finset.sum_range_succ]
      exact headTab_at (holds0 L hi) ((window3 (f := fun a r c => ((tabSum X u n a r c : ℝ) : EReal)) S.tab _ 0 r c).trans (by simp [tabSum]))
    · rw [tabSum, Finset.sum_range_succ]
      exact headTab_at (holds1 L hi) ((window3 (f := fun a r c => ((tabSum X u n a r c : ℝ) : EReal)) S.tab _ 0 r c).trans (by simp [tabSum]))
  dk z := by
    rw [step_dk]
    simp only [off2 hi, off4 hi]
    have hn := L.small
    refine lanes_at (o := 256 * n) (f := fun a l => ((dkSum X u (n + 1) a l : ℝ) : EReal)) (fun z hz => ?_) (fun c e => ?_) (fun c e => ?_) z
    · rw [S.dk, dkSum, dkSum, rows_same]
      intro r; rw [ds_out X _ _ _ (by omega), zero_mul, zero_mul]
    · unfold dkSum; rw [(lane0 (u := u) e).1, (lane0 (u := u) e).2, rows_next]
      refine headDk_at (holds0 L hi) (q0_at L hi) ((window2 (f := fun a l => ((dkSum X u n a l : ℝ) : EReal)) S.dk _ c e).trans ?_)
      simp only [off2 hi, Matrix.cons_val_one, Matrix.cons_val_zero, Nat.zero_add, dkSum]; rw [(lane0 (u := u) e).1, (lane0 (u := u) e).2]
    · unfold dkSum; rw [(lane1 (u := u) e).1, (lane1 (u := u) e).2, rows_next]
      refine headDk_at (holds1 L hi) (q1_at L hi) ((window2 (f := fun a l => ((dkSum X u n a l : ℝ) : EReal)) S.dk _ c e).trans ?_)
      simp only [off4 hi, Matrix.cons_val_one, Matrix.cons_val_zero, dkSum]; rw [(lane1 (u := u) e).1, (lane1 (u := u) e).2]
  dv z := by
    rw [step_dv]
    simp only [off2 hi, off4 hi]
    have hn := L.small
    refine lanes_at (o := 256 * n) (f := fun a l => ((dvSum X u (n + 1) a l : ℝ) : EReal)) (fun z hz => ?_) (fun c e => ?_) (fun c e => ?_) z
    · rw [S.dv, dvSum, dvSum, rows_same]
      intro r; rw [P_out X _ _ _ (by omega), zero_mul]
    · unfold dvSum; rw [(lane0 (u := u) e).1, (lane0 (u := u) e).2, rows_next]
      refine headDv_at (holds0 L hi) ((window2 (f := fun a l => ((dvSum X u n a l : ℝ) : EReal)) S.dv _ c e).trans ?_)
      simp only [off2 hi, Matrix.cons_val_one, Matrix.cons_val_zero, Nat.zero_add, dvSum]; rw [(lane0 (u := u) e).1, (lane0 (u := u) e).2]
    · unfold dvSum; rw [(lane1 (u := u) e).1, (lane1 (u := u) e).2, rows_next]
      refine headDv_at (holds1 L hi) ((window2 (f := fun a l => ((dvSum X u n a l : ℝ) : EReal)) S.dv _ c e).trans ?_)
      simp only [off4 hi, Matrix.cons_val_one, Matrix.cons_val_zero, dvSum]; rw [(lane1 (u := u) e).1, (lane1 (u := u) e).2]

/-! ## The band bias's gradient out of the table -/

omit L hi in
theorem four_chunks (f : ℕ → ℝ) (N : ℕ) :
    0 + ∑ m ∈ Finset.range N, f (4 * m) + ∑ m ∈ Finset.range N, f (4 * m + 1) + ∑ m ∈ Finset.range N, f (4 * m + 2) + ∑ m ∈ Finset.range N, f (4 * m + 3)
      = ∑ m ∈ Finset.range (4 * N), f m := by
  induction N with
  | zero => simp
  | succ N ih => rw [Nat.mul_succ, Finset.sum_range_add _ (4 * N), ← ih]; simp only [Finset.sum_range_succ, Finset.sum_range_zero, Nat.add_zero, zero_add]; ring

omit L hi in
theorem table_band (X : Arrays) (u a r j : ℕ) : tabSum X u 8 a (0 + r) (0 + j) + tabSum X u 8 a (64 + r) (64 + j)
    + tabSum X u 8 a (128 + r) (128 + j) + tabSum X u 8 a (192 + r) (192 + j) = dband X (2 * u + a) r j := by
  unfold dband
  have h := four_chunks (fun n => ds X (2 * u + a) (64 * n + r) (64 * n + j)) 8
  rw [zero_add] at h
  refine Eq.trans ?_ h
  unfold tabSum
  have e : ∀ o k, o = 64 * k → ∑ m ∈ Finset.range 8, ds X (2 * u + a) (256 * m + (o + r)) (256 * m + (o + j))
      = ∑ m ∈ Finset.range 8, ds X (2 * u + a) (64 * (4 * m + k) + r) (64 * (4 * m + k) + j) := fun o k h =>
    Finset.sum_congr rfl fun m _ => by rw [show 256 * m + (o + r) = 64 * (4 * m + k) + r by omega, show 256 * m + (o + j) = 64 * (4 * m + k) + j by omega]
  rw [e 0 0 rfl, e 64 1 rfl, e 128 2 rfl, e 192 3 rfl]; rfl

omit L hi in
theorem bandOut_at {s : Acc Ideal} (S : Sums X u 8 s) (x : Vec Ideal S2x64x576 .f32) (z) :
    bandOut s x z = ((dband X (2 * u + (z 0).val) (z 1).val (z 2).val : ℝ) : EReal) := by
  have W := fun (a o : ℕ) (inb) (r : Fin 64) (j : Fin 576) => (window3 (c := 576) (b := 64) (a := 1) (off := ![a, o, o])
    (f := fun a r c => ((tabSum X u 8 a r c : ℝ) : EReal)) S.tab inb 0 r j).trans
      (show _ = ((tabSum X u 8 a (o + r) (o + j) : ℝ) : EReal) from rfl)
  refine pages_at (f := fun a r j => ((dband X (2 * u + a) r j : ℝ) : EReal)) (fun r j => ?_) (fun r j => ?_) z
  · pointwise [k0_pay7]
    rw [W 0 0 _ r j, W 0 64 _ r j, W 0 128 _ r j, W 0 192 _ r j, lift_add, lift_add, lift_add, table_band]; rfl
  · pointwise [k0_pay4, k0_pay8]
    rw [W 1 0 _ r j, W 1 64 _ r j, W 1 128 _ r j, W 1 192 _ r j, lift_add, lift_add, lift_add, table_band]

end Cert.KernelIdeal.Attn

end
-- ==== Proof.Value.Loads.lean ====
/-
  What the blocks of every step hold: the rows and lanes of the real arrays that the step and its pair of heads ask for.
-/
module

public import proofs.«01_k».proof.Proof.Attn.Frame
public import proofs.«01_k».proof.Proof.Value.Acc
public import proofs.«01_k».proof.Proof.Value.HostAt

@[expose] public section

set_option maxRecDepth 16384

noncomputable section

namespace Cert.KernelIdeal.Attn

open Idealize.ShloMosaic Idealize.ShloMosaic.TcCoe Cert.KernelIdeal.Gen Cert.Attn
open Idealize.ShloMosaic.Pipeline (Dat)
open Idealize.ShloMosaic.VecWindow (window put)

/-- The blocks' places in their arrays: step `t % 8` of the pair `t / 8`. -/
theorem idx : ∀ t : Fin cfg0.N, win0_0.index t = ![t.val % 8 + 4, t.val / 8] ∧ win0_1.index t = ![0, 8 + t.val / 8] ∧ win0_2.index t = ![0, 16 + t.val / 8]
    ∧ win0_3.index t = ![t.val / 8, t.val % 8, 0] ∧ win0_4.index t = ![0, t.val / 8] ∧ win0_5.index t = ![t.val % 8, t.val / 8]
    ∧ win0_6.index t = ![t.val % 8, t.val / 8] ∧ win0_7.index t = ![0, t.val / 8] ∧ win0_8.index t = ![0, t.val / 8]
    ∧ win0_9.index t = ![t.val / 8, 0, 0] ∧ win0_10.index t = ![0, t.val / 8] ∧ (grid0.coords t 1).val = t.val % 8 :=
  (by decide +kernel : ∀ t : Fin grid0.N, _)

variable {m : (ℓ : Loc nD τ sig) → Buf (Elt Ideal) ℓ} {c : Dev nD} {X : Arrays}
  (G : Given X (m (c, main_arg0)) (m (c, main_arg1)) (m (c, main_arg2)) (m (c, main_arg3)) (m (c, main_arg4)) (m (c, main_arg5)))
include G

/-- The padded operand, by the coordinates of an index. -/
theorem operand_at (z : S3072x3072.Idx) {a l : ℕ} (ha : (z 0).val = a) (hl : (z 1).val = l) : V m c main_v2 z = (((if 1024 ≤ a then
    (if l < 1024 then X.q (a - 1024) l else if l < 2048 then X.k (a - 1024) (l - 1024) else X.v (a - 1024) (l - 2048)) else 0 : ℝ)) : EReal) := by
  rw [V_qkv, eq_ix2 z, ← ha, ← hl]
  exact qkv_at G (z 0) (z 1)

theorem table_at (z : S16x2048x768.Idx) {h t e : ℕ} (hh : (z 0).val = h) (ht : (z 1).val = t) (he : 256 * (t / 256) + (z 2).val = e) :
    V m c main_v67 z = ((P X h t e : ℝ) : EReal) := by
  rw [V_probs, eq_ix3 z, ← hh, ← he, ← ht]
  exact probs_at G (z 0) (z 1) (z 2)

theorem load_q (t : Fin cfg0.N) (z : S256x128.Idx) :
    iblk m c 0 t z = ((X.q (256 * (t.val % 8) + (z 0).val) (128 * (t.val / 8) + (z 1).val) : ℝ) : EReal) := by
  have ht : t.val < 64 := lt_of_lt_of_eq t.isLt N_0
  have h0 : (z 0).val < 256 := (z 0).isLt
  have h1 : (z 1).val < 128 := (z 1).isLt
  refine (operand_at G (((cfg0.win 0).blk t).view.emb z) (a := 256 * (t.val % 8) + (z 0).val + 1024) (l := 128 * (t.val / 8) + (z 1).val) ?_ ?_).trans ?_
  · blk_simp [idx t]; omega
  · blk_simp [idx t]; omega
  · rw [if_pos (by omega), if_pos (by omega), Nat.add_sub_cancel]

theorem load_k (t : Fin cfg0.N) (z : S3072x128.Idx) :
    iblk m c 1 t z = ((if 1024 ≤ (z 0).val then X.k ((z 0).val - 1024) (128 * (t.val / 8) + (z 1).val) else 0 : ℝ) : EReal) := by
  have ht : t.val < 64 := lt_of_lt_of_eq t.isLt N_0
  have h1 : (z 1).val < 128 := (z 1).isLt
  refine (operand_at G (((cfg0.win 1).blk t).view.emb z) (a := (z 0).val) (l := 128 * (t.val / 8) + (z 1).val + 1024) ?_ ?_).trans ?_
  · blk_simp [idx t]
  · blk_simp [idx t]; omega
  · rw [if_neg (show ¬128 * (t.val / 8) + (z 1).val + 1024 < 1024 by omega), if_pos (show 128 * (t.val / 8) + (z 1).val + 1024 < 2048 by omega), Nat.add_sub_cancel]

theorem load_v (t : Fin cfg0.N) (z : S3072x128.Idx) :
    iblk m c 2 t z = ((if 1024 ≤ (z 0).val then X.v ((z 0).val - 1024) (128 * (t.val / 8) + (z 1).val) else 0 : ℝ) : EReal) := by
  refine (operand_at G (((cfg0.win 2).blk t).view.emb z) (a := (z 0).val) (l := 128 * (t.val / 8) + (z 1).val + 2048) ?_ ?_).trans ?_
  · blk_simp [idx t]
  · blk_simp [idx t]; omega
  · rw [if_neg (show ¬128 * (t.val / 8) + (z 1).val + 2048 < 1024 by omega), if_neg (show ¬128 * (t.val / 8) + (z 1).val + 2048 < 2048 by omega), Nat.add_sub_cancel]

theorem load_p (t : Fin cfg0.N) (z : S2x256x768.Idx) : iblk m c 3 t z
    = ((P X (2 * (t.val / 8) + (z 0).val) (256 * (t.val % 8) + (z 1).val) (256 * (t.val % 8) + (z 2).val) : ℝ) : EReal) := by
  have h1 : (z 1).val < 256 := (z 1).isLt
  refine table_at G (((cfg0.win 3).blk t).view.emb z) (t := 256 * (t.val % 8) + (z 1).val) ?_ ?_ ?_
  · blk_simp [idx t]; omega
  · blk_simp [idx t]; omega
  · blk_simp [idx t]; omega

theorem load_g (t : Fin cfg0.N) (z : S1x128.Idx) : iblk m c 4 t z = ((X.gain (128 * (t.val / 8) + (z 1).val) : ℝ) : EReal) := by
  refine (show _ = V m c main_arg4 (((cfg0.win 4).blk t).view.emb z) from rfl).trans ?_
  have h0 : (z 0).val < 1 := (z 0).isLt
  have e : (((cfg0.win 4).blk t).view.emb z 1).val = 128 * (t.val / 8) + (z 1).val := by blk_simp [idx t]; omega
  have e0 : (((cfg0.win 4).blk t).view.emb z 0).val = 0 := by blk_simp [idx t]
  rw [V_main_arg4, ← e, eq_ix2 (((cfg0.win 4).blk t).view.emb z)]
  refine Eq.trans ?_ (G.gain _)
  exact congrArg (fun u => m (c, main_arg4) (ix2 u _)) (Fin.ext e0)

theorem load_d (t : Fin cfg0.N) (z : S256x128.Idx) :
    iblk m c 5 t z = ((X.ct (256 * (t.val % 8) + (z 0).val) (128 * (t.val / 8) + (z 1).val) : ℝ) : EReal) := by
  refine (show _ = V m c main_arg5 (((cfg0.win 5).blk t).view.emb z) from rfl).trans ?_
  have e0 : (((cfg0.win 5).blk t).view.emb z 0).val = 256 * (t.val % 8) + (z 0).val := by blk_simp [idx t]; omega
  have e1 : (((cfg0.win 5).blk t).view.emb z 1).val = 128 * (t.val / 8) + (z 1).val := by blk_simp [idx t]; omega
  rw [V_main_arg5, ← e0, ← e1, eq_ix2 (((cfg0.win 5).blk t).view.emb z)]
  exact G.ct _ _

theorem loads (t : Fin cfg0.N) : Loads X (t.val / 8) (t.val % 8) (blocks m c t) := by
  have hq := load_q G t
  have hk := load_k G t
  have hv := load_v G t
  have hp := load_p G t
  have hg := load_g G t
  have hd := load_d G t
  unfold blocks
  generalize (iblk m c 0 t : Vec Ideal S256x128 .bf16) = q at *
  generalize (iblk m c 1 t : Vec Ideal S3072x128 .bf16) = k at *
  generalize (iblk m c 2 t : Vec Ideal S3072x128 .bf16) = v at *
  generalize (iblk m c 3 t : Vec Ideal S2x256x768 .bf16) = p at *
  generalize (iblk m c 4 t : Vec Ideal S1x128 .f32) = g at *
  generalize (iblk m c 5 t : Vec Ideal S256x128 .f32) = d at *
  exact ⟨Nat.mod_lt _ (by decide), hq, hk, hv, hp, hg, hd⟩

end Cert.KernelIdeal.Attn

end
-- ==== Proof.Value.Results.lean ====
/-
  The five results of the mathematics as arrays of all heads: lane `l` of a row is lane `l % 64` of head `l / 64`.
-/
module

public import proofs.«01_k».proof.Proof.Gen.KernelIdeal
public import proofs.«01_k».proof.Proof.Value.Spec

@[expose] public section

set_option maxRecDepth 16384

noncomputable section

namespace Cert.KernelIdeal.Attn

open Idealize.ShloMosaic Cert.Attn

variable {X : Arrays}

def dqArr (X : Arrays) : FVec Ideal S2048x1024 .bf16 := fun z => ((dq X ((z 1).val / 64) (z 0).val ((z 1).val % 64) : ℝ) : EReal)
def dkArr (X : Arrays) : FVec Ideal S2048x1024 .bf16 := fun z => ((dk X ((z 1).val / 64) ((z 0).val + 512) ((z 1).val % 64) : ℝ) : EReal)
def dvArr (X : Arrays) : FVec Ideal S2048x1024 .bf16 := fun z => ((dv X ((z 1).val / 64) ((z 0).val + 512) ((z 1).val % 64) : ℝ) : EReal)
def dbandArr (X : Arrays) : FVec Ideal S16x64x576 .f32 := fun z => ((dband X (z 0).val (z 1).val (z 2).val : ℝ) : EReal)
def dgainArr (X : Arrays) : FVec Ideal S1x1024 .f32 := fun z => ((dgain X ((z 1).val / 64) ((z 1).val % 64) : ℝ) : EReal)

theorem dqArr_at {z : S2048x1024.Idx} {a l : ℕ} (h0 : (z 0).val = a) (h1 : (z 1).val = l) :
    dqArr X z = ((dq X (l / 64) a (l % 64) : ℝ) : EReal) := by subst h0 h1; rfl
theorem dkArr_at {z : S2048x1024.Idx} {a l : ℕ} (h0 : (z 0).val = a) (h1 : (z 1).val = l) :
    dkArr X z = ((dk X (l / 64) (a + 512) (l % 64) : ℝ) : EReal) := by subst h0 h1; rfl
theorem dvArr_at {z : S2048x1024.Idx} {a l : ℕ} (h0 : (z 0).val = a) (h1 : (z 1).val = l) :
    dvArr X z = ((dv X (l / 64) (a + 512) (l % 64) : ℝ) : EReal) := by subst h0 h1; rfl
theorem dbandArr_at {z : S16x64x576.Idx} {h r j : ℕ} (h0 : (z 0).val = h) (h1 : (z 1).val = r) (h2 : (z 2).val = j) :
    dbandArr X z = ((dband X h r j : ℝ) : EReal) := by subst h0 h1 h2; rfl
theorem dgainArr_at {z : S1x1024.Idx} {l : ℕ} (h1 : (z 1).val = l) :
    dgainArr X z = ((dgain X (l / 64) (l % 64) : ℝ) : EReal) := by subst h1; rfl

end Cert.KernelIdeal.Attn

end
-- ==== Proof.Value.Final.lean ====
/-
  The result arrays after the run: where the arguments hold real arrays, the kernel leaves the gradients of the mathematics.
-/
module

public import proofs.«01_k».proof.Proof.Value.Loads
public import proofs.«01_k».proof.Proof.Value.Results

@[expose] public section

set_option maxRecDepth 16384

noncomputable section

namespace Cert.KernelIdeal.Attn

open Idealize.ShloMosaic Idealize.ShloMosaic.TcCoe Cert.KernelIdeal.Gen Cert.Attn
open Idealize.ShloMosaic.Pipeline (Dat)
open Idealize.ShloMosaic.VecWindow (window put)

variable {m : (ℓ : Loc nD τ sig) → Buf (Elt Ideal) ℓ} {c : Dev nD} {X : Arrays}
  (G : Given X (m (c, main_arg0)) (m (c, main_arg1)) (m (c, main_arg2)) (m (c, main_arg3)) (m (c, main_arg4)) (m (c, main_arg5)))
include G

/-- After step `t % 8` of a pair its accumulators hold the sums over the rows up to there. -/
theorem sums_acc (n : ℕ) : ∀ t : Fin cfg0.N, t.val = n → Sums X (t.val / 8) (t.val % 8 + 1) (acc m c t.val) := by
  induction n with
  | zero =>
    intro t ht
    have hz : t.val % 8 = 0 := by omega
    rw [acc_first m c t hz]
    refine sums_step (loads G t) (idx t).2.2.2.2.2.2.2.2.2.2.2 ?_
    rw [hz]; exact sums_cleared X _
  | succ n ih =>
    intro t ht
    by_cases hz : t.val % 8 = 0
    · rw [acc_first m c t hz]
      refine sums_step (loads G t) (idx t).2.2.2.2.2.2.2.2.2.2.2 ?_
      rw [hz]; exact sums_cleared X _
    · rw [acc_next m c t hz]
      refine sums_step (loads G t) (idx t).2.2.2.2.2.2.2.2.2.2.2 ?_
      have h := ih ⟨t.val - 1, by omega⟩ (by show t.val - 1 = n; omega)
      rw [show (t.val - 1) / 8 = t.val / 8 by omega, show (t.val - 1) % 8 + 1 = t.val % 8 by omega] at h
      exact h

omit G in
/-- Lane `l` of pair `u` is a lane of one of its heads. -/
theorem lane (u l : ℕ) : (128 * u + l) / 64 = 2 * u + l / 64 ∧ (128 * u + l) % 64 = l % 64 := by omega

theorem dq_final : (dats m 0 c).arrAt 6 cfg0.N = dqArr X := by
  refine (dats m 0 c).arrAt_eq_of_covers 6 _ (by decide +kernel) fun t _ y => ?_
  have e0 : (((cfg0.win 6).blk t).view.emb y 0).val = 256 * (t.val % 8) + (y 0).val := by blk_simp [idx t]; omega
  have e1 : (((cfg0.win 6).blk t).view.emb y 1).val = 128 * (t.val / 8) + (y 1).val := by blk_simp [idx t]; omega
  refine Eq.trans ?_ (dqArr_at e0 e1).symm
  rw [(lane _ _).1, (lane _ _).2]
  blk_simp
  rw [after_6]
  exact dqOut_at (loads G t) (idx t).2.2.2.2.2.2.2.2.2.2.2 _ y

omit G in
/-- The last step of a pair writes the rows after the padding. -/
theorem rows_out {s : Acc Ideal} {u : ℕ} (S : Sums X u 8 s) (o : Outs Ideal) (y : S2048x128.Idx) :
    (finish s o).dk y = ((dk X (2 * u + (y 1).val / 64) ((y 0).val + 512) ((y 1).val % 64) : ℝ) : EReal)
      ∧ (finish s o).dv y = ((dv X (2 * u + (y 1).val / 64) ((y 0).val + 512) ((y 1).val % 64) : ℝ) : EReal) := by
  have wk := fun (r : Fin 2048) (e : Fin 128) =>
    window2 (f := fun a l => ((dkSum X u 8 a l : ℝ) : EReal)) S.dk (off := ![512, 0]) inb_S2560x128_S2048x128_512_0 r e
  have wv := fun (r : Fin 2048) (e : Fin 128) =>
    window2 (f := fun a l => ((dvSum X u 8 a l : ℝ) : EReal)) S.dv (off := ![512, 0]) inb_S2560x128_S2048x128_512_0 r e
  simp only [Matrix.cons_val_zero, Matrix.cons_val_one, Nat.zero_add, Nat.add_comm 512] at wk wv
  have hk : (finish s o).dk = k0_pay5 (window s.dk ![512, 0] ![2048, 128] inb_S2560x128_S2048x128_512_0) := rfl
  have hv : (finish s o).dv = k0_pay6 (window s.dv ![512, 0] ![2048, 128] inb_S2560x128_S2048x128_512_0) := rfl
  rw [hk, hv]
  generalize (window s.dk ![512, 0] ![2048, 128] inb_S2560x128_S2048x128_512_0 : Vec Ideal S2048x128 .f32) = a at *
  generalize (window s.dv ![512, 0] ![2048, 128] inb_S2560x128_S2048x128_512_0 : Vec Ideal S2048x128 .f32) = b at *
  idx_vars y
  pointwise [k0_pay5, k0_pay6]
  rw [wk, wv]
  exact ⟨rfl, rfl⟩

theorem dk_final : (dats m 0 c).arrAt 7 cfg0.N = dkArr X := by
  refine (dats m 0 c).arrAt_eq_of_covers 7 _ (by decide +kernel) fun t hf y => ?_
  have e0 : (((cfg0.win 7).blk t).view.emb y 0).val = (y 0).val := by blk_simp [idx t]
  have e1 : (((cfg0.win 7).blk t).view.emb y 1).val = 128 * (t.val / 8) + (y 1).val := by blk_simp [idx t]; omega
  refine Eq.trans ?_ (dkArr_at e0 e1).symm
  rw [(lane _ _).1, (lane _ _).2]
  have S := sums_acc G _ t rfl
  rw [(flush0_7 t).mp hf] at S
  blk_simp
  rw [after_7]
  exact (rows_out S _ y).1

theorem dv_final : (dats m 0 c).arrAt 8 cfg0.N = dvArr X := by
  refine (dats m 0 c).arrAt_eq_of_covers 8 _ (by decide +kernel) fun t hf y => ?_
  have e0 : (((cfg0.win 8).blk t).view.emb y 0).val = (y 0).val := by blk_simp [idx t]
  have e1 : (((cfg0.win 8).blk t).view.emb y 1).val = 128 * (t.val / 8) + (y 1).val := by blk_simp [idx t]; omega
  refine Eq.trans ?_ (dvArr_at e0 e1).symm
  rw [(lane _ _).1, (lane _ _).2]
  have S := sums_acc G _ t rfl
  rw [(flush0_8 t).mp hf] at S
  blk_simp
  rw [after_8]
  exact (rows_out S _ y).2

theorem dband_final : (dats m 0 c).arrAt 9 cfg0.N = dbandArr X := by
  refine (dats m 0 c).arrAt_eq_of_covers 9 _ (by decide +kernel) fun t hf y => ?_
  have e0 : (((cfg0.win 9).blk t).view.emb y 0).val = 2 * (t.val / 8) + (y 0).val := by blk_simp [idx t]; omega
  have e1 : (((cfg0.win 9).blk t).view.emb y 1).val = (y 1).val := by blk_simp [idx t]
  have e2 : (((cfg0.win 9).blk t).view.emb y 2).val = (y 2).val := by blk_simp [idx t]
  refine Eq.trans ?_ (dbandArr_at e0 e1 e2).symm
  have S := sums_acc G _ t rfl
  rw [(flush0_9 t).mp hf] at S
  blk_simp
  rw [after_9]
  exact bandOut_at S _ y

theorem dgain_final : (dats m 0 c).arrAt 10 cfg0.N = dgainArr X := by
  refine (dats m 0 c).arrAt_eq_of_covers 10 _ (by decide +kernel) fun t hf y => ?_
  have e1 : (((cfg0.win 10).blk t).view.emb y 1).val = 128 * (t.val / 8) + (y 1).val := by blk_simp [idx t]; omega
  refine Eq.trans ?_ (dgainArr_at e1).symm
  rw [(lane _ _).1, (lane _ _).2]
  have S := sums_acc G _ t rfl
  rw [(flush0_10 t).mp hf] at S
  blk_simp
  rw [after_10]
  exact S.dg y

end Cert.KernelIdeal.Attn

end
-- ==== Proof.Value.RefBand.lean ====
/-
  The reference's values, over a chunk's band: where the arguments hold real arrays, its probabilities, its outputs and the
  gradients of its scores are those of the mathematics.
-/
module

public import proofs.«01_k».proof.Proof.Gen.ReferenceIdeal.Run
public import proofs.«01_k».proof.Proof.Value.HostAt

@[expose] public section

set_option maxRecDepth 16384

noncomputable section

namespace Cert.ReferenceIdeal.Attn

open Idealize.ShloMosaic Idealize.ShloMosaic.TcCoe Cert.ReferenceIdeal.Gen Cert.ReferenceIdeal.Value Cert.Attn
open Cert.KernelIdeal.Attn (Given bandRows bandRows_at scores scores_at valid valid_at masked_at expo expo_at)

variable {V0 : Valuation τ sig (Elt Ideal)} {X : Arrays}
  (G : Given X (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)))
include G

/-! ## The probabilities -/

theorem v14_at (n : Fin 32) (j : Fin 576) (h : Fin 16) (d : Fin 64) : res_main_v14 V0 (ix4 n j h d) = ((key X h (64 * n + j) d : ℝ) : EReal) :=
  (show _ = bandRows (V0 (Proc.devRef .tc main_arg1)) (ix4 n j h d) from rfl).trans (bandRows_at G.k n j h d)

theorem v76_at (n : Fin 32) (j : Fin 576) (h : Fin 16) (d : Fin 64) : res_main_v76 V0 (ix4 n j h d) = ((val X h (64 * n + j) d : ℝ) : EReal) :=
  (show _ = bandRows (V0 (Proc.devRef .tc main_arg2)) (ix4 n j h d) from rfl).trans (bandRows_at G.v n j h d)

theorem v33_at (n : Fin 32) (h : Fin 16) (r : Fin 64) (j : Fin 576) : res_main_v33_0 V0 (ix4 n h r j) = masked X h n r j :=
  masked_at (s := scores (V0 (Proc.devRef .tc main_arg0)) (bandRows (V0 (Proc.devRef .tc main_arg1))) (V0 (Proc.devRef .tc main_arg3))) n h r j
    (scores_at G.q G.k G.band n h r j)

theorem v54_at (n : Fin 32) (h : Fin 16) (r : Fin 64) (j : Fin 576) : res_main_v54 V0 (ix4 n h r j) = ((weight X h n r j : ℝ) : EReal) :=
  (show _ = expo (res_main_v33_0 V0) (ix4 n h r j) from rfl).trans (expo_at n h r (v33_at G n h r) j)

theorem v56_at (n : Fin 32) (h : Fin 16) (r : Fin 64) : res_main_v56 V0 (ix4 n h r 0) = ((total X h n r : ℝ) : EReal) := by
  pointwise [res_main_v56]
  simp only [v54_at G, lift_sum]
  rfl

theorem v58_at (n : Fin 32) (h : Fin 16) (r : Fin 64) (j : Fin 576) : res_main_v58 V0 (ix4 n h r j) = ((prob X h n r j : ℝ) : EReal) := by
  pointwise [res_main_v58]
  rw [v54_at G, v56_at G]
  exact lift_div (total_pos X h n r).ne'

/-! ## The outputs and their norm -/

theorem v78_at (n : Fin 32) (r : Fin 64) (h : Fin 16) (d : Fin 64) : res_main_v78 V0 (ix4 n r h d) = ((out X h (64 * n + r) d : ℝ) : EReal) := by
  pointwise [res_main_v78]
  simp only [v58_at G, v76_at G, lift_mul, lift_sum]
  rw [← out_band X h n.isLt r d]
  simp only [mul_comm]

theorem v87_at (n : Fin 32) (r : Fin 64) (h : Fin 16) : res_main_v87 V0 (ix4 n r h 0) = ((ms X h (64 * n + r) : ℝ) : EReal) := by
  pointwise [res_main_v87]
  simp only [v78_at G, lift_mul, lift_sum]
  rw [ofBits_64, ofBits_eps, lift_div (by norm_num), lift_add]
  rfl

theorem v88_at (n : Fin 32) (r : Fin 64) (h : Fin 16) : res_main_v88 V0 (ix4 n r h 0) = ((rr X h (64 * n + r) : ℝ) : EReal) := by
  pointwise [res_main_v88]
  rw [v87_at G]
  exact lift_rsqrt (ms_pos X h _)

theorem v93_at (n : Fin 32) (r : Fin 64) (h : Fin 16) (d : Fin 64) :
    res_main_v93 V0 (ix4 n r h d) = ((out X h (64 * n + r) d * rr X h (64 * n + r) : ℝ) : EReal) := by
  pointwise [res_main_v93]
  rw [v78_at G, v88_at G, lift_mul]

theorem v95_at (h : Fin 16) (d : Fin 64) : res_main_v95 V0 (ix4 0 0 h d) = ((X.gain (64 * h + d) : ℝ) : EReal) := by
  have g := G.gain
  unfold res_main_v95
  generalize V0 (Proc.devRef .tc main_arg4) = x at *
  pointwise []
  rw [g]
  simp only [mul_comm]

theorem v99_at (n : Fin 32) (r : Fin 64) (h : Fin 16) (d : Fin 64) :
    res_main_v99 V0 (ix4 n r h d) = ((X.ct (64 * n + r) (64 * h + d) : ℝ) : EReal) := by
  have g := G.ct
  unfold res_main_v99
  generalize V0 (Proc.devRef .tc main_arg5) = x at *
  pointwise []
  rw [g]
  simp only [mul_comm]

theorem v15_at (n : Fin 32) (r : Fin 64) (h : Fin 16) (d : Fin 64) :
    res_main_v15 V0 (ix4 n r h d) = ((X.q (64 * n + r) (64 * h + d) : ℝ) : EReal) := by
  have g := G.q
  unfold res_main_v15
  generalize V0 (Proc.devRef .tc main_arg0) = x at *
  pointwise []
  rw [g]
  simp only [mul_comm]

theorem v104_at (n : Fin 32) (r : Fin 64) (h : Fin 16) (d : Fin 64) : res_main_v104 V0 (ix4 n r h d) = ((dy X h (64 * n + r) d : ℝ) : EReal) := by
  pointwise [res_main_v104]
  rw [v99_at G, v95_at G, lift_mul]
  rfl

/-! ## The gradients -/

theorem v119_at (n : Fin 32) (h : Fin 16) (d r : Fin 64) : res_main_v119 V0 (ix4 n h d r) = ((dout X h (64 * n + r) d : ℝ) : EReal) := by
  rw [← dout_eq]
  pointwise [res_main_v119]
  simp only [v104_at G, v78_at G, lift_mul, lift_sum, Finset.univ_unique, Fin.default_eq_zero, Finset.sum_singleton]
  rw [v88_at G, v87_at G, lift_mul, ofBits_64, ofBits_half, ofBits_two, lift_div (ms_pos X h _).ne', lift_mul, lift_mul, lift_div (by norm_num), lift_mul, lift_mul, lift_add]

theorem v120_at (n : Fin 32) (h : Fin 16) (r : Fin 64) (j : Fin 576) :
    res_main_v120 V0 (ix4 n h r j) = ((∑ d : Fin 64, dout X h (64 * n + r) d * val X h (64 * n + j) d : ℝ) : EReal) := by
  pointwise [res_main_v120]
  simp only [v119_at G, v76_at G, lift_mul, lift_sum]

theorem v122_at (n : Fin 32) (j : Fin 576) (h : Fin 16) (d : Fin 64) :
    res_main_v122 V0 (ix4 n j h d) = ((∑ r : Fin 64, P X h (64 * n + r) (64 * n + j) * dout X h (64 * n + r) d : ℝ) : EReal) := by
  pointwise [res_main_v122]
  simp only [v119_at G, v58_at G, lift_mul, lift_sum]
  exact congrArg _ (Finset.sum_congr rfl fun r _ => by rw [P_band, mul_comm])

/-- Places before the first frame have no gradient. -/
theorem v165_at (n : Fin 32) (h : Fin 16) (r : Fin 64) (j : Fin 576) :
    res_main_v165 V0 (ix4 n h r j) = ((ds X h (64 * n + r) (64 * n + j) : ℝ) : EReal) := by
  have e : res_main_v33_1 V0 (ix4 n h r j) = BitVec.ofBool (decide (512 ≤ 64 * (n : ℕ) + j)) := valid_at n j
  pointwise [res_main_v165]
  rw [e]
  by_cases hv : 512 ≤ 64 * (n : ℕ) + j
  · rw [← ds_eq X h n.isLt r j]
    simp only [v120_at G, v54_at G, v56_at G, lift_mul, lift_sum, decide_eq_true hv]
    have sel : ∀ a b : EReal, Scalar.select (BitVec.ofBool true) a b = a := fun _ _ => rfl
    have hz : total X h n r ≠ 0 := (total_pos X h n r).ne'
    rw [sel, ← EReal.coe_one, lift_div hz, lift_div (mul_ne_zero hz hz)]
    simp only [lift_mul, lift_sum, lift_neg, Finset.univ_unique, Fin.default_eq_zero, Finset.sum_singleton, lift_add]
  · have z : ds X h (64 * n + r) (64 * n + j) = 0 := by unfold ds; rw [P_band]; unfold prob weight; rw [if_neg hv, zero_div, zero_mul]
    rw [z, EReal.coe_zero]
    simp [hv, Scalar.select]

theorem v170_at (n : Fin 32) (h : Fin 16) (r : Fin 64) (j : Fin 576) :
    res_main_v170 V0 (ix4 n h r j) = ((ds X h (64 * n + r) (64 * n + j) * (1 / 8) : ℝ) : EReal) := by
  pointwise [res_main_v170]
  rw [v165_at G, ofBits_eighth, lift_mul]

theorem v172_at (n : Fin 32) (j : Fin 576) (h : Fin 16) (d : Fin 64) : res_main_v172 V0 (ix4 n j h d)
    = ((∑ r : Fin 64, ds X h (64 * n + r) (64 * n + j) * X.q (64 * n + r) (64 * h + d) * (1 / 8) : ℝ) : EReal) := by
  pointwise [res_main_v172]
  simp only [v170_at G, v15_at G, lift_mul, lift_sum, mul_right_comm _ (1 / 8 : ℝ)]

end Cert.ReferenceIdeal.Attn

end
-- ==== Proof.Value.RefSum.lean ====
/-
  The reference's sums over chunks: nine shifted pieces of a chunk's band gradients add up to the sum over all query rows. With it
  the reference's five results.
-/
module

public import proofs.«01_k».proof.Proof.Value.RefBand
public import proofs.«01_k».proof.Proof.Value.Results

@[expose] public section

set_option maxRecDepth 16384

noncomputable section

namespace Cert.ReferenceIdeal.Attn

open Idealize.ShloMosaic Idealize.ShloMosaic.TcCoe Cert.ReferenceIdeal.Gen Cert.ReferenceIdeal.Value Cert.Attn
open Cert.KernelIdeal.Attn (Given dqArr dqArr_at dkArr dkArr_at dvArr dvArr_at dbandArr dbandArr_at dgainArr dgainArr_at)

/-- Nine pieces of 64 rows of every chunk's band, each at its place among the padded rows, added. -/
def shifted (y : FVec Ideal S32x576x16x64 .f32) : FVec Ideal S2560x16x64 .f32 :=
  shapeCast S2560x16x64 (addf (addf (addf (addf (addf (addf (addf (addf
      (pad S40x64x16x64 ![8, 0, 0, 0] ![0, 0, 0, 0] ![0, 0, 0, 0] (extractStridedSlice S32x64x16x64 ![0, 512, 0, 0] y slices_S32x576x16x64_S32x64x16x64_0_512_0_0) (constant (F := Ideal) S_ .f32 0x00000000#32) pads_S32x64x16x64_S40x64x16x64_800_000_000_000 h_S_)
      (pad S40x64x16x64 ![7, 0, 0, 0] ![1, 0, 0, 0] ![0, 0, 0, 0] (extractStridedSlice S32x64x16x64 ![0, 448, 0, 0] y slices_S32x576x16x64_S32x64x16x64_0_448_0_0) (constant (F := Ideal) S_ .f32 0x00000000#32) pads_S32x64x16x64_S40x64x16x64_710_000_000_000 h_S_))
      (pad S40x64x16x64 ![6, 0, 0, 0] ![2, 0, 0, 0] ![0, 0, 0, 0] (extractStridedSlice S32x64x16x64 ![0, 384, 0, 0] y slices_S32x576x16x64_S32x64x16x64_0_384_0_0) (constant (F := Ideal) S_ .f32 0x00000000#32) pads_S32x64x16x64_S40x64x16x64_620_000_000_000 h_S_))
      (pad S40x64x16x64 ![5, 0, 0, 0] ![3, 0, 0, 0] ![0, 0, 0, 0] (extractStridedSlice S32x64x16x64 ![0, 320, 0, 0] y slices_S32x576x16x64_S32x64x16x64_0_320_0_0) (constant (F := Ideal) S_ .f32 0x00000000#32) pads_S32x64x16x64_S40x64x16x64_530_000_000_000 h_S_))
      (pad S40x64x16x64 ![4, 0, 0, 0] ![4, 0, 0, 0] ![0, 0, 0, 0] (extractStridedSlice S32x64x16x64 ![0, 256, 0, 0] y slices_S32x576x16x64_S32x64x16x64_0_256_0_0) (constant (F := Ideal) S_ .f32 0x00000000#32) pads_S32x64x16x64_S40x64x16x64_440_000_000_000 h_S_))
      (pad S40x64x16x64 ![3, 0, 0, 0] ![5, 0, 0, 0] ![0, 0, 0, 0] (extractStridedSlice S32x64x16x64 ![0, 192, 0, 0] y slices_S32x576x16x64_S32x64x16x64_0_192_0_0) (constant (F := Ideal) S_ .f32 0x00000000#32) pads_S32x64x16x64_S40x64x16x64_350_000_000_000 h_S_))
      (pad S40x64x16x64 ![2, 0, 0, 0] ![6, 0, 0, 0] ![0, 0, 0, 0] (extractStridedSlice S32x64x16x64 ![0, 128, 0, 0] y slices_S32x576x16x64_S32x64x16x64_0_128_0_0) (constant (F := Ideal) S_ .f32 0x00000000#32) pads_S32x64x16x64_S40x64x16x64_260_000_000_000 h_S_))
      (pad S40x64x16x64 ![1, 0, 0, 0] ![7, 0, 0, 0] ![0, 0, 0, 0] (extractStridedSlice S32x64x16x64 ![0, 64, 0, 0] y slices_S32x576x16x64_S32x64x16x64_0_64_0_0) (constant (F := Ideal) S_ .f32 0x00000000#32) pads_S32x64x16x64_S40x64x16x64_170_000_000_000 h_S_))
      (pad S40x64x16x64 ![0, 0, 0, 0] ![8, 0, 0, 0] ![0, 0, 0, 0] (extractStridedSlice S32x64x16x64 ![0, 0, 0, 0] y slices_S32x576x16x64_S32x64x16x64_0_0_0_0) (constant (F := Ideal) S_ .f32 0x00000000#32) pads_S32x64x16x64_S40x64x16x64_080_000_000_000 h_S_)) shapeCasts_S40x64x16x64_S2560x16x64

/-- One piece. -/
theorem piece {f : ℕ → ℕ → ℝ} {m a : ℕ} (c : Prop) [Decidable c] {x : c → EReal} (hc : c ↔ m ≤ a / 64 ∧ a / 64 - m < 32)
    (hx : ∀ h, x h = ((∑ r : Fin 64, f (64 * (a / 64 - m) + r) a : ℝ) : EReal)) :
    (if h : c then x h else 0) = (((if m ≤ a / 64 ∧ a / 64 - m < 32 then ∑ r : Fin 64, f (64 * (a / 64 - m) + r) a else 0 : ℝ)) : EReal) := by
  by_cases h : c
  · rw [dif_pos h, if_pos (hc.mp h), hx]
  · rw [dif_neg h, if_neg (fun h' => h (hc.mpr h')), EReal.coe_zero]

theorem shifted_at {y : FVec Ideal S32x576x16x64 .f32} {h : Fin 16} {d : Fin 64} {f : ℕ → ℕ → ℝ}
    (h0 : ∀ t a, a < 64 * (t / 64) ∨ 64 * (t / 64) + 576 ≤ a → f t a = 0)
    (hy : ∀ (n : Fin 32) (j : Fin 576), y (ix4 n j h d) = ((∑ r : Fin 64, f (64 * n + r) (64 * n + j) : ℝ) : EReal)) (a : Fin 2560) :
    shifted y (ix3 a h d) = ((∑ t ∈ Finset.range 2048, f t a : ℝ) : EReal) := by
  have e := sum_shifts f h0 (a / 64) ⟨a % 64, Nat.mod_lt _ (by decide)⟩
  rw [show 64 * ((a : ℕ) / 64) + (⟨(a : ℕ) % 64, Nat.mod_lt _ (by decide)⟩ : Fin 64).val = a from Nat.div_add_mod _ _] at e
  have at_row : ∀ (n : Fin 32) (j : Fin 576) (m : ℕ), (n : ℕ) = (a : ℕ) / 64 - m → 64 * (n : ℕ) + j = a →
      y (ix4 n j h d) = ((∑ r : Fin 64, f (64 * ((a : ℕ) / 64 - m) + r) a : ℝ) : EReal) := fun n j m hn hj => by rw [hy, hj, hn]
  rw [← e]
  pointwise [shifted]
  refine (congrArg₂ (· + ·) (congrArg₂ (· + ·) (congrArg₂ (· + ·) (congrArg₂ (· + ·) (congrArg₂ (· + ·) (congrArg₂ (· + ·) (congrArg₂ (· + ·)
    (congrArg₂ (· + ·) (piece (f := f) (a := a) (m := 8) _ (by omega) fun _ => at_row _ _ 8 rfl (by simp only; omega))
      (piece (f := f) (a := a) (m := 7) _ (by omega) fun _ => at_row _ _ 7 rfl (by simp only; omega)))
    (piece (f := f) (a := a) (m := 6) _ (by omega) fun _ => at_row _ _ 6 rfl (by simp only; omega)))
    (piece (f := f) (a := a) (m := 5) _ (by omega) fun _ => at_row _ _ 5 rfl (by simp only; omega)))
    (piece (f := f) (a := a) (m := 4) _ (by omega) fun _ => at_row _ _ 4 rfl (by simp only; omega)))
    (piece (f := f) (a := a) (m := 3) _ (by omega) fun _ => at_row _ _ 3 rfl (by simp only; omega)))
    (piece (f := f) (a := a) (m := 2) _ (by omega) fun _ => at_row _ _ 2 rfl (by simp only; omega)))
    (piece (f := f) (a := a) (m := 1) _ (by omega) fun _ => at_row _ _ 1 rfl (by simp only; omega)))
    (piece (f := f) (a := a) (m := 0) _ (by omega) fun _ => at_row _ _ 0 rfl (by simp only; omega))).trans ?_
  simp only [lift_add, Finset.sum_range_succ, Finset.sum_range_zero]
  exact congrArg _ (by ring)

/-! ## The five results -/

variable {V0 : Valuation τ sig (Elt Ideal)} {X : Arrays}
  (G : Given X (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)))
include G

theorem v202_at (a : Fin 2560) (h : Fin 16) (d : Fin 64) : res_main_v202 V0 (ix3 a h d) = ((dk X h a d : ℝ) : EReal) :=
  (show _ = shifted (res_main_v172 V0) (ix3 a h d) from rfl).trans
    (shifted_at (f := fun t a => ds X h t a * X.q t (64 * h + d) * (1 / 8)) (fun t a ha => by rw [ds_out X h t a ha, zero_mul, zero_mul])
      (fun n j => v172_at G n j h d) a)

theorem v149_at (a : Fin 2560) (h : Fin 16) (d : Fin 64) : res_main_v149 V0 (ix3 a h d) = ((dv X h a d : ℝ) : EReal) :=
  (show _ = shifted (res_main_v122 V0) (ix3 a h d) from rfl).trans
    (shifted_at (f := fun t a => P X h t a * dout X h t d) (fun t a ha => by rw [P_out X h t a ha, zero_mul])
      (fun n j => v122_at G n j h d) a)

theorem dq_ref : truncf .bf16 (shapeCast S2048x1024 (transpose S32x64x16x64 [0, 2, 1, 3]
    (Host.dotGeneral (φ₁ := .f32) (φ₂ := .f32) dot_S32x16x64x576_S32x576x16x64_S32x16x64x64_3_1_2_3_01_02 none (res_main_v170 V0) (res_main_v14 V0))
    transposes_S32x16x64x64_S32x64x16x64_0_2_1_3) shapeCasts_S32x64x16x64_S2048x1024) bitsLt_bf16_f32 = dqArr X := by
  funext z
  idx_vars z
  rw [dqArr_at (a := z0) (l := z1) rfl rfl]
  pointwise []
  simp only [v170_at G, v14_at G, lift_mul, lift_sum]
  have e := dq_band X ((z1 : ℕ) / 64) (show (z0 : ℕ) / 64 < 32 by omega) ⟨(z0 : ℕ) % 64, Nat.mod_lt _ (by decide)⟩ ((z1 : ℕ) % 64)
  simp only [Nat.div_add_mod] at e
  rw [Nat.div_add_mod, e]

theorem dk_ref : truncf .bf16 (shapeCast S2048x1024 (extractStridedSlice S2048x16x64 ![512, 0, 0] (res_main_v202 V0) slices_S2560x16x64_S2048x16x64_512_0_0)
    shapeCasts_S2048x16x64_S2048x1024) bitsLt_bf16_f32 = dkArr X := by
  funext z
  idx_vars z
  rw [dkArr_at (a := z0) (l := z1) rfl rfl]
  pointwise []
  rw [v202_at G, Nat.add_comm (z0 : ℕ)]

theorem dv_ref : truncf .bf16 (shapeCast S2048x1024 (extractStridedSlice S2048x16x64 ![512, 0, 0] (res_main_v149 V0) slices_S2560x16x64_S2048x16x64_512_0_0)
    shapeCasts_S2048x16x64_S2048x1024) bitsLt_bf16_f32 = dvArr X := by
  funext z
  idx_vars z
  rw [dvArr_at (a := z0) (l := z1) rfl rfl]
  pointwise []
  rw [v149_at G, Nat.add_comm (z0 : ℕ)]

theorem dband_ref : Host.reduceAdd (shapeCast S1x16x64x576 (Host.reduceAdd (res_main_v165 V0) (constant (F := Ideal) S_ .f32 0x00000000#32) reducesTo_S32x16x64x576_S16x64x576_d0 h_S_)
    shapeCasts_S16x64x576_S1x16x64x576) (constant (F := Ideal) S_ .f32 0x00000000#32) reducesTo_S1x16x64x576_S16x64x576_d0 h_S_ = dbandArr X := by
  funext z
  idx_vars z
  rw [dbandArr_at (h := z0) (r := z1) (j := z2) rfl rfl rfl]
  pointwise []
  simp only [v165_at G, lift_sum, Finset.univ_unique, Finset.sum_singleton]
  rw [Fin.sum_univ_eq_sum_range (fun n => ds X z0 (64 * n + z1) (64 * n + z2))]
  rfl

omit G in
/-- A sum over the first two of four axes. -/
theorem sum_front {n0 n1 n2 n3 : ℕ} (h : (⟨4, ![n0, n1, n2, n3]⟩ : Shape).ReducesTo [0, 1] ⟨2, ![n2, n3]⟩)
    (v : (⟨4, ![n0, n1, n2, n3]⟩ : Shape).Idx → EReal) (b : EReal) (x : Fin n2) (y : Fin n3) :
    Ideal.hostReduceAdd h v b (ix2 x y) = b + ∑ n : Fin n0, ∑ r : Fin n1, v (ix4 n r x y) := by
  refine congrArg (b + ·) ?_
  refine (Finset.sum_filter_eq_sum_of_fiber _ (fun k : Fin n0 × Fin n1 => ix4 k.1 k.2 x y)
    (fun _ _ e => Prod.ext (congrFun e 0) (congrFun e 1)) (fun i => ?_) v).trans (by simp only [Fintype.sum_prod_type])
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext c
    apply Fin.ext
    match c with
    | ⟨0, _⟩ => rfl
    | ⟨1, _⟩ => rfl

omit G in
theorem gain_sum (y : FVec Ideal S32x64x16x64 .f32) (l : Fin 1024) :
    shapeCast S1x1024 (Host.reduceAdd (shapeCast S1x1x16x64 (Host.reduceAdd y
      (constant (F := Ideal) S_ .f32 0x00000000#32) reducesTo_S32x64x16x64_S16x64_d0_1 h_S_) shapeCasts_S16x64_S1x1x16x64)
      (constant (F := Ideal) S_ .f32 0x00000000#32) reducesTo_S1x1x16x64_S16x64_d0_1 h_S_) shapeCasts_S16x64_S1x1024 (ix2 0 l)
      = ∑ n : Fin 32, ∑ r : Fin 64, y (ix4 n r ⟨l / 64, by omega⟩ ⟨l % 64, by omega⟩) := by
  pointwise []
  rw [sum_front]
  simp only [Finset.univ_unique, Fin.default_eq_zero, Finset.sum_singleton, zero_add]
  pointwise []
  rw [sum_front, zero_add]

theorem dgain_ref : shapeCast S1x1024 (Host.reduceAdd (shapeCast S1x1x16x64 (Host.reduceAdd (mulf (res_main_v93 V0) (res_main_v99 V0))
    (constant (F := Ideal) S_ .f32 0x00000000#32) reducesTo_S32x64x16x64_S16x64_d0_1 h_S_) shapeCasts_S16x64_S1x1x16x64)
    (constant (F := Ideal) S_ .f32 0x00000000#32) reducesTo_S1x1x16x64_S16x64_d0_1 h_S_) shapeCasts_S16x64_S1x1024 = dgainArr X := by
  funext z
  idx_vars z
  rw [dgainArr_at (l := z1) rfl]
  rw [Subsingleton.elim z0 0]
  refine (gain_sum _ z1).trans ?_
  simp only [mulf_apply, Ideal.mulf_def, v93_at G, v99_at G]
  simp only [lift_mul, lift_sum]
  rw [Fin.sum_univ_eq_sum_range (fun n => ∑ r : Fin 64, out X (z1 / 64) (64 * n + r) (z1 % 64) * rr X (z1 / 64) (64 * n + r) * X.ct (64 * n + r) (64 * (z1 / 64) + z1 % 64)) 32,
    sum_chunks (fun t => out X (z1 / 64) t (z1 % 64) * rr X (z1 / 64) t * X.ct t (64 * (z1 / 64) + z1 % 64)) 32]
  simp only [mul_comm _ (X.ct _ _)]
  rfl

end Cert.ReferenceIdeal.Attn

end
-- ==== Proof.Value.Algebraic.lean ====
/- The kernel and the reference, from the same finite arguments, end with the same five arrays. -/
module

public import proofs.«01_k».proof.Proof.Value.Finite
public import proofs.«01_k».proof.Proof.Value.Final
public import proofs.«01_k».proof.Proof.Value.RefSum
public import Idealize.ShloMosaic.Lib.Claim

@[expose] public section

set_option maxRecDepth 16384

noncomputable section

namespace Cert.Proof

open Idealize.ShloMosaic Idealize.ShloMosaic.TcCoe Idealize.SL.Sem Cert.Attn

attribute [local instance] Cert.KernelIdeal.Gen.facts Cert.ReferenceIdeal.Gen.facts Cert.Pre_finite.Gen.facts

section Kernel

open Cert.KernelIdeal Cert.KernelIdeal.Attn

variable (m : (ℓ : Loc nD τ sig) → Buf (Elt Ideal) ℓ) (ρ : Dev nD → PrngReg) (X : Dev nD → Arrays)
  (G : ∀ c, Given (X c) (m (c, main_arg0)) (m (c, main_arg1)) (m (c, main_arg2)) (m (c, main_arg3)) (m (c, main_arg4)) (m (c, main_arg5)))
include G

variable {r : PUnit × MemSt nD τ sig (Elt Ideal)} (h : Pipeline.FramePost cfgs (dats m) 0 (Cert.KernelIdeal.Gen.V m) r)
include h

omit G in
/-- The call's arrays are @main's results. -/
theorem arrays (c : Dev nD) : r.2.mem ((c.tc : Thread nD τ).loc main_v68_0) = (dats m 0 c).arrAt 6 cfg0.N
    ∧ r.2.mem ((c.tc : Thread nD τ).loc main_v68_1) = (dats m 0 c).arrAt 7 cfg0.N
    ∧ r.2.mem ((c.tc : Thread nD τ).loc main_v68_2) = (dats m 0 c).arrAt 8 cfg0.N
    ∧ r.2.mem ((c.tc : Thread nD τ).loc main_v68_3) = (dats m 0 c).arrAt 9 cfg0.N
    ∧ r.2.mem ((c.tc : Thread nD τ).loc main_v68_4) = (dats m 0 c).arrAt 10 cfg0.N :=
  ⟨(h c).1 6, (h c).1 7, (h c).1 8, (h c).1 9, (h c).1 10⟩

theorem arrays_eq (c : Dev nD) : r.2.mem ((c.tc : Thread nD τ).loc main_v68_0) = dqArr (X c)
    ∧ r.2.mem ((c.tc : Thread nD τ).loc main_v68_1) = dkArr (X c)
    ∧ r.2.mem ((c.tc : Thread nD τ).loc main_v68_2) = dvArr (X c)
    ∧ r.2.mem ((c.tc : Thread nD τ).loc main_v68_3) = dbandArr (X c)
    ∧ r.2.mem ((c.tc : Thread nD τ).loc main_v68_4) = dgainArr (X c) := by
  obtain ⟨h0, h1, h2, h3, h4⟩ := arrays m h c
  exact ⟨h0.trans (dq_final (G c)), h1.trans (dk_final (G c)), h2.trans (dv_final (G c)), h3.trans (dband_final (G c)), h4.trans (dgain_final (G c))⟩

omit h in
/-- What the kernel ends with. -/
theorem kernel_results : θ_run defs (onTc (τ := τ) (main (F := Ideal))) ⟨m, fun _ => 0, ρ⟩ fun r => ∀ c : Dev nD,
    r.2.mem ((c.tc : Thread nD τ).loc main_v68_0) = dqArr (X c)
    ∧ r.2.mem ((c.tc : Thread nD τ).loc main_v68_1) = dkArr (X c)
    ∧ r.2.mem ((c.tc : Thread nD τ).loc main_v68_2) = dvArr (X c)
    ∧ r.2.mem ((c.tc : Thread nD τ).loc main_v68_3) = dbandArr (X c)
    ∧ r.2.mem ((c.tc : Thread nD τ).loc main_v68_4) = dgainArr (X c) :=
  (θ_run defs _ _).mono (fun _ h c => arrays_eq m X G h c) (run_main m ρ)

end Kernel

section Reference

open Cert.ReferenceIdeal Cert.ReferenceIdeal.Attn
open Cert.KernelIdeal.Attn (Given dqArr dkArr dvArr dbandArr dgainArr)

variable (m : (ℓ : Loc nD τ sig) → Buf (Elt Ideal) ℓ) (ρ : Dev nD → PrngReg) (X : Dev nD → Arrays)
  (G : ∀ c : Dev nD, Given (X c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)))
include G

/-- What the reference ends with. -/
theorem reference_results : θ_run defs (onTc (τ := τ) (main (F := Ideal))) ⟨m, fun _ => 0, ρ⟩ fun r => ∀ c : Dev nD,
    r.2.mem ((c.tc : Thread nD τ).loc main_v206) = dqArr (X c)
    ∧ r.2.mem ((c.tc : Thread nD τ).loc main_v207) = dkArr (X c)
    ∧ r.2.mem ((c.tc : Thread nD τ).loc main_v208) = dvArr (X c)
    ∧ r.2.mem ((c.tc : Thread nD τ).loc main_v168) = dbandArr (X c)
    ∧ r.2.mem ((c.tc : Thread nD τ).loc main_v106) = dgainArr (X c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  θ_run_mono (Cert.ReferenceIdeal.Value.run (F := Ideal) m ρ) fun _ h c =>
    ⟨(h c).1.trans (dq_ref (G c)), (h c).2.1.trans (dk_ref (G c)), (h c).2.2.1.trans (dv_ref (G c)),
      (h c).2.2.2.1.trans (dband_ref (G c)), (h c).2.2.2.2.1.trans (dgain_ref (G c)), (h c).2.2.2.2.2⟩

end Reference

/-- The same results, and the arguments as they were. -/
theorem same_results : Cert.algebraic_KernelIdeal_ReferenceIdeal_pre_finite := by
  intro m ρ m' ρ' hpre hagree
  have G := fun c => given (hpre c)
  refine ⟨fun c => _, fun c => _, fun c => _, fun c => _, fun c => _,
    θ_run_mono (θ_run_and (kernel_results m ρ _ G) (Cert.KernelIdeal.Attn.frame (F := Ideal) m ρ))
      fun r h c => ⟨(h.1 c).1, (h.1 c).2.1, (h.1 c).2.2.1, (h.1 c).2.2.2.1, (h.1 c).2.2.2.2, h.2.1 c⟩,
    reference_results m' ρ' _ fun c => ?_⟩
  obtain ⟨e0, e1, e2, e3, e4, e5⟩ := hagree c
  rw [e0, e1, e2, e3, e4, e5]
  exact G c

end Cert.Proof

end
-- ==== Proof.Mlp.Frames.lean ====
/-
  The frames of the matrix product calls' references: they have host operations alone and declare no semaphore.
-/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import Idealize.ShloMosaic.Lib.Quiescent

@[expose] public section

noncomputable section

namespace Cert.Proof

open Idealize.ShloMosaic Idealize.SL.Sem

theorem frame_reference2 : Cert.quiescent_Reference2Ideal := fun m ρ _ =>
  (θ_run Cert.Reference2Ideal.defs _ _).mono (fun r h => ⟨fun c => (h c).2, sem_eq_zero_of_no_sems rfl r.2⟩) (Cert.Reference2Ideal.Value.run (F := Ideal) m ρ)

theorem frame_reference3 : Cert.quiescent_Reference3Ideal := fun m ρ _ =>
  (θ_run Cert.Reference3Ideal.defs _ _).mono (fun r h => ⟨fun c => (h c).2, sem_eq_zero_of_no_sems rfl r.2⟩) (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems rfl r.2⟩) (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems rfl r.2⟩) (Cert.Reference5Ideal.Value.run (F := Ideal) m ρ)

theorem frame_reference6 : Cert.quiescent_Reference6Ideal := fun m ρ _ =>
  (θ_run Cert.Reference6Ideal.defs _ _).mono (fun r h => ⟨fun c => (h c).2.2.2, sem_eq_zero_of_no_sems rfl r.2⟩) (Cert.Reference6Ideal.Value.run (F := Ideal) m ρ)

theorem frame_reference7 : Cert.quiescent_Reference7Ideal := fun m ρ _ =>
  (θ_run Cert.Reference7Ideal.defs _ _).mono (fun r h => ⟨fun c => (h c).2, sem_eq_zero_of_no_sems rfl r.2⟩) (Cert.Reference7Ideal.Value.run (F := Ideal) m ρ)

theorem frame_reference8 : Cert.quiescent_Reference8Ideal := fun m ρ _ =>
  (θ_run Cert.Reference8Ideal.defs _ _).mono (fun r h => ⟨fun c => (h c).2, sem_eq_zero_of_no_sems rfl r.2⟩) (Cert.Reference8Ideal.Value.run (F := Ideal) m ρ)

theorem frame_reference9 : Cert.quiescent_Reference9Ideal := fun m ρ _ =>
  (θ_run Cert.Reference9Ideal.defs _ _).mono (fun r h => ⟨fun c => (h c).2, sem_eq_zero_of_no_sems rfl r.2⟩) (Cert.Reference9Ideal.Value.run (F := Ideal) m ρ)

theorem frame_reference10 : Cert.quiescent_Reference10Ideal := fun m ρ _ =>
  (θ_run Cert.Reference10Ideal.defs _ _).mono (fun r h => ⟨fun c => (h c).2, sem_eq_zero_of_no_sems rfl r.2⟩) (Cert.Reference10Ideal.Value.run (F := Ideal) m ρ)

theorem frame_reference11 : Cert.quiescent_Reference11Ideal := fun m ρ _ =>
  (θ_run Cert.Reference11Ideal.defs _ _).mono (fun r h => ⟨fun c => (h c).2, sem_eq_zero_of_no_sems rfl r.2⟩) (Cert.Reference11Ideal.Value.run (F := Ideal) m ρ)

theorem frame_reference12 : Cert.quiescent_Reference12Ideal := fun m ρ _ =>
  (θ_run Cert.Reference12Ideal.defs _ _).mono (fun r h => ⟨fun c => (h c).2, sem_eq_zero_of_no_sems rfl r.2⟩) (Cert.Reference12Ideal.Value.run (F := Ideal) m ρ)

theorem frame_reference13 : Cert.quiescent_Reference13Ideal := fun m ρ _ =>
  (θ_run Cert.Reference13Ideal.defs _ _).mono (fun r h => ⟨fun c => (h c).2, sem_eq_zero_of_no_sems rfl r.2⟩) (Cert.Reference13Ideal.Value.run (F := Ideal) m ρ)

theorem frame_reference14 : Cert.quiescent_Reference14Ideal := fun m ρ _ =>
  (θ_run Cert.Reference14Ideal.defs _ _).mono (fun r h => ⟨fun c => (h c).2, sem_eq_zero_of_no_sems rfl r.2⟩) (Cert.Reference14Ideal.Value.run (F := Ideal) m ρ)

theorem frame_reference15 : Cert.quiescent_Reference15Ideal := fun m ρ _ =>
  (θ_run Cert.Reference15Ideal.defs _ _).mono (fun r h => ⟨fun c => (h c).2, sem_eq_zero_of_no_sems rfl r.2⟩) (Cert.Reference15Ideal.Value.run (F := Ideal) m ρ)

theorem frame_reference16 : Cert.quiescent_Reference16Ideal := fun m ρ _ =>
  (θ_run Cert.Reference16Ideal.defs _ _).mono (fun r h => ⟨fun c => (h c).2, sem_eq_zero_of_no_sems rfl r.2⟩) (Cert.Reference16Ideal.Value.run (F := Ideal) m ρ)

end Cert.Proof

end
-- ==== Proof.Mlp.GateGrad.lean ====
/-
  The gradient of the gate: what the kernel leaves for the cotangents of the gate and of the other half, and that it is the
  derivative that the reference computes, for real arguments.
-/
module

public import proofs.«01_k».proof.Defs
public import proofs.«01_k».proof.Proof.Gen.Kernel2Ideal.Frame
public import proofs.«01_k».proof.Proof.Gen.Reference2Ideal.Run
public import proofs.«01_k».proof.Proof.Gen.Pre_finite2
public import proofs.«01_k».proof.Proof.Value.Finite
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Mlp

open Idealize.ShloMosaic Idealize.ShloMosaic.TcCoe Cert.Kernel2Ideal.Gen
open Idealize.ShloMosaic.Pipeline (Dat)

variable (m : (ℓ : Loc nD τ sig) → Buf (Elt Ideal) ℓ)

/-- The cotangent of the activation at row t and column f. -/
def actGrad (D : FVec Ideal S2048x2048 .bf16) (W : FVec Ideal S1x5632x2048 .bf16) (t : Fin 2048) (f : Fin 5632) : EReal :=
  ∑ k : Fin 2048, D (ix2 t k) * W (ix3 0 f k)

/-- The cotangent of the gate as the kernel computes it. -/
def ofGate (D : FVec Ideal S2048x2048 .bf16) (W : FVec Ideal S1x5632x2048 .bf16) (G U : FVec Ideal S2048x5632 .bf16) (t : Fin 2048) (f : Fin 5632) : EReal :=
  actGrad D W t f * U (ix2 t f) * Ideal.logistic (G (ix2 t f)) * (1 + G (ix2 t f) * (1 - Ideal.logistic (G (ix2 t f))))

/-- The cotangent of the other half. -/
def ofUp (D : FVec Ideal S2048x2048 .bf16) (W : FVec Ideal S1x5632x2048 .bf16) (G : FVec Ideal S2048x5632 .bf16) (t : Fin 2048) (f : Fin 5632) : EReal :=
  actGrad D W t f * G (ix2 t f) * Ideal.logistic (G (ix2 t f))

def gateGrad (D : FVec Ideal S2048x2048 .bf16) (W : FVec Ideal S1x5632x2048 .bf16) (G U : FVec Ideal S2048x5632 .bf16) : FVec Ideal S2x2048x5632 .bf16 :=
  fun j => if (j 0).val < 1 then ofGate D W G U (j 1) (j 2) else ofUp D W G (j 1) (j 2)

theorem idx : ∀ t : Fin cfg0.N, win0_0.index t = ![t.val / 11, 0] ∧ win0_1.index t = ![0, t.val % 11, 0]
    ∧ win0_2.index t = ![t.val / 11, t.val % 11] ∧ win0_3.index t = ![t.val / 11, t.val % 11] ∧ win0_4.index t = ![0, t.val / 11, t.val % 11] :=
  (by decide +kernel : ∀ t : Fin grid0.N, _)

theorem final (c : Dev nD) : (dats m 0 c).arrAt 4 (cfgs 0).N = gateGrad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  canon_tiles x h
  · have e : ¬(((cfg0.win 4).blk t).view.emb y 0).val < 1 := by blk_simp [idx t]; omega
    refine Eq.trans ?_ (if_neg e).symm
    pointwise [k0_pay5, k0_pay1, k0_pay2, k0_pay3, ofUp, actGrad]
    blk_point [iblk, V, idx t]
  · have e : (((cfg0.win 4).blk t).view.emb y 0).val < 1 := by blk_simp [idx t]; omega
    refine Eq.trans ?_ (if_pos e).symm
    pointwise [k0_pay4, k0_pay1, k0_pay2, k0_pay3, ofGate, actGrad]
    blk_point [iblk, V, idx t]

end Cert.Kernel2Ideal.Mlp

namespace Cert.Proof

open Idealize.ShloMosaic Idealize.ShloMosaic.TcCoe

attribute [local instance] Cert.Pre_finite2.Gen.facts

/-- The derivative of the gate as the kernel has it and as the product rule has it, for a real factor. -/
theorem gate_deriv (a : ℝ) (x : EReal) :
    (a : EReal) * Ideal.logistic x * (1 + x * (1 - Ideal.logistic x))
      = a * Ideal.logistic x + x * a * (Ideal.logistic x * (1 - Ideal.logistic x)) := by
  have e : (1 : EReal) - 1 = 0 := EReal.sub_self (by decide) (by decide)
  induction x with
  | bot => simp
  | top => simp [e]
  | coe r =>
    rw [Ideal.logistic_coe]
    norm_cast
    ring

/-- The precondition's test of a whole array, at one index. -/
theorem real_at {s : Shape} {x : FVec Ideal s .bf16} {b : (⟨0, ![]⟩ : Shape).BroadcastsInDim s ![]}
    (h : cmpf .olt (Host.absf x) (broadcastInDim s ![] b (constant (F := Ideal) ⟨0, ![]⟩ .bf16 0x7F80#16)) = fun _ => 1#1) (i : s.Idx) :
    x i = (((x i).toReal : ℝ) : EReal) := by
  have e : Ideal.ofBits .bf16 0x7F80#16 = ⊤ := by simp [Ideal.ofBits, Ideal.ieee]
  exact Cert.Attn.real_of_lt (by rw [← e]; exact congrFun h i)

/-- Where the cotangent and the weight are real, so is the cotangent of the activation. -/
theorem actGrad_real {D : FVec Ideal Cert.Kernel2Ideal.S2048x2048 .bf16} {W : FVec Ideal Cert.Kernel2Ideal.S1x5632x2048 .bf16}
    (hD : ∀ i, D i = (((D i).toReal : ℝ) : EReal)) (hW : ∀ i, W i = (((W i).toReal : ℝ) : EReal)) (t : Fin 2048) (f : Fin 5632) :
    ∃ r : ℝ, Cert.Kernel2Ideal.Mlp.actGrad D W t f = r :=
  ⟨_, (Finset.sum_congr rfl fun x _ => (congrArg₂ (· * ·) (hD _) (hW _)).trans (Cert.Attn.lift_mul _ _)).trans (Cert.Attn.lift_sum _)⟩

theorem same_gate_grad : Cert.algebraic_Kernel2Ideal_Reference2Ideal_pre_finite2 := by
  pair_intro
  · run_from Cert.Kernel2Ideal.Gen.run_main m g
  · hlo_run
    rw [Cert.Kernel2Ideal.Mlp.final m c]
    simp -implicitDefEqProofs only [StableHlo.TRef.ofBuf_toBuf, StableHlo.TRef.ofBuf, StableHlo.TRef.toBuf, cast_eq]
    funext j
    idx_vars j
    pointwise [Cert.Kernel2Ideal.Mlp.gateGrad, Cert.Kernel2Ideal.Mlp.ofGate, Cert.Kernel2Ideal.Mlp.ofUp, Cert.Kernel2Ideal.Mlp.actGrad]
    have e (x : EReal) : Ideal.div 1 (1 + Ideal.exp (-x)) = Ideal.logistic x := rfl
    obtain ⟨hD, hW, hU⟩ := hpre c
    obtain ⟨r, hr⟩ := actGrad_real (real_at hD) (real_at hW) j1 j2
    unfold Cert.Kernel2Ideal.Mlp.actGrad at hr
    rw [(hagree c).2.2.2]
    simp only [e, hr]
    by_cases h : j0.val < 1
    · rw [dif_pos h, if_pos h, real_at hU (ix2 j1 j2), Cert.Attn.lift_mul]
      exact (gate_deriv _ _).symm
    · rw [dif_neg h, if_neg h]
      rw [mul_comm, ← mul_assoc]

end Cert.Proof

end
-- ==== Proof.Mlp.GradInput.lean ====
/-
  The gradient of the channel mixer's input: the kernel adds up, block of columns by block of columns, the cotangent times
  the first weight, and the reference sums over all columns at once.
-/
module

public import proofs.«01_k».proof.Defs
public import proofs.«01_k».proof.Proof.Gen.Kernel3Ideal.Frame
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel3Ideal.Mlp

open Idealize.ShloMosaic Idealize.ShloMosaic.TcCoe Cert.Kernel3Ideal.Gen
open Idealize.ShloMosaic.Pipeline (Dat)

variable (m : (ℓ : Loc nD τ sig) → Buf (Elt Ideal) ℓ)

/-- Block n's part of element (t, k): the sum over the columns 2816 n + l of the cotangent times the weight's row k. -/
def part (D : FVec Ideal S2x2048x5632 .bf16) (W : FVec Ideal S4x2048x2816 .bf16) (n : Fin 4) (t k : Fin 2048) : EReal :=
  ∑ l : Fin 2816, D (ix3 ⟨n.val / 2, by omega⟩ t ⟨2816 * (n.val % 2) + l.val, by omega⟩) * W (ix3 n k l)

def inputGrad (D : FVec Ideal S2x2048x5632 .bf16) (W : FVec Ideal S4x2048x2816 .bf16) : FVec Ideal S2048x2048 .f32 :=
  fun j => ∑ n : Fin 4, part D W n (j 0) (j 1)

theorem idx : ∀ t : Fin cfg0.N, win0_0.index t = ![t.val % 4 / 2, t.val / 8, t.val % 2] ∧ win0_1.index t = ![t.val % 4, t.val / 4 % 2, 0]
    ∧ win0_2.index t = ![t.val / 8, t.val / 4 % 2] :=
  (by decide +kernel : ∀ t : Fin grid0.N, _)

/-- What a grid point adds to the sum kept over the four points of a block. -/
def added (c : Dev nD) (t : Fin cfg0.N) (y : S1024x1024.Idx) : EReal := k0_pay1 (F := Ideal) (iblk m c 0 t) (iblk m c 1 t) y

theorem sum_first (c : Dev nD) (t : Fin cfg0.N) (h : t.val % 4 = 0) (y : S1024x1024.Idx) :
    (outsAt0 m c t.val t.isLt).2 y = 0 + added m c t y := by
  rw [outsAt0_A m c t h (by omega) (by omega)]; frame_out
  pointwise [k0_pay2, added]

theorem sum_next (c : Dev nD) (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + added m c t y := by
  by_cases h3 : t.val % 4 = 3
  · rw [outsAt0_C m c t h (by omega) h3]; frame_out
    rw [read_unread_whole]
    pointwise [k0_pay3, added]
  · rw [outsAt0_B m c t h (by omega) h3]; frame_out
    rw [read_unread_whole]
    pointwise [k0_pay3, added]

/-- At the last point of a block what is written back is the sum. -/
theorem sum_last (c : Dev nD) (t : Fin cfg0.N) (h : t.val % 4 = 3) (y : S1024x1024.Idx) :
    (outsAt0 m c t.val t.isLt).1 y = (outsAt0 m c t.val t.isLt).2 y := by
  rw [outsAt0_C m c t (by omega) (by omega) h]; frame_out

theorem final (c : Dev nD) : (dats m 0 c).arrAt 2 (cfgs 0).N = inputGrad (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (sum_last m c t h3 y).trans ?_
  rw [Pipeline.eq_sum_fin_of_reset_step_apply_of_flush (fun n h => (outsAt0 m c n h).2) 4 (fun _ => 0) (added m c)
    (fun t h y => sum_first m c t h y) (fun t h y => sum_next m c t h y) t h3 _, zero_add]
  refine Fin.sum_fin_congr fun s => ?_
  pointwise [added, k0_pay1, part]
  blk_point [iblk, V, idx t, idx ⟨_, Pipeline.run_point_lt_of_flush t h3 s⟩]

end Cert.Kernel3Ideal.Mlp

namespace Cert.Proof

open Idealize.ShloMosaic Idealize.ShloMosaic.TcCoe

theorem same_grad_input : Cert.algebraic_Kernel3Ideal_Reference3Ideal := by
  pair_intro
  · run_from Cert.Kernel3Ideal.Gen.run_main m g
  · hlo_run
    rw [Cert.Kernel3Ideal.Mlp.final m c]
    funext j
    idx_vars j
    pointwise [Cert.Kernel3Ideal.Mlp.inputGrad, Cert.Kernel3Ideal.Mlp.part]
    refine (Fin.sum_mul_add_congr fun n l hl => ?_).symm
    blk_point []

end Cert.Proof

end
-- ==== Proof.Mlp.GradIn.lean ====
/-
  Half of the gradient of the channel mixer's first weight: every element of the kernel's result is the sum over the sequence
  of the mixer's input times the cotangent, and so is the reference's.
-/
module

public import proofs.«01_k».proof.Defs
public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Mlp

open Idealize.ShloMosaic Idealize.ShloMosaic.TcCoe Cert.Kernel4Ideal.Gen
open Idealize.ShloMosaic.Pipeline (Dat)

variable (m : (ℓ : Loc nD τ sig) → Buf (Elt Ideal) ℓ)

/-- Element (q, k, l), the weight's row k and column 2816 q + l: the sum over the rows of input k times the cotangent of that
    column, which lies in half q / 2. -/
def gradAt (H : FVec Ideal S2048x1024 .bf16) (D : FVec Ideal S2x2048x5632 .bf16) (q : Fin 4) (k : Fin 1024) (l : Fin 2816) : EReal :=
  ∑ t : Fin 2048, H (ix2 t k) * D (ix3 ⟨q.val / 2, by omega⟩ t ⟨2816 * (q.val % 2) + l.val, by omega⟩)

def weightGrad (H : FVec Ideal S2048x1024 .bf16) (D : FVec Ideal S2x2048x5632 .bf16) : FVec Ideal S4x1024x2816 .bf16 :=
  fun j => gradAt H D (j 0) (j 1) (j 2)

theorem idx : ∀ t : Fin cfg0.N, win0_0.index t = ![0, t.val / 8] ∧ win0_1.index t = ![t.val % 8 / 4, 0, t.val % 4]
    ∧ win0_2.index t = ![t.val % 8 / 2, t.val / 8, t.val % 2] :=
  (by decide +kernel : ∀ t : Fin grid0.N, _)

/-- What a grid point stores is its block of the sums. -/
theorem point (c : Dev nD) (t : Fin cfg0.N) (y) : k0_pay1 (F := Ideal) (iblk m c 0 t) (iblk m c 1 t) y
    = weightGrad (m ((c : Thread nD τ).loc main_arg0)) (m ((c : Thread nD τ).loc main_arg1)) (((cfg0.win 2).blk t).view.emb y) := by
  pointwise [k0_pay1, weightGrad, gradAt]
  blk_point [iblk, V, idx t]

theorem final (c : Dev nD) : (dats m 0 c).arrAt 2 (cfgs 0).N = weightGrad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Mlp

namespace Cert.Proof

open Idealize.ShloMosaic Idealize.ShloMosaic.TcCoe

theorem same_grad_in : Cert.algebraic_Kernel4Ideal_Reference4Ideal := by
  pair_intro
  · run_from Cert.Kernel4Ideal.Gen.run_main m g
  · hlo_run
    rw [Cert.Kernel4Ideal.Mlp.final m c]
    funext j
    idx_vars j
    pointwise [Cert.Kernel4Ideal.Mlp.weightGrad, Cert.Kernel4Ideal.Mlp.gradAt]
    refine Finset.sum_congr rfl fun t _ => (mul_comm _ _).trans ?_
    blk_point []

end Cert.Proof

end
-- ==== Proof.Mlp.GradOut.lean ====
/-
  The gradient of the channel mixer's second weight: every element of the kernel's result is the sum over the sequence of
  the activation times the cotangent, and so is the reference's.
-/
module

public import proofs.«01_k».proof.Defs
public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Mlp

open Idealize.ShloMosaic Idealize.ShloMosaic.TcCoe Cert.Kernel5Ideal.Gen
open Idealize.ShloMosaic.Pipeline (Dat)

variable (m : (ℓ : Loc nD τ sig) → Buf (Elt Ideal) ℓ)

/-- Element (0, f, d): the sum over the rows of activation f times cotangent d. -/
def weightGrad (A : FVec Ideal S2048x5632 .bf16) (G : FVec Ideal S2048x2048 .bf16) : FVec Ideal S1x5632x2048 .bf16 :=
  fun j => ∑ t : Fin 2048, A (ix2 t (j 1)) * G (ix2 t (j 2))

theorem idx : ∀ t : Fin cfg0.N, win0_0.index t = ![0, t.val / 2] ∧ win0_1.index t = ![0, t.val % 2]
    ∧ win0_2.index t = ![0, t.val / 2, t.val % 2] :=
  (by decide +kernel : ∀ t : Fin grid0.N, _)

/-- What a grid point stores is its block of the sums. -/
theorem point (c : Dev nD) (t : Fin cfg0.N) (y) : k0_pay1 (F := Ideal) (iblk m c 0 t) (iblk m c 1 t) y
    = weightGrad (m ((c : Thread nD τ).loc main_arg0)) (m ((c : Thread nD τ).loc main_arg1)) (((cfg0.win 2).blk t).view.emb y) := by
  pointwise [k0_pay1, weightGrad]
  blk_point [iblk, V, idx t]

theorem final (c : Dev nD) : (dats m 0 c).arrAt 2 (cfgs 0).N
    = weightGrad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel5Ideal.Mlp

namespace Cert.Proof

open Idealize.ShloMosaic Idealize.ShloMosaic.TcCoe

theorem same_grad_out : Cert.algebraic_Kernel5Ideal_Reference5Ideal := by
  pair_intro
  · run_from Cert.Kernel5Ideal.Gen.run_main m g
  · hlo_run
    rw [Cert.Kernel5Ideal.Mlp.final m c]
    funext j
    idx_vars j
    pointwise [Cert.Kernel5Ideal.Mlp.weightGrad]
    exact Finset.sum_congr rfl fun t _ => mul_comm _ _

end Cert.Proof

end
-- ==== Proof.Mlp.Gate.lean ====
/-
  The channel mixer's first product and its gate: what the kernel leaves for the gate, the other half and the activation is
  what the reference computes.
-/
module

public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.Mlp

open Idealize.ShloMosaic Idealize.ShloMosaic.TcCoe Cert.Kernel6Ideal.Gen
open Idealize.ShloMosaic.Pipeline (Dat)

variable (m : (ℓ : Loc nD τ sig) → Buf (Elt Ideal) ℓ)

/-- The product at row t and column 2816 q + l of the weight. -/
def prodAt (H : FVec Ideal S2048x2048 .bf16) (W : FVec Ideal S4x2048x2816 .bf16) (t : Fin 2048) (q : Fin 4) (l : Fin 2816) : EReal :=
  ∑ k : Fin 2048, H (ix2 t k) * W (ix3 q k l)

/-- Column f of the gate. -/
def gateAt (H : FVec Ideal S2048x2048 .bf16) (W : FVec Ideal S4x2048x2816 .bf16) (t : Fin 2048) (f : Fin 5632) : EReal :=
  prodAt H W t ⟨f.val / 2816, by omega⟩ ⟨f.val % 2816, by omega⟩

/-- Column f of the other half. -/
def upAt (H : FVec Ideal S2048x2048 .bf16) (W : FVec Ideal S4x2048x2816 .bf16) (t : Fin 2048) (f : Fin 5632) : EReal :=
  prodAt H W t ⟨f.val / 2816 + 2, by omega⟩ ⟨f.val % 2816, by omega⟩

def gates (H : FVec Ideal S2048x2048 .bf16) (W : FVec Ideal S4x2048x2816 .bf16) : FVec Ideal S2048x5632 .bf16 :=
  fun j => gateAt H W (j 0) (j 1)
def ups (H : FVec Ideal S2048x2048 .bf16) (W : FVec Ideal S4x2048x2816 .bf16) : FVec Ideal S2048x5632 .bf16 :=
  fun j => upAt H W (j 0) (j 1)
/-- The activation: gate times its logistic times the other half. -/
def acts (H : FVec Ideal S2048x2048 .bf16) (W : FVec Ideal S4x2048x2816 .bf16) : FVec Ideal S2048x5632 .bf16 :=
  fun j => gateAt H W (j 0) (j 1) * Ideal.logistic (gateAt H W (j 0) (j 1)) * upAt H W (j 0) (j 1)

theorem idx : ∀ t : Fin cfg0.N, win0_0.index t = ![0, 0] ∧ win0_1.index t = ![t.val / 11, 0, t.val % 11]
    ∧ win0_2.index t = ![t.val / 11 + 2, 0, t.val % 11] ∧ win0_3.index t = ![0, t.val] ∧ win0_4.index t = ![0, t.val] ∧ win0_5.index t = ![0, t.val] :=
  (by decide +kernel : ∀ t : Fin grid0.N, _)

theorem gate_final (c : Dev nD) : (dats m 0 c).arrAt 3 (cfgs 0).N = gates (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay3, k0_pay1, gates, gateAt, prodAt]
  blk_point [iblk, V, idx t]

theorem up_final (c : Dev nD) : (dats m 0 c).arrAt 4 (cfgs 0).N = ups (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay4, k0_pay2, ups, upAt, prodAt]
  blk_point [iblk, V, idx t]

theorem act_final (c : Dev nD) : (dats m 0 c).arrAt 5 (cfgs 0).N = acts (m ((c : Thread nD τ).loc main_arg0)) (m ((c : Thread nD τ).loc main_arg1)) := by
  refine (dats m 0 c).arrAt_eq_of_covers 5 _ (by decide +kernel) fun t _ y => ?_
  blk_simp
  rw [after0_5]; frame_out
  pointwise [k0_pay5, k0_pay1, k0_pay2, acts, gateAt, upAt, prodAt]
  blk_point [iblk, V, idx t]

end Cert.Kernel6Ideal.Mlp

namespace Cert.Proof

open Idealize.ShloMosaic Idealize.ShloMosaic.TcCoe

theorem same_gate : Cert.algebraic_Kernel6Ideal_Reference6Ideal := by
  pair_intro
  · run_from Cert.Kernel6Ideal.Gen.run_main m g
  · hlo_run
    · rw [Cert.Kernel6Ideal.Mlp.gate_final m c]
      funext j
      idx_vars j
      pointwise [Cert.Kernel6Ideal.Mlp.gates, Cert.Kernel6Ideal.Mlp.gateAt, Cert.Kernel6Ideal.Mlp.prodAt]
    · rw [Cert.Kernel6Ideal.Mlp.up_final m c]
      funext j
      idx_vars j
      pointwise [Cert.Kernel6Ideal.Mlp.ups, Cert.Kernel6Ideal.Mlp.upAt, Cert.Kernel6Ideal.Mlp.prodAt]
      blk_point []
    · rw [Cert.Kernel6Ideal.Mlp.act_final m c]
      simp -implicitDefEqProofs only [StableHlo.TRef.ofBuf_toBuf, StableHlo.TRef.ofBuf, StableHlo.TRef.toBuf, cast_eq]
      funext j
      idx_vars j
      pointwise [Cert.Kernel6Ideal.Mlp.acts, Cert.Kernel6Ideal.Mlp.gateAt, Cert.Kernel6Ideal.Mlp.upAt, Cert.Kernel6Ideal.Mlp.prodAt, Ideal.logistic]
      blk_point []

end Cert.Proof

end
-- ==== Proof.Mlp.GradInAdd.lean ====
/-
  The other half of the gradient of the channel mixer's first weight: the kernel adds the product of a second sequence's input
  and cotangent to the gradient of the first, and so does the reference.
-/
module

public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel7Ideal.Mlp

open Idealize.ShloMosaic Idealize.ShloMosaic.TcCoe Cert.Kernel7Ideal.Gen
open Idealize.ShloMosaic.Pipeline (Dat)

variable (m : (ℓ : Loc nD τ sig) → Buf (Elt Ideal) ℓ)

/-- The product at element (q, k, l): the sum over the rows of input k times the cotangent of column 2816 q + l. -/
def gradAt (H : FVec Ideal S2048x1024 .bf16) (D : FVec Ideal S2x2048x5632 .bf16) (q : Fin 4) (k : Fin 1024) (l : Fin 2816) : EReal :=
  ∑ t : Fin 2048, H (ix2 t k) * D (ix3 ⟨q.val / 2, by omega⟩ t ⟨2816 * (q.val % 2) + l.val, by omega⟩)

def weightGrad (H : FVec Ideal S2048x1024 .bf16) (D : FVec Ideal S2x2048x5632 .bf16) (P : FVec Ideal S4x1024x2816 .bf16) : FVec Ideal S4x1024x2816 .bf16 :=
  fun j => gradAt H D (j 0) (j 1) (j 2) + P j

theorem idx : ∀ t : Fin cfg0.N, win0_0.index t = ![0, t.val / 8] ∧ win0_1.index t = ![t.val % 8 / 4, 0, t.val % 4] ∧ win0_2.index t = ![t.val % 8 / 2, t.val / 8, t.val % 2] ∧ win0_3.index t = ![t.val % 8 / 2, t.val / 8, t.val % 2] :=
  (by decide +kernel : ∀ t : Fin grid0.N, _)

/-- What a grid point stores is its block of that array. -/
theorem point (c : Dev nD) (t : Fin cfg0.N) (y) : k0_pay1 (F := Ideal) (iblk m c 0 t) (iblk m c 1 t) (iblk m c 2 t) y
    = weightGrad (m ((c : Thread nD τ).loc main_arg0)) (m ((c : Thread nD τ).loc main_arg1)) (m ((c : Thread nD τ).loc main_arg2)) (((cfg0.win 3).blk t).view.emb y) := by
  pointwise [k0_pay1, weightGrad, gradAt]
  blk_point [iblk, V, idx t]

theorem final (c : Dev nD) : (dats m 0 c).arrAt 3 (cfgs 0).N
    = weightGrad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel7Ideal.Mlp

namespace Cert.Proof

open Idealize.ShloMosaic Idealize.ShloMosaic.TcCoe

theorem same_grad_in_add : Cert.algebraic_Kernel7Ideal_Reference7Ideal := by
  pair_intro
  · run_from Cert.Kernel7Ideal.Gen.run_main m g
  · hlo_run
    rw [Cert.Kernel7Ideal.Mlp.final m c]
    funext j
    idx_vars j
    pointwise [Cert.Kernel7Ideal.Mlp.weightGrad, Cert.Kernel7Ideal.Mlp.gradAt]
    congr 1
    refine Finset.sum_congr rfl fun t _ => (mul_comm _ _).trans ?_
    blk_point []

end Cert.Proof

end
-- ==== Proof.Mlp.Out.lean ====
/-
  The channel mixer's second product: every element of the kernel's result is the sum over the gated columns of the activation
  times the weight, and so is the reference's.
-/
module

public import proofs.«01_k».proof.Defs
public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel8Ideal.Mlp

open Idealize.ShloMosaic Idealize.ShloMosaic.TcCoe Cert.Kernel8Ideal.Gen
open Idealize.ShloMosaic.Pipeline (Dat)

variable (m : (ℓ : Loc nD τ sig) → Buf (Elt Ideal) ℓ)

def product (A : FVec Ideal S2048x5632 .bf16) (W : FVec Ideal S1x5632x2048 .bf16) : FVec Ideal S2048x2048 .f32 :=
  fun j => ∑ f : Fin 5632, A (ix2 (j 0) f) * W (ix3 0 f (j 1))

theorem idx : ∀ t : Fin cfg0.N, win0_0.index t = ![t.val / 4, 0] ∧ win0_1.index t = ![0, 0, t.val % 4] ∧ win0_2.index t = ![t.val / 4, t.val % 4] :=
  (by decide +kernel : ∀ t : Fin grid0.N, _)

/-- What a grid point stores is its block of that array. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Mlp

namespace Cert.Proof

open Idealize.ShloMosaic Idealize.ShloMosaic.TcCoe

theorem same_out : Cert.algebraic_Kernel8Ideal_Reference8Ideal := by
  pair_intro
  · run_from Cert.Kernel8Ideal.Gen.run_main m g
  · hlo_run
    rw [Cert.Kernel8Ideal.Mlp.final m c]
    funext j
    idx_vars j
    pointwise [Cert.Kernel8Ideal.Mlp.product]

end Cert.Proof

end
-- ==== Proof.Mlp.GradProjInput.lean ====
/-
  The gradient of the projection's input: the kernel adds up, block of columns by block of columns, the cotangent times
  the weight, and the reference sums over all columns at once.
-/
module

public import proofs.«01_k».proof.Defs
public import proofs.«01_k».proof.Proof.Gen.Kernel9Ideal.Frame
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel9Ideal.Mlp

open Idealize.ShloMosaic Idealize.ShloMosaic.TcCoe Cert.Kernel9Ideal.Gen
open Idealize.ShloMosaic.Pipeline (Dat)

variable (m : (ℓ : Loc nD τ sig) → Buf (Elt Ideal) ℓ)

/-- Block n's part of element (t, k): the sum over the columns 1792 n + l of the cotangent times the weight's row k. -/
def part (D : FVec Ideal S2048x7168 .bf16) (W : FVec Ideal S4x2048x1792 .bf16) (n : Fin 4) (t k : Fin 2048) : EReal :=
  ∑ l : Fin 1792, D (ix2 t ⟨1792 * n.val + l.val, by omega⟩) * W (ix3 n k l)

def inputGrad (D : FVec Ideal S2048x7168 .bf16) (W : FVec Ideal S4x2048x1792 .bf16) : FVec Ideal S2048x2048 .f32 :=
  fun j => ∑ n : Fin 4, part D W n (j 0) (j 1)

theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- What a grid point adds to the sum kept over the four points of a block. -/
def added (c : Dev nD) (t : Fin cfg0.N) (y : S1024x1024.Idx) : EReal := k0_pay1 (F := Ideal) (iblk m c 0 t) (iblk m c 1 t) y

theorem sum_first (c : Dev nD) (t : Fin cfg0.N) (h : t.val % 4 = 0) (y : S1024x1024.Idx) :
    (outsAt0 m c t.val t.isLt).2 y = 0 + added m c t y := by
  rw [outsAt0_A m c t h (by omega) (by omega)]; frame_out
  pointwise [k0_pay2, added]

theorem sum_next (c : Dev nD) (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + added m c t y := by
  by_cases h3 : t.val % 4 = 3
  · rw [outsAt0_C m c t h (by omega) h3]; frame_out
    rw [read_unread_whole]
    pointwise [k0_pay3, added]
  · rw [outsAt0_B m c t h (by omega) h3]; frame_out
    rw [read_unread_whole]
    pointwise [k0_pay3, added]

/-- At the last point of a block what is written back is the sum. -/
theorem sum_last (c : Dev nD) (t : Fin cfg0.N) (h : t.val % 4 = 3) (y : S1024x1024.Idx) :
    (outsAt0 m c t.val t.isLt).1 y = (outsAt0 m c t.val t.isLt).2 y := by
  rw [outsAt0_C m c t (by omega) (by omega) h]; frame_out

theorem final (c : Dev nD) : (dats m 0 c).arrAt 2 (cfgs 0).N = inputGrad (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (sum_last m c t h3 y).trans ?_
  rw [Pipeline.eq_sum_fin_of_reset_step_apply_of_flush (fun n h => (outsAt0 m c n h).2) 4 (fun _ => 0) (added m c)
    (fun t h y => sum_first m c t h y) (fun t h y => sum_next m c t h y) t h3 _, zero_add]
  refine Fin.sum_fin_congr fun s => ?_
  pointwise [added, k0_pay1, part]
  blk_point [iblk, V, idx t, idx ⟨_, Pipeline.run_point_lt_of_flush t h3 s⟩]

end Cert.Kernel9Ideal.Mlp

namespace Cert.Proof

open Idealize.ShloMosaic Idealize.ShloMosaic.TcCoe

theorem same_grad_proj_input : Cert.algebraic_Kernel9Ideal_Reference9Ideal := by
  pair_intro
  · run_from Cert.Kernel9Ideal.Gen.run_main m g
  · hlo_run
    rw [Cert.Kernel9Ideal.Mlp.final m c]
    funext j
    idx_vars j
    pointwise [Cert.Kernel9Ideal.Mlp.inputGrad, Cert.Kernel9Ideal.Mlp.part]
    refine (Fin.sum_mul_add_congr fun n l hl => ?_).symm
    blk_point []

end Cert.Proof

end
-- ==== Proof.Mlp.GradProj.lean ====
/-
  Half of the gradient of the projection's weight: every element of the kernel's result is the sum over the sequence of the
  input times the cotangent, and so is the reference's.
-/
module

public import proofs.«01_k».proof.Defs
public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel10Ideal.Mlp

open Idealize.ShloMosaic Idealize.ShloMosaic.TcCoe Cert.Kernel10Ideal.Gen
open Idealize.ShloMosaic.Pipeline (Dat)

variable (m : (ℓ : Loc nD τ sig) → Buf (Elt Ideal) ℓ)

/-- The product at element (q, k, l): the sum over the rows of input k times the cotangent of column 1792 q + l. -/
def gradAt (H : FVec Ideal S2048x1024 .bf16) (D : FVec Ideal S2048x7168 .bf16) (q : Fin 4) (k : Fin 1024) (l : Fin 1792) : EReal :=
  ∑ t : Fin 2048, H (ix2 t k) * D (ix2 t ⟨1792 * q.val + l.val, by omega⟩)

def weightGrad (H : FVec Ideal S2048x1024 .bf16) (D : FVec Ideal S2048x7168 .bf16) : FVec Ideal S4x1024x1792 .bf16 :=
  fun j => gradAt H D (j 0) (j 1) (j 2)

theorem idx : ∀ t : Fin cfg0.N, win0_0.index t = ![0, t.val / 8] ∧ win0_1.index t = ![0, t.val % 8] ∧ win0_2.index t = ![t.val % 8 / 2, t.val / 8, t.val % 2] :=
  (by decide +kernel : ∀ t : Fin grid0.N, _)

/-- What a grid point stores is its block of that array. -/
theorem point (c : Dev nD) (t : Fin cfg0.N) (y) : k0_pay1 (F := Ideal) (iblk m c 0 t) (iblk m c 1 t) y
    = weightGrad (m ((c : Thread nD τ).loc main_arg0)) (m ((c : Thread nD τ).loc main_arg1)) (((cfg0.win 2).blk t).view.emb y) := by
  pointwise [k0_pay1, weightGrad, gradAt]
  blk_point [iblk, V, idx t]

theorem final (c : Dev nD) : (dats m 0 c).arrAt 2 (cfgs 0).N
    = weightGrad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.Mlp

namespace Cert.Proof

open Idealize.ShloMosaic Idealize.ShloMosaic.TcCoe

theorem same_grad_proj : Cert.algebraic_Kernel10Ideal_Reference10Ideal := by
  pair_intro
  · run_from Cert.Kernel10Ideal.Gen.run_main m g
  · hlo_run
    rw [Cert.Kernel10Ideal.Mlp.final m c]
    funext j
    idx_vars j
    pointwise [Cert.Kernel10Ideal.Mlp.weightGrad, Cert.Kernel10Ideal.Mlp.gradAt]
    refine Finset.sum_congr rfl fun t _ => (mul_comm _ _).trans ?_
    blk_point []

end Cert.Proof

end
-- ==== Proof.Mlp.GradProjAdd.lean ====
/-
  The other half of the gradient of the projection's weight: the kernel adds the product of a second sequence's input and
  cotangent to the gradient of the first, and so does the reference.
-/
module

public import proofs.«01_k».proof.Defs
public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel11Ideal.Mlp

open Idealize.ShloMosaic Idealize.ShloMosaic.TcCoe Cert.Kernel11Ideal.Gen
open Idealize.ShloMosaic.Pipeline (Dat)

variable (m : (ℓ : Loc nD τ sig) → Buf (Elt Ideal) ℓ)

/-- The product at element (q, k, l): the sum over the rows of input k times the cotangent of column 1792 q + l. -/
def gradAt (H : FVec Ideal S2048x1024 .bf16) (D : FVec Ideal S2048x7168 .bf16) (q : Fin 4) (k : Fin 1024) (l : Fin 1792) : EReal :=
  ∑ t : Fin 2048, H (ix2 t k) * D (ix2 t ⟨1792 * q.val + l.val, by omega⟩)

def weightGrad (H : FVec Ideal S2048x1024 .bf16) (D : FVec Ideal S2048x7168 .bf16) (P : FVec Ideal S4x1024x1792 .bf16) : FVec Ideal S4x1024x1792 .bf16 :=
  fun j => gradAt H D (j 0) (j 1) (j 2) + P j

theorem idx : ∀ t : Fin cfg0.N, win0_0.index t = ![0, t.val / 8] ∧ win0_1.index t = ![0, t.val % 8] ∧ win0_2.index t = ![t.val % 8 / 2, t.val / 8, t.val % 2] ∧ win0_3.index t = ![t.val % 8 / 2, t.val / 8, t.val % 2] :=
  (by decide +kernel : ∀ t : Fin grid0.N, _)

/-- What a grid point stores is its block of that array. -/
theorem point (c : Dev nD) (t : Fin cfg0.N) (y) : k0_pay1 (F := Ideal) (iblk m c 0 t) (iblk m c 1 t) (iblk m c 2 t) y
    = weightGrad (m ((c : Thread nD τ).loc main_arg0)) (m ((c : Thread nD τ).loc main_arg1)) (m ((c : Thread nD τ).loc main_arg2)) (((cfg0.win 3).blk t).view.emb y) := by
  pointwise [k0_pay1, weightGrad, gradAt]
  blk_point [iblk, V, idx t]

theorem final (c : Dev nD) : (dats m 0 c).arrAt 3 (cfgs 0).N
    = weightGrad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel11Ideal.Mlp

namespace Cert.Proof

open Idealize.ShloMosaic Idealize.ShloMosaic.TcCoe

theorem same_grad_proj_add : Cert.algebraic_Kernel11Ideal_Reference11Ideal := by
  pair_intro
  · run_from Cert.Kernel11Ideal.Gen.run_main m g
  · hlo_run
    rw [Cert.Kernel11Ideal.Mlp.final m c]
    funext j
    idx_vars j
    pointwise [Cert.Kernel11Ideal.Mlp.weightGrad, Cert.Kernel11Ideal.Mlp.gradAt]
    congr 1
    refine Finset.sum_congr rfl fun t _ => (mul_comm _ _).trans ?_
    blk_point []

end Cert.Proof

end
-- ==== Proof.Mlp.MixOut.lean ====
/-
  The output product of the token mixer: every element of the kernel's result is the sum over the mixer's columns of its output
  times the weight, and so is the reference's.
-/
module

public import proofs.«01_k».proof.Defs
public import proofs.«01_k».proof.Proof.Gen.Kernel12Ideal.Frame
public import proofs.«01_k».proof.Proof.Gen.Reference12Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel12Ideal.Mlp

open Idealize.ShloMosaic Idealize.ShloMosaic.TcCoe Cert.Kernel12Ideal.Gen
open Idealize.ShloMosaic.Pipeline (Dat)

variable (m : (ℓ : Loc nD τ sig) → Buf (Elt Ideal) ℓ)

def product (A : FVec Ideal S2048x2048 .bf16) (W : FVec Ideal S1x2048x2048 .bf16) : FVec Ideal S2048x2048 .f32 :=
  fun j => ∑ k : Fin 2048, A (ix2 (j 0) k) * W (ix3 0 k (j 1))

theorem idx : ∀ t : Fin cfg0.N, win0_0.index t = ![t.val / 4, 0] ∧ win0_1.index t = ![0, 0, t.val % 4] ∧ win0_2.index t = ![t.val / 4, t.val % 4] :=
  (by decide +kernel : ∀ t : Fin grid0.N, _)

/-- What a grid point stores is its block of that array. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel12Ideal.Mlp

namespace Cert.Proof

open Idealize.ShloMosaic Idealize.ShloMosaic.TcCoe

theorem same_mix_out : Cert.algebraic_Kernel12Ideal_Reference12Ideal := by
  pair_intro
  · run_from Cert.Kernel12Ideal.Gen.run_main m g
  · hlo_run
    rw [Cert.Kernel12Ideal.Mlp.final m c]
    funext j
    idx_vars j
    pointwise [Cert.Kernel12Ideal.Mlp.product]

end Cert.Proof

end
-- ==== Proof.Mlp.GradMix.lean ====
/-
  The gradient of the token mixer's output: every element of the kernel's result is the sum over the columns of the cotangent
  times the output weight's row, and so is the reference's.
-/
module

public import proofs.«01_k».proof.Defs
public import proofs.«01_k».proof.Proof.Gen.Kernel13Ideal.Frame
public import proofs.«01_k».proof.Proof.Gen.Reference13Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel13Ideal.Mlp

open Idealize.ShloMosaic Idealize.ShloMosaic.TcCoe Cert.Kernel13Ideal.Gen
open Idealize.ShloMosaic.Pipeline (Dat)

variable (m : (ℓ : Loc nD τ sig) → Buf (Elt Ideal) ℓ)

def product (D : FVec Ideal S2048x2048 .bf16) (W : FVec Ideal S1x2048x2048 .bf16) : FVec Ideal S2048x2048 .f32 :=
  fun j => ∑ n : Fin 2048, D (ix2 (j 0) n) * W (ix3 0 (j 1) n)

theorem idx : ∀ t : Fin cfg0.N, win0_0.index t = ![t.val / 4, 0] ∧ win0_1.index t = ![0, t.val % 4, 0] ∧ win0_2.index t = ![t.val / 4, t.val % 4] :=
  (by decide +kernel : ∀ t : Fin grid0.N, _)

/-- What a grid point stores is its block of that array. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel13Ideal.Mlp

namespace Cert.Proof

open Idealize.ShloMosaic Idealize.ShloMosaic.TcCoe

theorem same_grad_mix : Cert.algebraic_Kernel13Ideal_Reference13Ideal := by
  pair_intro
  · run_from Cert.Kernel13Ideal.Gen.run_main m g
  · hlo_run
    rw [Cert.Kernel13Ideal.Mlp.final m c]
    funext j
    idx_vars j
    pointwise [Cert.Kernel13Ideal.Mlp.product]

end Cert.Proof

end
-- ==== Proof.Mlp.GradMixOut.lean ====
/-
  The gradient of the token mixer's output weight: every element of the kernel's result is the sum over the sequence of the
  mixer's output times the cotangent, and so is the reference's.
-/
module

public import proofs.«01_k».proof.Defs
public import proofs.«01_k».proof.Proof.Gen.Kernel14Ideal.Frame
public import proofs.«01_k».proof.Proof.Gen.Reference14Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel14Ideal.Mlp

open Idealize.ShloMosaic Idealize.ShloMosaic.TcCoe Cert.Kernel14Ideal.Gen
open Idealize.ShloMosaic.Pipeline (Dat)

variable (m : (ℓ : Loc nD τ sig) → Buf (Elt Ideal) ℓ)

def weightGrad (A G : FVec Ideal S2048x2048 .bf16) : FVec Ideal S1x2048x2048 .bf16 :=
  fun j => ∑ t : Fin 2048, A (ix2 t (j 1)) * G (ix2 t (j 2))

theorem idx : ∀ t : Fin cfg0.N, win0_0.index t = ![0, t.val / 2] ∧ win0_1.index t = ![0, t.val % 2] ∧ win0_2.index t = ![0, t.val / 2, t.val % 2] :=
  (by decide +kernel : ∀ t : Fin grid0.N, _)

/-- What a grid point stores is its block of that array. -/
theorem point (c : Dev nD) (t : Fin cfg0.N) (y) : k0_pay1 (F := Ideal) (iblk m c 0 t) (iblk m c 1 t) y
    = weightGrad (m ((c : Thread nD τ).loc main_arg0)) (m ((c : Thread nD τ).loc main_arg1)) (((cfg0.win 2).blk t).view.emb y) := by
  pointwise [k0_pay1, weightGrad]
  blk_point [iblk, V, idx t]

theorem final (c : Dev nD) : (dats m 0 c).arrAt 2 (cfgs 0).N
    = weightGrad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel14Ideal.Mlp

namespace Cert.Proof

open Idealize.ShloMosaic Idealize.ShloMosaic.TcCoe

theorem same_grad_mix_out : Cert.algebraic_Kernel14Ideal_Reference14Ideal := by
  pair_intro
  · run_from Cert.Kernel14Ideal.Gen.run_main m g
  · hlo_run
    rw [Cert.Kernel14Ideal.Mlp.final m c]
    funext j
    idx_vars j
    pointwise [Cert.Kernel14Ideal.Mlp.weightGrad]
    exact Finset.sum_congr rfl fun _ _ => mul_comm _ _

end Cert.Proof

end
-- ==== Proof.Mlp.ProjQkv.lean ====
/-
  The projection's columns for the attention, the first 3072, below 1024 rows of zeros: every element of the kernel's result is
  zero there, and otherwise the sum over the input times the weight, and so is the reference's.
-/
module

public import proofs.«01_k».proof.Defs
public import proofs.«01_k».proof.Proof.Gen.Kernel15Ideal.Frame
public import proofs.«01_k».proof.Proof.Gen.Reference15Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel15Ideal.Mlp

open Idealize.ShloMosaic Idealize.ShloMosaic.TcCoe Cert.Kernel15Ideal.Gen
open Idealize.ShloMosaic.Pipeline (Dat)

variable (m : (ℓ : Loc nD τ sig) → Buf (Elt Ideal) ℓ)

/-- Element (t, j) of the product: column j of the weight lies in chip j / 1792's block. -/
def colAt (H : FVec Ideal S2048x2048 .bf16) (W : FVec Ideal S4x2048x1792 .bf16) (t : Fin 2048) (j : Fin 3072) : EReal :=
  ∑ k : Fin 2048, H (ix2 t k) * W (ix3 ⟨j.val / 1792, by omega⟩ k ⟨j.val % 1792, by omega⟩)

/-- The array: 1024 rows of zeros, and the product. -/
def qkv (H : FVec Ideal S2048x2048 .bf16) (W : FVec Ideal S4x2048x1792 .bf16) : FVec Ideal S3072x3072 .bf16 :=
  fun j => if (j 0).val < 1024 then 0 else colAt H W ⟨(j 0).val - 1024, by have := (j 0).isLt; change (j 0).val < 3072 at this; omega⟩ (j 1)

theorem idx : ∀ t : Fin cfg0.N, win0_0.index t = ![t.val / 12 - 1, 0] ∧ win0_1.index t = ![t.val % 12 / 7, 0, t.val % 12 % 7] ∧ win0_2.index t = ![t.val / 12, t.val % 12] :=
  (by decide +kernel : ∀ t : Fin grid0.N, _)

theorem final (c : Dev nD) : (dats m 0 c).arrAt 2 (cfgs 0).N
    = qkv (m ((c : Thread nD τ).loc main_arg0)) (m ((c : Thread nD τ).loc main_arg1)) := by
  refine (dats m 0 c).arrAt_eq_of_covers 2 _ (by decide +kernel) fun t _ y => ?_
  blk_simp
  rw [after0_2]
  have hy : (y 0).val < 1024 := (y 0).isLt
  by_cases h : t.val < 12
  · have e : (((cfg0.win 2).blk t).view.emb y 0).val < 1024 := by blk_simp [idx t]; omega
    rw [outsAt0_A m c t h (by omega)]; frame_out
    refine Eq.trans ?_ (if_pos e).symm
    pointwise [k0_pay1]
  · have e : ¬(((cfg0.win 2).blk t).view.emb y 0).val < 1024 := by blk_simp [idx t]; omega
    rw [outsAt0_B m c t h (by omega)]; frame_out
    refine Eq.trans ?_ (if_neg e).symm
    pointwise [k0_pay2, colAt]
    blk_point [iblk, V, idx t]

end Cert.Kernel15Ideal.Mlp

namespace Cert.Proof

open Idealize.ShloMosaic Idealize.ShloMosaic.TcCoe

theorem same_proj_qkv : Cert.algebraic_Kernel15Ideal_Reference15Ideal := by
  pair_intro
  · run_from Cert.Kernel15Ideal.Gen.run_main m g
  · hlo_run
    rw [Cert.Kernel15Ideal.Mlp.final m c]
    funext j
    idx_vars j
    pointwise [Cert.Kernel15Ideal.Mlp.qkv, Cert.Kernel15Ideal.Mlp.colAt]
    by_cases h : j0.val < 1024 <;> simp only [h, ↓reduceDIte, ↓reduceIte]

end Cert.Proof

end
-- ==== Proof.Mlp.ProjRec.lean ====
/-
  The projection's columns for the recurrence, from column 3072 on: every element of the kernel's result is the sum over the
  input times the weight, and so is the reference's.
-/
module

public import proofs.«01_k».proof.Defs
public import proofs.«01_k».proof.Proof.Gen.Kernel16Ideal.Frame
public import proofs.«01_k».proof.Proof.Gen.Reference16Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel16Ideal.Mlp

open Idealize.ShloMosaic Idealize.ShloMosaic.TcCoe Cert.Kernel16Ideal.Gen
open Idealize.ShloMosaic.Pipeline (Dat)

variable (m : (ℓ : Loc nD τ sig) → Buf (Elt Ideal) ℓ)

/-- Element (t, j): column 3072 + j of the weight lies in chip (3072 + j) / 1792's block. -/
def colAt (H : FVec Ideal S2048x2048 .bf16) (W : FVec Ideal S4x2048x1792 .bf16) (t : Fin 2048) (j : Fin 4096) : EReal :=
  ∑ k : Fin 2048, H (ix2 t k) * W (ix3 ⟨(3072 + j.val) / 1792, by omega⟩ k ⟨(3072 + j.val) % 1792, by omega⟩)

def recCols (H : FVec Ideal S2048x2048 .bf16) (W : FVec Ideal S4x2048x1792 .bf16) : FVec Ideal S2048x4096 .f32 :=
  fun j => colAt H W (j 0) (j 1)

theorem idx : ∀ t : Fin cfg0.N, win0_0.index t = ![0, 0] ∧ win0_1.index t = ![(t.val + 12) / 7, 0, (t.val + 12) % 7] ∧ win0_2.index t = ![0, t.val] :=
  (by decide +kernel : ∀ t : Fin grid0.N, _)

/-- What a grid point stores is its block of that array. -/
theorem point (c : Dev nD) (t : Fin cfg0.N) (y) : k0_pay1 (F := Ideal) (iblk m c 0 t) (iblk m c 1 t) y
    = recCols (m ((c : Thread nD τ).loc main_arg0)) (m ((c : Thread nD τ).loc main_arg1)) (((cfg0.win 2).blk t).view.emb y) := by
  pointwise [k0_pay1, recCols, colAt]
  blk_point [iblk, V, idx t]

theorem final (c : Dev nD) : (dats m 0 c).arrAt 2 (cfgs 0).N
    = recCols (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel16Ideal.Mlp

namespace Cert.Proof

open Idealize.ShloMosaic Idealize.ShloMosaic.TcCoe

theorem same_proj_rec : Cert.algebraic_Kernel16Ideal_Reference16Ideal := by
  pair_intro
  · run_from Cert.Kernel16Ideal.Gen.run_main m g
  · hlo_run
    rw [Cert.Kernel16Ideal.Mlp.final m c]
    funext j
    idx_vars j
    pointwise [Cert.Kernel16Ideal.Mlp.recCols, Cert.Kernel16Ideal.Mlp.colAt]

end Cert.Proof

end
-- ==== Proof.Mlp.NormGrad.lean ====
/-
  The gradient of the first layer norm with its scale and shift: what the kernel leaves. Rows of the input's gradient
  are written block by block; the column sums behind the scale's and the shift's gradients grow over the blocks.
-/
module

public import proofs.«01_k».proof.Proof.Gen.Kernel17Ideal.Frame
public import Idealize.ShloMosaic.Lib.Pipeline.ValueKit
public import Idealize.ShloMosaic.Lib.Pipeline.ReadBack
public import Idealize.ShloMosaic.Lib.WritesUnit
public import Idealize.ShloMosaic.Lib.Pointwise

@[expose] public section

set_option maxRecDepth 16384

noncomputable section

namespace Cert.Kernel17Ideal.Norm

open Idealize.ShloMosaic Idealize.ShloMosaic.TcCoe Cert.Kernel17Ideal.Gen
open Idealize.ShloMosaic.Pipeline (Dat)

variable (m : (ℓ : Loc nD τ sig) → Buf (Elt Ideal) ℓ)

/-- The mean of a row of 2048 lanes. -/
def mean (f : Fin 2048 → EReal) : EReal := Ideal.div (∑ l, f l) (Ideal.ofBits .f32 0x45000000#32)

/-- A row less its mean. -/
def centred (x : Fin 2048 → EReal) (k : Fin 2048) : EReal := x k - mean x

/-- One over the standard deviation of a row. -/
def factor (x : Fin 2048 → EReal) : EReal :=
  Ideal.rsqrt (mean (fun l => centred x l * centred x l) + Ideal.ofBits .f32 0x3727C5AC#32)

/-- The normed row. -/
def normed (x : Fin 2048 → EReal) (k : Fin 2048) : EReal := centred x k * factor x

/-- The cotangent of the normed row. -/
def scaled (dh s : Fin 2048 → EReal) (k : Fin 2048) : EReal := dh k * (Ideal.ofBits .f32 0x3F800000#32 + s k)

/-- A row of the input's gradient. -/
def rowGrad (dh du x s : Fin 2048 → EReal) (k : Fin 2048) : EReal :=
  Ideal.ofBits .f32 0x3F9837F0#32 * du k + factor x * (scaled dh s k - mean (scaled dh s)
    - normed x k * mean (fun l => scaled dh s l * normed x l))

def inputGrad (dh du x : FVec Ideal S2048x2048 .f32) (s : FVec Ideal S1x2048 .f32) : FVec Ideal S2048x2048 .f32 :=
  fun j => rowGrad (fun l => dh (ix2 (j 0) l)) (fun l => du (ix2 (j 0) l)) (fun l => x (ix2 (j 0) l)) (fun l => s (ix2 0 l)) (j 1)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem final (c : Dev nD) : (dats m 0 c).arrAt 4 (cfgs 0).N = inputGrad (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 16 = 0
  · rw [outsAt0_A m c t h]; frame_out
    pointwise [k0_pay1, k0_pay5, k0_pay6, k0_pay7, k0_pay8, k0_pay9, inputGrad, rowGrad, normed, factor, centred, mean, scaled]
    blk_point [iblk, V, idx t]
  · rw [outsAt0_B m c t h]; frame_out
    pointwise [k0_pay1, k0_pay5, k0_pay6, k0_pay7, k0_pay8, k0_pay9, inputGrad, rowGrad, normed, factor, centred, mean, scaled]
    blk_point [iblk, V, idx t]

/-- A store of one row, read back: that row is the payload, every other row what was there. -/
theorem row_read {sp : Space} (v : View sig .tc sp S8x2048 .f32) (f : v.ty.Contents (Elt Ideal)) (o : ℕ)
    (inb : ∀ a : Fin 2, (![o, 0] : Fin 2 → ℕ) a + (![1, 2048] : Fin 2 → ℕ) a ≤ S8x2048.size a)
    (w : S1x2048.Idx → Elt Ideal .f32) (L : List (View.Piece (Elt Ideal) S8x2048 .f32)) (a : Fin 8) (b : Fin 2048) :
    v.read (Elt Ideal) (v.writes (Elt Ideal) f (⟨Rect.unit (s := S8x2048) ![o, 0] ![1, 2048] inb, w⟩ :: L)) (ix2 a b)
      = if a.val = o then w (ix2 0 b) else v.read (Elt Ideal) (v.writes (Elt Ideal) f L) (ix2 a b) := by
  by_cases h : a.val = o
  · rw [if_pos h]
    exact View.read_writes_cons_rows_of_mem v f inb w L (ix2 a b) (ix2 0 b) rfl h rfl
  · rw [if_neg h]
    exact View.read_writes_cons_rows_of_not_mem v f inb w L (ix2 a b) rfl rfl (by
      show a.val < o ∨ o + 1 ≤ a.val
      omega)

/-- A row read of a filled block, and of one row stored in it. -/
theorem row_canon (v : View sig .tc .vmem S8x2048 .f32) (o : ℕ)
    (inb : ∀ a : Fin 2, (![o, 0] : Fin 2 → ℕ) a + (![1, 2048] : Fin 2 → ℕ) a ≤ S8x2048.size a)
    (w : S1x2048.Idx → Elt Ideal .f32) (L : List (View.Piece (Elt Ideal) S8x2048 .f32)) (a : Fin 8) (b : Fin 2048) :
    View.canon (⟨Rect.unit (s := S8x2048) ![o, 0] ![1, 2048] inb, w⟩ :: L) (ix2 a b)
      = if a.val = o then w (ix2 0 b) else View.canon L (ix2 a b) := by
  rw [← View.read_writes_junk_apply_eq_canon v, ← View.read_writes_junk_apply_eq_canon v]
  exact row_read v _ o inb w L a b

/-- What blocks x of the cotangent and u of the normed input add to the column sums. -/
def addedOf (x u : FVec Ideal S128x2048 .f32) (a : Fin 8) (b : Fin 2048) : EReal :=
  if a.val = 1 then ∑ r : Fin 128, x (ix2 r b) else if a.val = 0 then ∑ r : Fin 128, x (ix2 r b) * u (ix2 r b) else 0

/-- What a grid point adds to them: row 0 the cotangent times the normed input, row 1 the cotangent. -/
def added (c : Dev nD) (t : Fin cfg0.N) (y : S8x2048.Idx) : EReal :=
  addedOf (iblk m c 0 t) (k0_pay7 (iblk m c 2 t)) (y 0) (y 1)

theorem pay3_at (x u : FVec Ideal S128x2048 .f32) (s : FVec Ideal S1x2048 .f32) (b : Fin 2048) :
    k0_pay3 (F := Ideal) x u s (ix2 0 b) = s (ix2 0 b) + ∑ r : Fin 128, x (ix2 r b) * u (ix2 r b) := by
  pointwise [k0_pay3]

theorem pay4_at (x : FVec Ideal S128x2048 .f32) (s : FVec Ideal S1x2048 .f32) (b : Fin 2048) :
    k0_pay4 (F := Ideal) x s (ix2 0 b) = s (ix2 0 b) + ∑ r : Fin 128, x (ix2 r b) := by
  pointwise [k0_pay4]

theorem sum_first (c : Dev nD) (t : Fin cfg0.N) (h : t.val % 16 = 0) (y : S8x2048.Idx) :
    (outsAt0 m c t.val t.isLt).2 y = 0 + added m c t y := by
  rw [outsAt0_A m c t h]
  idx_vars y
  frame_out
  rw [row_canon (ms0_5 t).view 1, row_canon (ms0_5 t).view 0, View.canon_cons_unit_lit inb_S8x2048_S8x2048_0_0 _ _ (by decide), pay3_at, pay4_at,
    View.readCov_skip _ _ _ _ _ (by decide), View.readCov_fill _ inb_S8x2048_S8x2048_0_0 _ _ _ (by decide),
    View.readCov_fill _ inb_S8x2048_S8x2048_0_0 _ _ _ (by decide)]
  unfold added addedOf
  by_cases h1 : y0.val = 1
  · pointwise [h1, k0_pay2]
  by_cases h0 : y0.val = 0
  · pointwise [h0, k0_pay2]
  · pointwise [h1, h0, k0_pay2]

theorem sum_next (c : Dev nD) (t : Fin cfg0.N) (h : ¬t.val % 16 = 0) (y : S8x2048.Idx) :
    (outsAt0 m c t.val t.isLt).2 y = (outsAt0 m c (t.val - 1) (Nat.lt_of_le_of_lt (Nat.sub_le _ _) t.isLt)).2 y + added m c t y := by
  rw [outsAt0_B m c t h]
  idx_vars y
  frame_out
  rw [row_read _ _ 1, row_read _ _ 0, View.writes_nil, pay3_at, pay4_at, Memref.IsWhole.read_unread]
  generalize (outsAt0 m c (t.val - 1) (Nat.lt_of_le_of_lt (Nat.sub_le _ _) t.isLt)).2 = A
  unfold added addedOf
  by_cases h1 : y0.val = 1
  · have e : y0 = 1 := Fin.ext h1
    subst e
    pointwise []
  by_cases h0 : y0.val = 0
  · have e : y0 = 0 := Fin.ext h0
    subst e
    pointwise []
  · pointwise [h1, h0]

/-- The column sums: row 0 of the cotangent times the normed input, row 1 of the cotangent, block of rows by block of rows. -/
def columnSums (dh x : FVec Ideal S2048x2048 .f32) : FVec Ideal S8x2048 .f32 := fun j =>
  if (j 0).val = 1 then ∑ n : Fin 16, ∑ r : Fin 128, dh (ix2 ⟨128 * n.val + r.val, by omega⟩ (j 1))
  else if (j 0).val = 0 then ∑ n : Fin 16, ∑ r : Fin 128, dh (ix2 ⟨128 * n.val + r.val, by omega⟩ (j 1))
    * normed (fun l => x (ix2 ⟨128 * n.val + r.val, by omega⟩ l)) (j 1)
  else 0

theorem final_sums (c : Dev nD) : (dats m 0 c).arrAt 5 (cfgs 0).N = columnSums (m ((c : Thread nD τ).loc main_arg0))
    (m ((c : Thread nD τ).loc main_arg2)) := by
  refine (dats m 0 c).arrAt_eq_of_covers 5 _ (by decide +kernel) fun t hf y => ?_
  have h15 := (flush0_5 t).mp hf
  blk_simp
  rw [after0_5]
  rw [Pipeline.eq_sum_fin_of_reset_step_apply_of_flush (fun n h => (outsAt0 m c n h).2) 16 (fun _ => 0) (added m c)
    (fun t h y => sum_first m c t h y) (fun t h y => sum_next m c t h y) t h15 _, zero_add]
  unfold added addedOf columnSums
  have e0 : ((((cfg0.win 5).blk t).view.emb y) 0).val = (y 0).val := by blk_simp [idx t]
  by_cases h1 : (y 0).val = 1
  · rw [if_pos (e0.trans h1)]
    refine Fin.sum_fin_congr fun s => ?_
    rw [if_pos h1]
    blk_point [iblk, V, idx t, idx ⟨_, Pipeline.run_point_lt_of_flush t h15 s⟩]
  rw [if_neg (e0 ▸ h1)]
  by_cases h0 : (y 0).val = 0
  · rw [if_pos (e0.trans h0)]
    refine Fin.sum_fin_congr fun s => ?_
    rw [if_neg h1, if_pos h0]
    pointwise [k0_pay7, k0_pay6, k0_pay5, normed, factor, centred, mean]
    blk_point [iblk, V, idx t, idx ⟨_, Pipeline.run_point_lt_of_flush t h15 s⟩]
  · rw [if_neg (e0 ▸ h0)]
    simp only [if_neg h1, if_neg h0]
    exact (Finset.sum_const_zero : ∑ _ : Fin 16, (0 : EReal) = 0)

end Cert.Kernel17Ideal.Norm

end
-- ==== Proof.Mlp.NormRef.lean ====
/-
  The gradient of the first layer norm with its scale and shift: what the reference computes, element by element.
-/
module

public import proofs.«01_k».proof.Proof.Mlp.NormGrad
public import proofs.«01_k».proof.Proof.Gen.Reference17Ideal.Run

@[expose] public section

set_option maxRecDepth 16384

noncomputable section

namespace Cert.Reference17Ideal.Norm

open Cert.Reference17Ideal Cert.Reference17Ideal.Gen Idealize.ShloMosaic Idealize.ShloMosaic.TcCoe Idealize.ShloMosaic.StableHlo
open Cert.Kernel17Ideal.Norm (mean centred factor normed scaled columnSums)

/-- Row t of an array. -/
abbrev row (X : FVec Ideal S2048x2048 .f32) (t : Fin 2048) : Fin 2048 → EReal := fun l => X (ix2 t l)

/-- The scale's lanes. -/
abbrev lanes (S : FVec Ideal S1x2048 .f32) : Fin 2048 → EReal := fun l => S (ix2 0 l)

def count : FVec Ideal S2048x1 .f32 := broadcastInDim S2048x1 ![] bcast_S_S2048x1 (constant S_ .f32 0x45000000#32)

def sums (X : FVec Ideal S2048x2048 .f32) : FVec Ideal S2048 .f32 :=
  Host.reduceAdd X (constant S_ .f32 0x00000000#32) reducesTo_S2048x2048_S2048_d1 h_S_

def means (X : FVec Ideal S2048x2048 .f32) : FVec Ideal S2048x1 .f32 :=
  Host.divf (broadcastInDim S2048x1 ![0] bcast_S2048_S2048x1_0 (sums X)) count

def centredRows (X : FVec Ideal S2048x2048 .f32) : FVec Ideal S2048x2048 .f32 :=
  subf X (broadcastInDim S2048x2048 ![0, 1] bcast_S2048x1_S2048x2048_0_1 (means X))

def variances (X : FVec Ideal S2048x2048 .f32) : FVec Ideal S2048x1 .f32 :=
  addf (means (mulf (centredRows X) (centredRows X))) (broadcastInDim S2048x1 ![] bcast_S_S2048x1 (constant S_ .f32 0x3727C5AC#32))

def scaledRows (D : FVec Ideal S2048x2048 .f32) (S : FVec Ideal S1x2048 .f32) : FVec Ideal S2048x2048 .f32 :=
  mulf (shapeCast _ D shapeCasts_S2048x2048_S2048x2048) (broadcastInDim S2048x2048 ![0, 1] bcast_S1x2048_S2048x2048_0_1
    (addf (broadcastInDim S1x2048 ![] bcast_S_S1x2048 (constant S_ .f32 0x3F800000#32)) S))

/-- The cotangent's part through the centred input. -/
def direct (D X : FVec Ideal S2048x2048 .f32) (S : FVec Ideal S1x2048 .f32) : FVec Ideal S2048x2048 .f32 :=
  mulf (scaledRows D S) (broadcastInDim S2048x2048 ![0, 1] bcast_S2048x1_S2048x2048_0_1 (Host.rsqrt (variances X)))

/-- A column summed along its one lane and laid over the lanes. -/
def spread (x : FVec Ideal S2048x1 .f32) : FVec Ideal S2048x2048 .f32 :=
  broadcastInDim S2048x2048 ![0] bcast_S2048_S2048x2048_0 (Host.reduceAdd x (constant S_ .f32 0x00000000#32) reducesTo_S2048x1_S2048_d1 h_S_)

/-- The gradient of a row's variance, over the count. -/
def ofVariance (D X : FVec Ideal S2048x2048 .f32) (S : FVec Ideal S1x2048 .f32) : FVec Ideal S2048x1 .f32 :=
  Host.divf (mulf (shapeCast _ (sums (mulf (centredRows X) (scaledRows D S))) shapeCasts_S2048_S2048x1)
    (mulf (broadcastInDim S2048x1 ![] bcast_S_S2048x1 (constant S_ .f32 0xBF000000#32)) (Host.divf (Host.rsqrt (variances X)) (variances X)))) count

/-- The cotangent's part through the variance. -/
def through (D X : FVec Ideal S2048x2048 .f32) (S : FVec Ideal S1x2048 .f32) : FVec Ideal S2048x2048 .f32 :=
  mulf (spread (ofVariance D X S)) (mulf (broadcastInDim S2048x2048 ![] bcast_S_S2048x2048 (constant S_ .f32 0x40000000#32)) (centredRows X))

/-- The input's gradient. -/
def grad (D U X : FVec Ideal S2048x2048 .f32) (S : FVec Ideal S1x2048 .f32) : FVec Ideal S2048x2048 .f32 :=
  addf (addf (addf (mulf (broadcastInDim S2048x2048 ![] bcast_S_S2048x2048 (constant S_ .f32 0x3F9837F0#32)) U) (direct D X S)) (through D X S))
    (spread (Host.divf (addf (shapeCast _ (sums (Host.negf (direct D X S))) shapeCasts_S2048_S2048x1)
      (shapeCast _ (sums (Host.negf (through D X S))) shapeCasts_S2048_S2048x1)) count))

theorem grad_eq (m : (ℓ : Loc nD τ sig) → Buf (Elt Ideal) ℓ) (c : Dev nD) :
    Cert.Reference17Ideal.Value.res_main_v66 (F := Ideal) m c = grad (m ((c.tc : Thread nD τ).loc main_arg0)) (m ((c.tc : Thread nD τ).loc main_arg1))
      (m ((c.tc : Thread nD τ).loc main_arg2)) (m ((c.tc : Thread nD τ).loc main_arg3)) := rfl

/-- The column sums, and six rows of zeros. -/
def columns (D X : FVec Ideal S2048x2048 .f32) : FVec Ideal S8x2048 .f32 :=
  concatenate S8x2048 0 [⟨S1x2048, (shapeCast _ (Host.reduceAdd (mulf (mulf (centredRows X) (broadcastInDim S2048x2048 ![0, 1] bcast_S2048x1_S2048x2048_0_1
      (Host.rsqrt (variances X)))) (shapeCast _ D shapeCasts_S2048x2048_S2048x2048)) (constant S_ .f32 0x00000000#32) reducesTo_S2048x2048_S2048_d0 h_S_)
      shapeCasts_S2048_S1x2048 : (⟨S1x2048, .f32⟩ : BufTy).Contents (Elt Ideal))⟩,
    ⟨S1x2048, (shapeCast _ (Host.reduceAdd D (constant S_ .f32 0x00000000#32) reducesTo_S2048x2048_S2048_d0 h_S_) shapeCasts_S2048_S1x2048
      : (⟨S1x2048, .f32⟩ : BufTy).Contents (Elt Ideal))⟩,
    ⟨S6x2048, (broadcastInDim S6x2048 ![] bcast_S_S6x2048 (constant (F := Ideal) S_ .f32 0x00000000#32) : (⟨S6x2048, .f32⟩ : BufTy).Contents (Elt Ideal))⟩]
    concatenates_S1x2048_S1x2048_S6x2048_S8x2048_d0

/-! ## Element by element -/

/-- The gradient of a row's variance, over the count. -/
def slope (dh x s : Fin 2048 → EReal) : EReal :=
  Ideal.div ((∑ l, centred x l * scaled dh s l) * (Ideal.ofBits .f32 0xBF000000#32
    * Ideal.div (factor x) (mean (fun l => centred x l * centred x l) + Ideal.ofBits .f32 0x3727C5AC#32))) (Ideal.ofBits .f32 0x45000000#32)

/-- A row of the input's gradient by the chain rule. -/
def rowRef (dh du x s : Fin 2048 → EReal) (k : Fin 2048) : EReal :=
  Ideal.ofBits .f32 0x3F9837F0#32 * du k + scaled dh s k * factor x + slope dh x s * (Ideal.ofBits .f32 0x40000000#32 * centred x k)
    + Ideal.div (∑ l, -(scaled dh s l * factor x) + ∑ l, -(slope dh x s * (Ideal.ofBits .f32 0x40000000#32 * centred x l)))
      (Ideal.ofBits .f32 0x45000000#32)

section

variable (D U X : FVec Ideal S2048x2048 .f32) (S : FVec Ideal S1x2048 .f32) (t k : Fin 2048)

theorem means_at : means X (ix2 t 0) = mean (row X t) := by
  pointwise [means, sums, count, mean]

theorem centredRows_at : centredRows X (ix2 t k) = centred (row X t) k := by
  pointwise [centredRows, centred]
  rw [means_at]

theorem variances_at : variances X (ix2 t 0) = mean (fun l => centred (row X t) l * centred (row X t) l) + Ideal.ofBits .f32 0x3727C5AC#32 := by
  pointwise [variances]
  rw [means_at]
  exact congrArg (fun f => mean f + _) (funext fun l => congrArg₂ (· * ·) (centredRows_at X t l) (centredRows_at X t l))

theorem scaledRows_at : scaledRows D S (ix2 t k) = scaled (row D t) (lanes S) k := by
  pointwise [scaledRows, scaled]

theorem direct_at : direct D X S (ix2 t k) = scaled (row D t) (lanes S) k * factor (row X t) := by
  pointwise [direct, factor]
  rw [scaledRows_at, variances_at]

theorem spread_at (x : FVec Ideal S2048x1 .f32) : spread x (ix2 t k) = x (ix2 t 0) := by
  pointwise [spread]
  exact Fin.sum_univ_one _

theorem ofVariance_at : ofVariance D X S (ix2 t 0) = slope (row D t) (row X t) (lanes S) := by
  pointwise [ofVariance, sums, count, slope]
  rw [variances_at]
  simp only [centredRows_at, scaledRows_at]
  rfl

theorem through_at : through D X S (ix2 t k)
    = slope (row D t) (row X t) (lanes S) * (Ideal.ofBits .f32 0x40000000#32 * centred (row X t) k) := by
  pointwise [through]
  rw [spread_at, ofVariance_at, centredRows_at]

theorem grad_at : grad D U X S (ix2 t k) = rowRef (row D t) (row U t) (row X t) (lanes S) k := by
  pointwise [grad]
  rw [spread_at, direct_at, through_at]
  pointwise [sums, count, rowRef]
  simp only [direct_at, through_at]

theorem columns_eq : columns D X = columnSums D X := by
  funext j
  idx_vars j
  pointwise [columns, columnSums]
  by_cases h0 : j0.val = 0
  · rw [dif_pos (by omega), if_neg (by omega), if_pos h0]
    refine (Fin.sum_mul_add_congr fun n l hl => ?_).symm
    have e : (⟨128 * n.val + l.val, by omega⟩ : Fin 2048) = ⟨n.val * 128 + l.val, hl⟩ := Fin.ext (by simp only; omega)
    rw [centredRows_at, variances_at, mul_comm, e]
    rfl
  rw [dif_neg (by omega), if_neg h0]
  by_cases h1 : j0.val = 1
  · rw [dif_pos (by omega), if_pos h1]
    refine (Fin.sum_mul_add_congr fun n l hl => ?_).symm
    exact congrArg (fun a => D (ix2 a j1)) (Fin.ext (by simp only; omega))
  · rw [dif_neg (by omega), if_neg h1]

end

end Cert.Reference17Ideal.Norm

end
-- ==== Proof.Mlp.NormRow.lean ====
/-
  A row of the first layer norm's gradient, over real numbers: the kernel's form and the chain rule's agree.
-/
module

public import proofs.«01_k».proof.Proof.Mlp.NormRef
public import proofs.«01_k».proof.Proof.Value.Spec

@[expose] public section

noncomputable section

namespace Cert.Norm

open Idealize.ShloMosaic Cert.Attn
open Cert.Kernel17Ideal.Norm (mean centred factor normed scaled rowGrad)
open Cert.Reference17Ideal.Norm (slope rowRef)

theorem ofBits_2048 : Ideal.ofBits .f32 0x45000000#32 = ((2048 : ℝ) : EReal) := by
  simp [Ideal.ofBits, Ideal.ieee, ← EReal.coe_mul]; norm_num
theorem ofBits_one : Ideal.ofBits .f32 0x3F800000#32 = ((1 : ℝ) : EReal) := by
  simp [Ideal.ofBits, Ideal.ieee, ← EReal.coe_mul]; norm_num

/-- A real row less its mean. -/
def dev (x : Fin 2048 → ℝ) (k : Fin 2048) : ℝ := x k - (∑ l, x l) / 2048

/-- Its variance, with the constant. -/
def spreadOf (x : Fin 2048 → ℝ) : ℝ := (∑ l, dev x l * dev x l) / 2048 + eps

theorem sum_dev (x : Fin 2048 → ℝ) : ∑ l, dev x l = 0 := by
  unfold dev
  rw [Finset.sum_sub_distrib, Finset.sum_const, Finset.card_univ, Fintype.card_fin, nsmul_eq_mul]
  push_cast
  ring

theorem spreadOf_pos (x : Fin 2048 → ℝ) : 0 < spreadOf x :=
  add_pos_of_nonneg_of_pos (div_nonneg (Finset.sum_nonneg fun _ _ => mul_self_nonneg _) (by norm_num)) eps_pos

theorem mean_real (f : Fin 2048 → ℝ) : mean (fun l => (f l : EReal)) = (((∑ l, f l) / 2048 : ℝ) : EReal) := by
  unfold mean
  rw [lift_sum, ofBits_2048, lift_div (by norm_num)]

theorem centred_real (x : Fin 2048 → ℝ) : centred (fun l => (x l : EReal)) = fun k => ((dev x k : ℝ) : EReal) := by
  funext k
  unfold centred
  rw [mean_real, lift_sub]
  rfl

theorem variance_real (x : Fin 2048 → ℝ) :
    mean (fun l => centred (fun l => (x l : EReal)) l * centred (fun l => (x l : EReal)) l) + Ideal.ofBits .f32 0x3727C5AC#32
      = ((spreadOf x : ℝ) : EReal) := by
  simp only [centred_real, lift_mul]
  rw [mean_real, ofBits_eps, lift_add]
  rfl

theorem factor_real (x : Fin 2048 → ℝ) : factor (fun l => (x l : EReal)) = (((Real.sqrt (spreadOf x))⁻¹ : ℝ) : EReal) := by
  unfold factor
  rw [variance_real, lift_rsqrt (spreadOf_pos x)]

theorem scaled_real (d s : Fin 2048 → ℝ) :
    scaled (fun l => (d l : EReal)) (fun l => (s l : EReal)) = fun k => ((d k * (1 + s k) : ℝ) : EReal) := by
  funext k
  unfold scaled
  rw [ofBits_one, lift_add, lift_mul]

/-- The two real forms. -/
theorem real_row (c g : Fin 2048 → ℝ) (v r : ℝ) (hv : v ≠ 0) (hr : r * r = 1 / v) (hc : ∑ l, c l = 0) (k : Fin 2048) :
    r * (g k - (∑ l, g l) / 2048 - c k * r * ((∑ l, g l * (c l * r)) / 2048))
      = g k * r + ((∑ l, c l * g l) * (-(1 / 2) * (r / v)) / 2048 * (2 * c k)
        + (∑ l, -(g l * r) + ∑ l, -((∑ l, c l * g l) * (-(1 / 2) * (r / v)) / 2048 * (2 * c l))) / 2048) := by
  have e1 : ∑ l, g l * (c l * r) = (∑ l, c l * g l) * r := by
    rw [Finset.sum_mul]; exact Finset.sum_congr rfl fun l _ => by ring
  have e2 : ∑ l, -(g l * r) = -((∑ l, g l) * r) := by rw [Finset.sum_neg_distrib, Finset.sum_mul]
  have e3 (w : ℝ) : ∑ l, -(w * (2 * c l)) = 0 := by
    rw [Finset.sum_neg_distrib, ← Finset.mul_sum, ← Finset.mul_sum, hc]; simp
  have e4 : r / v = r * (r * r) := by rw [hr]; ring
  rw [e1, e2, e3, e4]
  ring

theorem row_eq (d s x : Fin 2048 → ℝ) (du : Fin 2048 → EReal) (k : Fin 2048) :
    rowGrad (fun l => (d l : EReal)) du (fun l => (x l : EReal)) (fun l => (s l : EReal)) k
      = rowRef (fun l => (d l : EReal)) du (fun l => (x l : EReal)) (fun l => (s l : EReal)) k := by
  unfold rowGrad rowRef Cert.Reference17Ideal.Norm.slope normed
  rw [variance_real, factor_real, scaled_real, centred_real, ofBits_two, ofBits_half, ofBits_2048]
  simp only [lift_mul, mean_real, lift_sum, lift_div (spreadOf_pos x).ne', lift_div (show (2048 : ℝ) ≠ 0 by norm_num), lift_neg, lift_sub, lift_add]
  rw [add_assoc, add_assoc, lift_add, lift_add]
  refine congrArg (fun z : ℝ => _ + (z : EReal)) ?_
  exact real_row (dev x) (fun l => d l * (1 + s l)) (spreadOf x) _ (spreadOf_pos x).ne'
    (by rw [← mul_inv, Real.mul_self_sqrt (spreadOf_pos x).le, one_div]) (sum_dev x) k

end Cert.Norm

end
-- ==== Proof.Mlp.NormSame.lean ====
/-
  The gradient of the first layer norm with its scale and shift: with a real cotangent, input and scale, kernel and
  reference leave the same two arrays.
-/
module

public import proofs.«01_k».proof.Defs
public import proofs.«01_k».proof.Proof.Mlp.NormRow
public import proofs.«01_k».proof.Proof.Gen.Pre_finite17
public import proofs.«01_k».proof.Proof.Value.Finite
public import Idealize.ShloMosaic.Lib.Claim

@[expose] public section

set_option maxRecDepth 16384

noncomputable section

namespace Cert.Proof

open Idealize.ShloMosaic Idealize.ShloMosaic.TcCoe Idealize.SL.Sem Idealize.ShloMosaic.StableHlo
open Cert.Kernel17Ideal.Norm (inputGrad columnSums)
open Cert.Reference17Ideal.Norm (grad grad_at grad_eq columns columns_eq)

attribute [local instance] Cert.Pre_finite17.Gen.facts

/-- The rows agree, so the arrays do. -/
theorem inputGrad_eq {D U X : FVec Ideal Cert.Reference17Ideal.S2048x2048 .f32} {S : FVec Ideal Cert.Reference17Ideal.S1x2048 .f32}
    (hD : ∀ i, D i = (((D i).toReal : ℝ) : EReal)) (hX : ∀ i, X i = (((X i).toReal : ℝ) : EReal))
    (hS : ∀ i, S i = (((S i).toReal : ℝ) : EReal)) : grad D U X S = inputGrad D U X S := by
  funext j
  idx_vars j
  rw [grad_at]
  have e := Cert.Norm.row_eq (fun l => (D (ix2 j0 l)).toReal) (fun l => (S (ix2 0 l)).toReal) (fun l => (X (ix2 j0 l)).toReal)
    (fun l => U (ix2 j0 l)) j1
  simp only [← hD, ← hX, ← hS] at e
  exact e.symm

theorem frame_reference17 : Cert.quiescent_Reference17Ideal := fun m ρ _ =>
  (θ_run Cert.Reference17Ideal.defs _ _).mono (fun r h => ⟨fun c => (h c).2.2, sem_eq_zero_of_no_sems rfl r.2⟩) (Cert.Reference17Ideal.Value.run (F := Ideal) m ρ)

theorem same_norm_grad : Cert.algebraic_Kernel17Ideal_Reference17Ideal_pre_finite17 := by
  intro m g m' g' hpre hagree
  refine ⟨fun c => _, fun c => _,
    θ_run_mono (θ_run_and (Cert.Kernel17Ideal.Gen.run_main m g) (Cert.Kernel17Ideal.Gen.frame m g))
      fun r h c => ⟨((h.1 c).1 4).trans (Cert.Kernel17Ideal.Norm.final m c), ((h.1 c).1 5).trans (Cert.Kernel17Ideal.Norm.final_sums m c), h.2.1 c⟩,
    θ_run_mono (Cert.Reference17Ideal.Value.run (F := Ideal) m' g') fun r h c => ?_⟩
  obtain ⟨e0, e1, e2, e3⟩ := hagree c
  obtain ⟨hD, hX, hS⟩ := hpre c
  refine ⟨(h c).1.trans ((grad_eq m' c).trans ?_), ((h c).2.1.trans (columns_eq _ _)).trans ?_, (h c).2.2⟩
  · rw [e0, e1, e2, e3]
    exact inputGrad_eq (Cert.Attn.real_at hD) (Cert.Attn.real_at hX) (Cert.Attn.real_at hS)
  · rw [e0, e2]

end Cert.Proof

end
-- ==== Proof.lean ====
/-
  The proof of `Cert.Claim`: the attention call's frames (Proof/Frames.lean) and the equality of its results with the
  reference's (Proof/Value/Algebraic.lean), and the same of the matrix product calls and of the
  first layer norm's gradient (Proof/Mlp).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Pre_finite2
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Pre_finite17
public import proofs.«01_k».proof.Proof.Frames
public import proofs.«01_k».proof.Proof.Value.Algebraic
public import proofs.«01_k».proof.Proof.Mlp.Frames
public import proofs.«01_k».proof.Proof.Mlp.GateGrad
public import proofs.«01_k».proof.Proof.Mlp.GradInput
public import proofs.«01_k».proof.Proof.Mlp.GradIn
public import proofs.«01_k».proof.Proof.Mlp.GradOut
public import proofs.«01_k».proof.Proof.Mlp.Gate
public import proofs.«01_k».proof.Proof.Mlp.GradInAdd
public import proofs.«01_k».proof.Proof.Mlp.Out
public import proofs.«01_k».proof.Proof.Mlp.GradProjInput
public import proofs.«01_k».proof.Proof.Mlp.GradProj
public import proofs.«01_k».proof.Proof.Mlp.GradProjAdd
public import proofs.«01_k».proof.Proof.Mlp.MixOut
public import proofs.«01_k».proof.Proof.Mlp.GradMix
public import proofs.«01_k».proof.Proof.Mlp.GradMixOut
public import proofs.«01_k».proof.Proof.Mlp.ProjQkv
public import proofs.«01_k».proof.Proof.Mlp.ProjRec
public import proofs.«01_k».proof.Proof.Mlp.NormSame

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Pre_finite.Gen.facts, Cert.Pre_finite2.Gen.facts, Cert.Pre_finite17.Gen.facts,
    frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ, frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, fun m ρ _ => Cert.Kernel17Ideal.Gen.frame m ρ, frame_reference17, fun m ρ _ => frame_reference17 m ρ trivial,
    trivial, same_results, trivial, same_gate_grad, trivial, same_grad_input, trivial, same_grad_in,
    trivial, same_grad_out, trivial, same_gate, trivial, same_grad_in_add, trivial, same_out,
    trivial, same_grad_proj_input, trivial, same_grad_proj, trivial, same_grad_proj_add, trivial, same_mix_out,
    trivial, same_grad_mix, trivial, same_grad_mix_out, trivial, same_proj_qkv, trivial, same_proj_rec, trivial, same_norm_grad⟩

end Cert.Proof

end
